-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_documents_in_order [hPre_documents_in_order : Cert.Pre_documents_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_documents_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_documents_in_order [hPre_documents_in_order : Cert.Pre_documents_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_documents_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_documents_in_order [hKernelIdeal : Cert.KernelIdeal.Facts] [hPre_documents_in_order : Cert.Pre_documents_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_documents_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_documents_in_order [hReferenceIdeal : Cert.ReferenceIdeal.Facts] [hPre_documents_in_order : Cert.Pre_documents_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_documents_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sm_scale_log2e" .f32 0x3E0293EE#32 (((Real.sqrt 128)⁻¹ * (Real.log 2)⁻¹ : ℝ) : EReal)

def algebraic_KernelIdeal_ReferenceIdeal_pre_documents_in_order [hKernelIdeal : Cert.KernelIdeal.Facts] [hReferenceIdeal : Cert.ReferenceIdeal.Facts] [hPre_documents_in_order : Cert.Pre_documents_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_documents_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_documents_in_order : Cert.Pre_documents_in_order.Facts),
    quiescent_Kernel (hKernel := hKernel)
    ∧ quiescent_KernelIdeal (hKernelIdeal := hKernelIdeal)
    ∧ quiescent_KernelIdeal_pre_documents_in_order (hKernelIdeal := hKernelIdeal) (hPre_documents_in_order := hPre_documents_in_order)
    ∧ quiescent_ReferenceIdeal (hReferenceIdeal := hReferenceIdeal)
    ∧ quiescent_ReferenceIdeal_pre_documents_in_order (hReferenceIdeal := hReferenceIdeal) (hPre_documents_in_order := hPre_documents_in_order)
    ∧ preserves_Kernel_KernelIdeal
    ∧ algebraic_KernelIdeal_ReferenceIdeal_pre_documents_in_order (hKernelIdeal := hKernelIdeal) (hReferenceIdeal := hReferenceIdeal) (hPre_documents_in_order := hPre_documents_in_order)
-- ==== Pre_documents_in_order.lean ====
abbrev S8x4096x4096 : Shape := ⟨3, ![8, 4096, 4096]⟩
abbrev S8x4096x32 : Shape := ⟨3, ![8, 4096, 32]⟩
abbrev S8x4096 : Shape := ⟨2, ![8, 4096]⟩
abbrev S8x4095 : Shape := ⟨2, ![8, 4095]⟩
abbrev S_ : Shape := ⟨0, ![]⟩

class Facts : Prop where
  slices_S8x4096_S8x4095_0_1 : S8x4096.Slices ![0, 1] S8x4095
  slices_S8x4096_S8x4095_0_0 : S8x4096.Slices ![0, 0] S8x4095
  reducesTo_S8x4095_S_d0_1 : S8x4095.ReducesTo [0, 1] S_
  h_S_ : 0 < S_.numel

variable [Facts]

def fn {F : FTy → Type} [FloatOps F] (main_arg0 : FVec F S8x4096x4096 .fp8e4m3) (main_arg1 : FVec F S8x4096x32 .f32) (main_arg2 : FVec F S8x4096x4096 .fp8e4m3) (main_arg3 : FVec F S8x4096x4096 .fp8e4m3) (main_arg4 : FVec F S8x4096x32 .f32) (main_arg5 : FVec F S8x4096x32 .f32) (main_arg6 : IVec S8x4096 32) : IVec S_ 1 :=
  let main_v0 : IVec S8x4095 32 := (extractStridedSlice S8x4095 ![0, 1] · slices_S8x4096_S8x4095_0_1) main_arg6
  let main_v1 : IVec S8x4095 32 := (extractStridedSlice S8x4095 ![0, 0] · slices_S8x4096_S8x4095_0_0) main_arg6
  let main_v2 : IVec S8x4095 1 := cmpi .sge main_v0 main_v1
  let main_c : IVec S_ 1 := constantI S_ 1 1#1
  let main_v3 : IVec S_ 1 := (fun x v => Host.reduce IntOp.andi x v reducesTo_S8x4095_S_d0_1 h_S_) main_v2 main_c
  main_v3
-- ==== Kernel.lean ====
abbrev S8x4096x4096 : Shape := ⟨3, ![8, 4096, 4096]⟩
abbrev S8x4096x32 : Shape := ⟨3, ![8, 4096, 32]⟩
abbrev S8x4096 : Shape := ⟨2, ![8, 4096]⟩
abbrev S8x1x4096 : Shape := ⟨3, ![8, 1, 4096]⟩
abbrev S8x16 : Shape := ⟨2, ![8, 16]⟩
abbrev S8x16x1 : Shape := ⟨3, ![8, 16, 1]⟩
abbrev S8x16x4096 : Shape := ⟨3, ![8, 16, 4096]⟩
abbrev S_ : Shape := ⟨0, ![]⟩
abbrev S8x32x4096 : Shape := ⟨3, ![8, 32, 4096]⟩
abbrev S8x4096x1 : Shape := ⟨3, ![8, 4096, 1]⟩
abbrev S1x256x4096 : Shape := ⟨3, ![1, 256, 4096]⟩
abbrev S1x32x256 : Shape := ⟨3, ![1, 32, 256]⟩
abbrev S1x1x256 : Shape := ⟨3, ![1, 1, 256]⟩
abbrev S1x256x1 : Shape := ⟨3, ![1, 256, 1]⟩
abbrev S32x4096x128 : Shape := ⟨3, ![32, 4096, 128]⟩
abbrev S32x128x4096 : Shape := ⟨3, ![32, 128, 4096]⟩
abbrev S32x1x4096 : Shape := ⟨3, ![32, 1, 4096]⟩
abbrev S32x1x256 : Shape := ⟨3, ![32, 1, 256]⟩
abbrev S2x256 : Shape := ⟨2, ![2, 256]⟩
abbrev S4096x256 : Shape := ⟨2, ![4096, 256]⟩
abbrev S256x4096 : Shape := ⟨2, ![256, 4096]⟩
abbrev S32x256 : Shape := ⟨2, ![32, 256]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S1x128x256 : Shape := ⟨3, ![1, 128, 256]⟩
abbrev S1x1 : Shape := ⟨2, ![1, 1]⟩
abbrev S256x256 : Shape := ⟨2, ![256, 256]⟩
abbrev S256 : Shape := ⟨1, ![256]⟩
abbrev S32x4096 : Shape := ⟨2, ![32, 4096]⟩
abbrev S32 : Shape := ⟨1, ![32]⟩
abbrev S32x1 : Shape := ⟨2, ![32, 1]⟩
abbrev S1x32x4096 : Shape := ⟨3, ![1, 32, 4096]⟩
abbrev S1x32x1 : Shape := ⟨3, ![1, 32, 1]⟩

abbrev nBuf : Space → Nat
  | .hbm => 21
  | .vmem => 23
  | .smem => 1
  | _ => 0

abbrev bufTy : (tb : Table) → Fin (tcTables nBuf tb) → BufTy
  | .hbm, ⟨0, _⟩ => ⟨S8x4096x4096, .fp8e4m3⟩
  | .hbm, ⟨1, _⟩ => ⟨S8x4096x32, .f32⟩
  | .hbm, ⟨2, _⟩ => ⟨S8x4096x4096, .fp8e4m3⟩
  | .hbm, ⟨3, _⟩ => ⟨S8x4096x4096, .fp8e4m3⟩
  | .hbm, ⟨4, _⟩ => ⟨S8x4096x32, .f32⟩
  | .hbm, ⟨5, _⟩ => ⟨S8x4096x32, .f32⟩
  | .hbm, ⟨6, _⟩ => ⟨S8x4096, .i32⟩
  | .hbm, ⟨7, _⟩ => ⟨S8x1x4096, .i32⟩
  | .hbm, ⟨8, _⟩ => ⟨S8x16, .i32⟩
  | .hbm, ⟨9, _⟩ => ⟨S8x16x1, .i32⟩
  | .hbm, ⟨10, _⟩ => ⟨S8x16x4096, .i32⟩
  | .hbm, ⟨11, _⟩ => ⟨S8x16x4096, .i32⟩
  | .hbm, ⟨12, _⟩ => ⟨S8x16x4096, .i1⟩
  | .hbm, ⟨13, _⟩ => ⟨S8x16x4096, .i32⟩
  | .hbm, ⟨14, _⟩ => ⟨S_, .i32⟩
  | .hbm, ⟨15, _⟩ => ⟨S8x32x4096, .f32⟩
  | .hbm, ⟨16, _⟩ => ⟨S8x32x4096, .f32⟩
  | .hbm, ⟨17, _⟩ => ⟨S8x32x4096, .f32⟩
  | .hbm, ⟨18, _⟩ => ⟨S8x1x4096, .i32⟩
  | .hbm, ⟨19, _⟩ => ⟨S8x4096x4096, .fp8e4m3⟩
  | .hbm, ⟨20, _⟩ => ⟨S8x4096x1, .f32⟩
  | .local _ .vmem, ⟨0, _⟩ => ⟨S1x256x4096, .fp8e4m3⟩
  | .local _ .vmem, ⟨1, _⟩ => ⟨S1x256x4096, .fp8e4m3⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x1x256, .i32⟩
  | .local _ .vmem, ⟨9, _⟩ => ⟨S1x1x256, .i32⟩
  | .local _ .vmem, ⟨10, _⟩ => ⟨S1x256x4096, .fp8e4m3⟩
  | .local _ .vmem, ⟨11, _⟩ => ⟨S1x256x4096, .fp8e4m3⟩
  | .local _ .vmem, ⟨12, _⟩ => ⟨S1x256x4096, .fp8e4m3⟩
  | .local _ .vmem, ⟨13, _⟩ => ⟨S1x256x4096, .fp8e4m3⟩
  | .local _ .vmem, ⟨14, _⟩ => ⟨S1x256x1, .f32⟩
  | .local _ .vmem, ⟨15, _⟩ => ⟨S1x256x1, .f32⟩
  | .local _ .vmem, ⟨16, _⟩ => ⟨S32x4096x128, .fp8e4m3⟩
  | .local _ .vmem, ⟨17, _⟩ => ⟨S32x128x4096, .bf16⟩
  | .local _ .vmem, ⟨18, _⟩ => ⟨S32x1x4096, .f32⟩
  | .local _ .vmem, ⟨19, _⟩ => ⟨S32x1x256, .f32⟩
  | .local _ .vmem, ⟨20, _⟩ => ⟨S2x256, .i32⟩
  | .local _ .vmem, ⟨21, _⟩ => ⟨S4096x256, .f32⟩
  | .local _ .vmem, ⟨22, _⟩ => ⟨S256x4096, .f32⟩
  | .local _ .smem, ⟨0, _⟩ => ⟨S8x16, .i32⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_2 : Index := 0#32
  let c0_3 : Index := 0#32
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  ![0, 0, v4.toNat]
def k0_off2 (i : grid0.Coords) : Fin 3 → Nat :=
  let c0_16 : Index := 0#32
  let arg1 : BitVec 32 := BitVec.ofNat 32 (i 1).val
  let c256_i32 : BitVec 32 := 256#32
  let v0 : BitVec 32 := Scalar.muli arg1 c256_i32
  let v1 : BitVec 32 := v0
  let v20 : Index := Scalar.indexCast v1
  let c0_17 : Index := 0#32
  ![0, v20.toNat, 0]
def k0_off3 (i : grid0.Coords) : Fin 3 → Nat :=
  let c0_21 : Index := 0#32
  let c0_22 : Index := 0#32
  let arg1 : BitVec 32 := BitVec.ofNat 32 (i 1).val
  let c256_i32 : BitVec 32 := 256#32
  let v0 : BitVec 32 := Scalar.muli arg1 c256_i32
  let v1 : BitVec 32 := v0
  let v31 : Index := Scalar.indexCast v1
  ![0, 0, v31.toNat]
def k0_off4 (i : grid0.Coords) : Fin 3 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let v37 : Index := Scalar.indexCast v1
  let c0_25 : Index := 0#32
  ![1, v37.toNat, 0]
def k0_off5 (i : grid0.Coords) : Fin 3 → Nat :=
  let c1_29 : Index := 1#32
  let c0_30 : Index := 0#32
  let arg1 : BitVec 32 := BitVec.ofNat 32 (i 1).val
  let c256_i32 : BitVec 32 := 256#32
  let v0 : BitVec 32 := Scalar.muli arg1 c256_i32
  let v1 : BitVec 32 := v0
  let v48 : Index := Scalar.indexCast v1
  ![1, 0, v48.toNat]
def k0_off6 (i : grid0.Coords) : Fin 3 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let v54 : Index := Scalar.indexCast v1
  let c0_33 : Index := 0#32
  ![2, v54.toNat, 0]
def k0_off7 (i : grid0.Coords) : Fin 3 → Nat :=
  let c2_37 : Index := 2#32
  let c0_38 : Index := 0#32
  let arg1 : BitVec 32 := BitVec.ofNat 32 (i 1).val
  let c256_i32 : BitVec 32 := 256#32
  let v0 : BitVec 32 := Scalar.muli arg1 c256_i32
  let v1 : BitVec 32 := v0
  let v65 : Index := Scalar.indexCast v1
  ![2, 0, v65.toNat]
def k0_off8 (i : grid0.Coords) : Fin 3 → Nat :=
  let c3 : Index := 3#32
  let arg1 : BitVec 32 := BitVec.ofNat 32 (i 1).val
  let c256_i32 : BitVec 32 := 256#32
  let v0 : BitVec 32 := Scalar.muli arg1 c256_i32
  let v1 : BitVec 32 := v0
  let v71 : Index := Scalar.indexCast v1
  let c0_41 : Index := 0#32
  ![3, v71.toNat, 0]
def k0_off9 (i : grid0.Coords) : Fin 3 → Nat :=
  let c3_45 : Index := 3#32
  let c0_46 : Index := 0#32
  let arg1 : BitVec 32 := BitVec.ofNat 32 (i 1).val
  let c256_i32 : BitVec 32 := 256#32
  let v0 : BitVec 32 := Scalar.muli arg1 c256_i32
  let v1 : BitVec 32 := v0
  let v82 : Index := Scalar.indexCast v1
  ![3, 0, v82.toNat]
def k0_off10 (i : grid0.Coords) : Fin 3 → Nat :=
  let c4 : Index := 4#32
  let arg1 : BitVec 32 := BitVec.ofNat 32 (i 1).val
  let c256_i32 : BitVec 32 := 256#32
  let v0 : BitVec 32 := Scalar.muli arg1 c256_i32
  let v1 : BitVec 32 := v0
  let v88 : Index := Scalar.indexCast v1
  let c0_49 : Index := 0#32
  ![4, v88.toNat, 0]
def k0_off11 (i : grid0.Coords) : Fin 3 → Nat :=
  let c4_53 : Index := 4#32
  let c0_54 : Index := 0#32
  let arg1 : BitVec 32 := BitVec.ofNat 32 (i 1).val
  let c256_i32 : BitVec 32 := 256#32
  let v0 : BitVec 32 := Scalar.muli arg1 c256_i32
  let v1 : BitVec 32 := v0
  let v99 : Index := Scalar.indexCast v1
  ![4, 0, v99.toNat]
def k0_off12 (i : grid0.Coords) : Fin 3 → Nat :=
  let c5 : Index := 5#32
  let arg1 : BitVec 32 := BitVec.ofNat 32 (i 1).val
  let c256_i32 : BitVec 32 := 256#32
  let v0 : BitVec 32 := Scalar.muli arg1 c256_i32
  let v1 : BitVec 32 := v0
  let v105 : Index := Scalar.indexCast v1
  let c0_57 : Index := 0#32
  ![5, v105.toNat, 0]
def k0_off13 (i : grid0.Coords) : Fin 3 → Nat :=
  let c5_61 : Index := 5#32
  let c0_62 : Index := 0#32
  let arg1 : BitVec 32 := BitVec.ofNat 32 (i 1).val
  let c256_i32 : BitVec 32 := 256#32
  let v0 : BitVec 32 := Scalar.muli arg1 c256_i32
  let v1 : BitVec 32 := v0
  let v116 : Index := Scalar.indexCast v1
  ![5, 0, v116.toNat]
def k0_off14 (i : grid0.Coords) : Fin 3 → Nat :=
  let c6 : Index := 6#32
  let arg1 : BitVec 32 := BitVec.ofNat 32 (i 1).val
  let c256_i32 : BitVec 32 := 256#32
  let v0 : BitVec 32 := Scalar.muli arg1 c256_i32
  let v1 : BitVec 32 := v0
  let v122 : Index := Scalar.indexCast v1
  let c0_65 : Index := 0#32
  ![6, v122.toNat, 0]
def k0_off15 (i : grid0.Coords) : Fin 3 → Nat :=
  let c6_69 : Index := 6#32
  let c0_70 : Index := 0#32
  let arg1 : BitVec 32 := BitVec.ofNat 32 (i 1).val
  let c256_i32 : BitVec 32 := 256#32
  let v0 : BitVec 32 := Scalar.muli arg1 c256_i32
  let v1 : BitVec 32 := v0
  let v133 : Index := Scalar.indexCast v1
  ![6, 0, v133.toNat]
def k0_off16 (i : grid0.Coords) : Fin 3 → Nat :=
  let c7 : Index := 7#32
  let arg1 : BitVec 32 := BitVec.ofNat 32 (i 1).val
  let c256_i32 : BitVec 32 := 256#32
  let v0 : BitVec 32 := Scalar.muli arg1 c256_i32
  let v1 : BitVec 32 := v0
  let v139 : Index := Scalar.indexCast v1
  let c0_73 : Index := 0#32
  ![7, v139.toNat, 0]
def k0_off17 (i : grid0.Coords) : Fin 3 → Nat :=
  let c7_77 : Index := 7#32
  let c0_78 : Index := 0#32
  let arg1 : BitVec 32 := BitVec.ofNat 32 (i 1).val
  let c256_i32 : BitVec 32 := 256#32
  let v0 : BitVec 32 := Scalar.muli arg1 c256_i32
  let v1 : BitVec 32 := v0
  let v150 : Index := Scalar.indexCast v1
  ![7, 0, v150.toNat]
def k0_off18 (i : grid0.Coords) : Fin 3 → Nat :=
  let c8 : Index := 8#32
  let arg1 : BitVec 32 := BitVec.ofNat 32 (i 1).val
  let c256_i32 : BitVec 32 := 256#32
  let v0 : BitVec 32 := Scalar.muli arg1 c256_i32
  let v1 : BitVec 32 := v0
  let v156 : Index := Scalar.indexCast v1
  let c0_81 : Index := 0#32
  ![8, v156.toNat, 0]
def k0_off19 (i : grid0.Coords) : Fin 3 → Nat :=
  let c8_85 : Index := 8#32
  let c0_86 : Index := 0#32
  let arg1 : BitVec 32 := BitVec.ofNat 32 (i 1).val
  let c256_i32 : BitVec 32 := 256#32
  let v0 : BitVec 32 := Scalar.muli arg1 c256_i32
  let v1 : BitVec 32 := v0
  let v167 : Index := Scalar.indexCast v1
  ![8, 0, v167.toNat]
def k0_off20 (i : grid0.Coords) : Fin 3 → Nat :=
  let c9 : Index := 9#32
  let arg1 : BitVec 32 := BitVec.ofNat 32 (i 1).val
  let c256_i32 : BitVec 32 := 256#32
  let v0 : BitVec 32 := Scalar.muli arg1 c256_i32
  let v1 : BitVec 32 := v0
  let v173 : Index := Scalar.indexCast v1
  let c0_89 : Index := 0#32
  ![9, v173.toNat, 0]
def k0_off21 (i : grid0.Coords) : Fin 3 → Nat :=
  let c9_93 : Index := 9#32
  let c0_94 : Index := 0#32
  let arg1 : BitVec 32 := BitVec.ofNat 32 (i 1).val
  let c256_i32 : BitVec 32 := 256#32
  let v0 : BitVec 32 := Scalar.muli arg1 c256_i32
  let v1 : BitVec 32 := v0
  let v184 : Index := Scalar.indexCast v1
  ![9, 0, v184.toNat]
def k0_off22 (i : grid0.Coords) : Fin 3 → Nat :=
  let c10 : Index := 10#32
  let arg1 : BitVec 32 := BitVec.ofNat 32 (i 1).val
  let c256_i32 : BitVec 32 := 256#32
  let v0 : BitVec 32 := Scalar.muli arg1 c256_i32
  let v1 : BitVec 32 := v0
  let v190 : Index := Scalar.indexCast v1
  let c0_97 : Index := 0#32
  ![10, v190.toNat, 0]
def k0_off23 (i : grid0.Coords) : Fin 3 → Nat :=
  let c10_101 : Index := 10#32
  let c0_102 : Index := 0#32
  let arg1 : BitVec 32 := BitVec.ofNat 32 (i 1).val
  let c256_i32 : BitVec 32 := 256#32
  let v0 : BitVec 32 := Scalar.muli arg1 c256_i32
  let v1 : BitVec 32 := v0
  let v201 : Index := Scalar.indexCast v1
  ![10, 0, v201.toNat]
def k0_off24 (i : grid0.Coords) : Fin 3 → Nat :=
  let c11 : Index := 11#32
  let arg1 : BitVec 32 := BitVec.ofNat 32 (i 1).val
  let c256_i32 : BitVec 32 := 256#32
  let v0 : BitVec 32 := Scalar.muli arg1 c256_i32
  let v1 : BitVec 32 := v0
  let v207 : Index := Scalar.indexCast v1
  let c0_105 : Index := 0#32
  ![11, v207.toNat, 0]
def k0_off25 (i : grid0.Coords) : Fin 3 → Nat :=
  let c11_109 : Index := 11#32
  let c0_110 : Index := 0#32
  let arg1 : BitVec 32 := BitVec.ofNat 32 (i 1).val
  let c256_i32 : BitVec 32 := 256#32
  let v0 : BitVec 32 := Scalar.muli arg1 c256_i32
  let v1 : BitVec 32 := v0
  let v218 : Index := Scalar.indexCast v1
  ![11, 0, v218.toNat]
def k0_off26 (i : grid0.Coords) : Fin 3 → Nat :=
  let c12 : Index := 12#32
  let arg1 : BitVec 32 := BitVec.ofNat 32 (i 1).val
  let c256_i32 : BitVec 32 := 256#32
  let v0 : BitVec 32 := Scalar.muli arg1 c256_i32
  let v1 : BitVec 32 := v0
  let v224 : Index := Scalar.indexCast v1
  let c0_113 : Index := 0#32
  ![12, v224.toNat, 0]
def k0_off27 (i : grid0.Coords) : Fin 3 → Nat :=
  let c12_117 : Index := 12#32
  let c0_118 : Index := 0#32
  let arg1 : BitVec 32 := BitVec.ofNat 32 (i 1).val
  let c256_i32 : BitVec 32 := 256#32
  let v0 : BitVec 32 := Scalar.muli arg1 c256_i32
  let v1 : BitVec 32 := v0
  let v235 : Index := Scalar.indexCast v1
  ![12, 0, v235.toNat]
def k0_off28 (i : grid0.Coords) : Fin 3 → Nat :=
  let c13 : Index := 13#32
  let arg1 : BitVec 32 := BitVec.ofNat 32 (i 1).val
  let c256_i32 : BitVec 32 := 256#32
  let v0 : BitVec 32 := Scalar.muli arg1 c256_i32
  let v1 : BitVec 32 := v0
  let v241 : Index := Scalar.indexCast v1
  let c0_121 : Index := 0#32
  ![13, v241.toNat, 0]
def k0_off29 (i : grid0.Coords) : Fin 3 → Nat :=
  let c13_125 : Index := 13#32
  let c0_126 : Index := 0#32
  let arg1 : BitVec 32 := BitVec.ofNat 32 (i 1).val
  let c256_i32 : BitVec 32 := 256#32
  let v0 : BitVec 32 := Scalar.muli arg1 c256_i32
  let v1 : BitVec 32 := v0
  let v252 : Index := Scalar.indexCast v1
  ![13, 0, v252.toNat]
def k0_off30 (i : grid0.Coords) : Fin 3 → Nat :=
  let c14 : Index := 14#32
  let arg1 : BitVec 32 := BitVec.ofNat 32 (i 1).val
  let c256_i32 : BitVec 32 := 256#32
  let v0 : BitVec 32 := Scalar.muli arg1 c256_i32
  let v1 : BitVec 32 := v0
  let v258 : Index := Scalar.indexCast v1
  let c0_129 : Index := 0#32
  ![14, v258.toNat, 0]
def k0_off31 (i : grid0.Coords) : Fin 3 → Nat :=
  let c14_133 : Index := 14#32
  let c0_134 : Index := 0#32
  let arg1 : BitVec 32 := BitVec.ofNat 32 (i 1).val
  let c256_i32 : BitVec 32 := 256#32
  let v0 : BitVec 32 := Scalar.muli arg1 c256_i32
  let v1 : BitVec 32 := v0
  let v269 : Index := Scalar.indexCast v1
  ![14, 0, v269.toNat]
def k0_off32 (i : grid0.Coords) : Fin 3 → Nat :=
  let c15 : Index := 15#32
  let arg1 : BitVec 32 := BitVec.ofNat 32 (i 1).val
  let c256_i32 : BitVec 32 := 256#32
  let v0 : BitVec 32 := Scalar.muli arg1 c256_i32
  let v1 : BitVec 32 := v0
  let v275 : Index := Scalar.indexCast v1
  let c0_137 : Index := 0#32
  ![15, v275.toNat, 0]
def k0_off33 (i : grid0.Coords) : Fin 3 → Nat :=
  let c15_141 : Index := 15#32
  let c0_142 : Index := 0#32
  let arg1 : BitVec 32 := BitVec.ofNat 32 (i 1).val
  let c256_i32 : BitVec 32 := 256#32
  let v0 : BitVec 32 := Scalar.muli arg1 c256_i32
  let v1 : BitVec 32 := v0
  let v286 : Index := Scalar.indexCast v1
  ![15, 0, v286.toNat]
def k0_off34 (i : grid0.Coords) : Fin 3 → Nat :=
  let c16 : Index := 16#32
  let arg1 : BitVec 32 := BitVec.ofNat 32 (i 1).val
  let c256_i32 : BitVec 32 := 256#32
  let v0 : BitVec 32 := Scalar.muli arg1 c256_i32
  let v1 : BitVec 32 := v0
  let v292 : Index := Scalar.indexCast v1
  let c0_145 : Index := 0#32
  ![16, v292.toNat, 0]
def k0_off35 (i : grid0.Coords) : Fin 3 → Nat :=
  let c16_149 : Index := 16#32
  let c0_150 : Index := 0#32
  let arg1 : BitVec 32 := BitVec.ofNat 32 (i 1).val
  let c256_i32 : BitVec 32 := 256#32
  let v0 : BitVec 32 := Scalar.muli arg1 c256_i32
  let v1 : BitVec 32 := v0
  let v303 : Index := Scalar.indexCast v1
  ![16, 0, v303.toNat]
def k0_off36 (i : grid0.Coords) : Fin 3 → Nat :=
  let c17 : Index := 17#32
  let arg1 : BitVec 32 := BitVec.ofNat 32 (i 1).val
  let c256_i32 : BitVec 32 := 256#32
  let v0 : BitVec 32 := Scalar.muli arg1 c256_i32
  let v1 : BitVec 32 := v0
  let v309 : Index := Scalar.indexCast v1
  let c0_153 : Index := 0#32
  ![17, v309.toNat, 0]
def k0_off37 (i : grid0.Coords) : Fin 3 → Nat :=
  let c17_157 : Index := 17#32
  let c0_158 : Index := 0#32
  let arg1 : BitVec 32 := BitVec.ofNat 32 (i 1).val
  let c256_i32 : BitVec 32 := 256#32
  let v0 : BitVec 32 := Scalar.muli arg1 c256_i32
  let v1 : BitVec 32 := v0
  let v320 : Index := Scalar.indexCast v1
  ![17, 0, v320.toNat]
def k0_off38 (i : grid0.Coords) : Fin 3 → Nat :=
  let c18 : Index := 18#32
  let arg1 : BitVec 32 := BitVec.ofNat 32 (i 1).val
  let c256_i32 : BitVec 32 := 256#32
  let v0 : BitVec 32 := Scalar.muli arg1 c256_i32
  let v1 : BitVec 32 := v0
  let v326 : Index := Scalar.indexCast v1
  let c0_161 : Index := 0#32
  ![18, v326.toNat, 0]
def k0_off39 (i : grid0.Coords) : Fin 3 → Nat :=
  let c18_165 : Index := 18#32
  let c0_166 : Index := 0#32
  let arg1 : BitVec 32 := BitVec.ofNat 32 (i 1).val
  let c256_i32 : BitVec 32 := 256#32
  let v0 : BitVec 32 := Scalar.muli arg1 c256_i32
  let v1 : BitVec 32 := v0
  let v337 : Index := Scalar.indexCast v1
  ![18, 0, v337.toNat]
def k0_off40 (i : grid0.Coords) : Fin 3 → Nat :=
  let c19 : Index := 19#32
  let arg1 : BitVec 32 := BitVec.ofNat 32 (i 1).val
  let c256_i32 : BitVec 32 := 256#32
  let v0 : BitVec 32 := Scalar.muli arg1 c256_i32
  let v1 : BitVec 32 := v0
  let v343 : Index := Scalar.indexCast v1
  let c0_169 : Index := 0#32
  ![19, v343.toNat, 0]
def k0_off41 (i : grid0.Coords) : Fin 3 → Nat :=
  let c19_173 : Index := 19#32
  let c0_174 : Index := 0#32
  let arg1 : BitVec 32 := BitVec.ofNat 32 (i 1).val
  let c256_i32 : BitVec 32 := 256#32
  let v0 : BitVec 32 := Scalar.muli arg1 c256_i32
  let v1 : BitVec 32 := v0
  let v354 : Index := Scalar.indexCast v1
  ![19, 0, v354.toNat]
def k0_off42 (i : grid0.Coords) : Fin 3 → Nat :=
  let c20 : Index := 20#32
  let arg1 : BitVec 32 := BitVec.ofNat 32 (i 1).val
  let c256_i32 : BitVec 32 := 256#32
  let v0 : BitVec 32 := Scalar.muli arg1 c256_i32
  let v1 : BitVec 32 := v0
  let v360 : Index := Scalar.indexCast v1
  let c0_177 : Index := 0#32
  ![20, v360.toNat, 0]
def k0_off43 (i : grid0.Coords) : Fin 3 → Nat :=
  let c20_181 : Index := 20#32
  let c0_182 : Index := 0#32
  let arg1 : BitVec 32 := BitVec.ofNat 32 (i 1).val
  let c256_i32 : BitVec 32 := 256#32
  let v0 : BitVec 32 := Scalar.muli arg1 c256_i32
  let v1 : BitVec 32 := v0
  let v371 : Index := Scalar.indexCast v1
  ![20, 0, v371.toNat]
def k0_off44 (i : grid0.Coords) : Fin 3 → Nat :=
  let c21 : Index := 21#32
  let arg1 : BitVec 32 := BitVec.ofNat 32 (i 1).val
  let c256_i32 : BitVec 32 := 256#32
  let v0 : BitVec 32 := Scalar.muli arg1 c256_i32
  let v1 : BitVec 32 := v0
  let v377 : Index := Scalar.indexCast v1
  let c0_185 : Index := 0#32
  ![21, v377.toNat, 0]
def k0_off45 (i : grid0.Coords) : Fin 3 → Nat :=
  let c21_189 : Index := 21#32
  let c0_190 : Index := 0#32
  let arg1 : BitVec 32 := BitVec.ofNat 32 (i 1).val
  let c256_i32 : BitVec 32 := 256#32
  let v0 : BitVec 32 := Scalar.muli arg1 c256_i32
  let v1 : BitVec 32 := v0
  let v388 : Index := Scalar.indexCast v1
  ![21, 0, v388.toNat]
def k0_off46 (i : grid0.Coords) : Fin 3 → Nat :=
  let c22 : Index := 22#32
  let arg1 : BitVec 32 := BitVec.ofNat 32 (i 1).val
  let c256_i32 : BitVec 32 := 256#32
  let v0 : BitVec 32 := Scalar.muli arg1 c256_i32
  let v1 : BitVec 32 := v0
  let v394 : Index := Scalar.indexCast v1
  let c0_193 : Index := 0#32
  ![22, v394.toNat, 0]
def k0_off47 (i : grid0.Coords) : Fin 3 → Nat :=
  let c22_197 : Index := 22#32
  let c0_198 : Index := 0#32
  let arg1 : BitVec 32 := BitVec.ofNat 32 (i 1).val
  let c256_i32 : BitVec 32 := 256#32
  let v0 : BitVec 32 := Scalar.muli arg1 c256_i32
  let v1 : BitVec 32 := v0
  let v405 : Index := Scalar.indexCast v1
  ![22, 0, v405.toNat]
def k0_off48 (i : grid0.Coords) : Fin 3 → Nat :=
  let c23 : Index := 23#32
  let arg1 : BitVec 32 := BitVec.ofNat 32 (i 1).val
  let c256_i32 : BitVec 32 := 256#32
  let v0 : BitVec 32 := Scalar.muli arg1 c256_i32
  let v1 : BitVec 32 := v0
  let v411 : Index := Scalar.indexCast v1
  let c0_201 : Index := 0#32
  ![23, v411.toNat, 0]
def k0_off49 (i : grid0.Coords) : Fin 3 → Nat :=
  let c23_205 : Index := 23#32
  let c0_206 : Index := 0#32
  let arg1 : BitVec 32 := BitVec.ofNat 32 (i 1).val
  let c256_i32 : BitVec 32 := 256#32
  let v0 : BitVec 32 := Scalar.muli arg1 c256_i32
  let v1 : BitVec 32 := v0
  let v422 : Index := Scalar.indexCast v1
  ![23, 0, v422.toNat]
def k0_off50 (i : grid0.Coords) : Fin 3 → Nat :=
  let c24 : Index := 24#32
  let arg1 : BitVec 32 := BitVec.ofNat 32 (i 1).val
  let c256_i32 : BitVec 32 := 256#32
  let v0 : BitVec 32 := Scalar.muli arg1 c256_i32
  let v1 : BitVec 32 := v0
  let v428 : Index := Scalar.indexCast v1
  let c0_209 : Index := 0#32
  ![24, v428.toNat, 0]
def k0_off51 (i : grid0.Coords) : Fin 3 → Nat :=
  let c24_213 : Index := 24#32
  let c0_214 : Index := 0#32
  let arg1 : BitVec 32 := BitVec.ofNat 32 (i 1).val
  let c256_i32 : BitVec 32 := 256#32
  let v0 : BitVec 32 := Scalar.muli arg1 c256_i32
  let v1 : BitVec 32 := v0
  let v439 : Index := Scalar.indexCast v1
  ![24, 0, v439.toNat]
def k0_off52 (i : grid0.Coords) : Fin 3 → Nat :=
  let c25 : Index := 25#32
  let arg1 : BitVec 32 := BitVec.ofNat 32 (i 1).val
  let c256_i32 : BitVec 32 := 256#32
  let v0 : BitVec 32 := Scalar.muli arg1 c256_i32
  let v1 : BitVec 32 := v0
  let v445 : Index := Scalar.indexCast v1
  let c0_217 : Index := 0#32
  ![25, v445.toNat, 0]
def k0_off53 (i : grid0.Coords) : Fin 3 → Nat :=
  let c25_221 : Index := 25#32
  let c0_222 : Index := 0#32
  let arg1 : BitVec 32 := BitVec.ofNat 32 (i 1).val
  let c256_i32 : BitVec 32 := 256#32
  let v0 : BitVec 32 := Scalar.muli arg1 c256_i32
  let v1 : BitVec 32 := v0
  let v456 : Index := Scalar.indexCast v1
  ![25, 0, v456.toNat]
def k0_off54 (i : grid0.Coords) : Fin 3 → Nat :=
  let c26 : Index := 26#32
  let arg1 : BitVec 32 := BitVec.ofNat 32 (i 1).val
  let c256_i32 : BitVec 32 := 256#32
  let v0 : BitVec 32 := Scalar.muli arg1 c256_i32
  let v1 : BitVec 32 := v0
  let v462 : Index := Scalar.indexCast v1
  let c0_225 : Index := 0#32
  ![26, v462.toNat, 0]
def k0_off55 (i : grid0.Coords) : Fin 3 → Nat :=
  let c26_229 : Index := 26#32
  let c0_230 : Index := 0#32
  let arg1 : BitVec 32 := BitVec.ofNat 32 (i 1).val
  let c256_i32 : BitVec 32 := 256#32
  let v0 : BitVec 32 := Scalar.muli arg1 c256_i32
  let v1 : BitVec 32 := v0
  let v473 : Index := Scalar.indexCast v1
  ![26, 0, v473.toNat]
def k0_off56 (i : grid0.Coords) : Fin 3 → Nat :=
  let c27 : Index := 27#32
  let arg1 : BitVec 32 := BitVec.ofNat 32 (i 1).val
  let c256_i32 : BitVec 32 := 256#32
  let v0 : BitVec 32 := Scalar.muli arg1 c256_i32
  let v1 : BitVec 32 := v0
  let v479 : Index := Scalar.indexCast v1
  let c0_233 : Index := 0#32
  ![27, v479.toNat, 0]
def k0_off57 (i : grid0.Coords) : Fin 3 → Nat :=
  let c27_237 : Index := 27#32
  let c0_238 : Index := 0#32
  let arg1 : BitVec 32 := BitVec.ofNat 32 (i 1).val
  let c256_i32 : BitVec 32 := 256#32
  let v0 : BitVec 32 := Scalar.muli arg1 c256_i32
  let v1 : BitVec 32 := v0
  let v490 : Index := Scalar.indexCast v1
  ![27, 0, v490.toNat]
def k0_off58 (i : grid0.Coords) : Fin 3 → Nat :=
  let c28 : Index := 28#32
  let arg1 : BitVec 32 := BitVec.ofNat 32 (i 1).val
  let c256_i32 : BitVec 32 := 256#32
  let v0 : BitVec 32 := Scalar.muli arg1 c256_i32
  let v1 : BitVec 32 := v0
  let v496 : Index := Scalar.indexCast v1
  let c0_241 : Index := 0#32
  ![28, v496.toNat, 0]
def k0_off59 (i : grid0.Coords) : Fin 3 → Nat :=
  let c28_245 : Index := 28#32
  let c0_246 : Index := 0#32
  let arg1 : BitVec 32 := BitVec.ofNat 32 (i 1).val
  let c256_i32 : BitVec 32 := 256#32
  let v0 : BitVec 32 := Scalar.muli arg1 c256_i32
  let v1 : BitVec 32 := v0
  let v507 : Index := Scalar.indexCast v1
  ![28, 0, v507.toNat]
def k0_off60 (i : grid0.Coords) : Fin 3 → Nat :=
  let c29 : Index := 29#32
  let arg1 : BitVec 32 := BitVec.ofNat 32 (i 1).val
  let c256_i32 : BitVec 32 := 256#32
  let v0 : BitVec 32 := Scalar.muli arg1 c256_i32
  let v1 : BitVec 32 := v0
  let v513 : Index := Scalar.indexCast v1
  let c0_249 : Index := 0#32
  ![29, v513.toNat, 0]
def k0_off61 (i : grid0.Coords) : Fin 3 → Nat :=
  let c29_253 : Index := 29#32
  let c0_254 : Index := 0#32
  let arg1 : BitVec 32 := BitVec.ofNat 32 (i 1).val
  let c256_i32 : BitVec 32 := 256#32
  let v0 : BitVec 32 := Scalar.muli arg1 c256_i32
  let v1 : BitVec 32 := v0
  let v524 : Index := Scalar.indexCast v1
  ![29, 0, v524.toNat]
def k0_off62 (i : grid0.Coords) : Fin 3 → Nat :=
  let c30 : Index := 30#32
  let arg1 : BitVec 32 := BitVec.ofNat 32 (i 1).val
  let c256_i32 : BitVec 32 := 256#32
  let v0 : BitVec 32 := Scalar.muli arg1 c256_i32
  let v1 : BitVec 32 := v0
  let v530 : Index := Scalar.indexCast v1
  let c0_257 : Index := 0#32
  ![30, v530.toNat, 0]
def k0_off63 (i : grid0.Coords) : Fin 3 → Nat :=
  let c30_261 : Index := 30#32
  let c0_262 : Index := 0#32
  let arg1 : BitVec 32 := BitVec.ofNat 32 (i 1).val
  let c256_i32 : BitVec 32 := 256#32
  let v0 : BitVec 32 := Scalar.muli arg1 c256_i32
  let v1 : BitVec 32 := v0
  let v541 : Index := Scalar.indexCast v1
  ![30, 0, v541.toNat]
def k0_off64 (i : grid0.Coords) : Fin 3 → Nat :=
  let c31 : Index := 31#32
  let arg1 : BitVec 32 := BitVec.ofNat 32 (i 1).val
  let c256_i32 : BitVec 32 := 256#32
  let v0 : BitVec 32 := Scalar.muli arg1 c256_i32
  let v1 : BitVec 32 := v0
  let v547 : Index := Scalar.indexCast v1
  let c0_265 : Index := 0#32
  ![31, v547.toNat, 0]
def k0_off65 (i : grid0.Coords) : Fin 3 → Nat :=
  let c31_269 : Index := 31#32
  let c0_270 : Index := 0#32
  let arg1 : BitVec 32 := BitVec.ofNat 32 (i 1).val
  let c256_i32 : BitVec 32 := 256#32
  let v0 : BitVec 32 := Scalar.muli arg1 c256_i32
  let v1 : BitVec 32 := v0
  let v558 : Index := Scalar.indexCast v1
  ![31, 0, v558.toNat]
def k0_off66 (i : grid0.Coords) : Fin 2 → Nat :=
  let arg0 : BitVec 32 := BitVec.ofNat 32 (i 0).val
  let v599 : Index := Scalar.indexCast arg0
  let arg1 : BitVec 32 := BitVec.ofNat 32 (i 1).val
  let v600 : Index := Scalar.indexCast arg1
  ![v599.toNat, v600.toNat]
@[reducible] def k0_t1_loop : Scf.Loop 32 :=
  let c0_i32_294 : BitVec 32 := 0#32
  let c32_i32 : BitVec 32 := 32#32
  let v624 : BitVec 32 := Scalar.addi c0_i32_294 c32_i32
  let c1_i32_295 : BitVec 32 := 1#32
  ⟨c0_i32_294, v624, c1_i32_295⟩
def k0_mult2 (k0_t1 : Fin k0_t1_loop.trips) : BitVec 32 :=
  let c0_i32_294 : BitVec 32 := 0#32
  let c1_i32_295 : BitVec 32 := 1#32
  let arg19 : BitVec 32 := Scf.iv c0_i32_294 c1_i32_295 k0_t1
  let c128_i32 : BitVec 32 := 128#32
  let v626 : BitVec 32 := Scalar.muli arg19 c128_i32
  v626
def k0_off67 (k0_t1 : Fin k0_t1_loop.trips) : Fin 3 → Nat :=
  let c0_300 : Index := 0#32
  let c0_301 : Index := 0#32
  let c0_i32_294 : BitVec 32 := 0#32
  let c1_i32_295 : BitVec 32 := 1#32
  let arg19 : BitVec 32 := Scf.iv c0_i32_294 c1_i32_295 k0_t1
  let c128_i32 : BitVec 32 := 128#32
  let v626 : BitVec 32 := Scalar.muli arg19 c128_i32
  let v627 : BitVec 32 := v626
  let v628 : Index := Scalar.indexCast v627
  ![0, 0, v628.toNat]
def k0_off68 (k0_t1 : Fin k0_t1_loop.trips) : Fin 3 → Nat :=
  let c0_i32_294 : BitVec 32 := 0#32
  let c1_i32_295 : BitVec 32 := 1#32
  let arg19 : BitVec 32 := Scf.iv c0_i32_294 c1_i32_295 k0_t1
  let v631 : Index := Scalar.indexCast arg19
  let c0_302 : Index := 0#32
  let c0_303 : Index := 0#32
  ![v631.toNat, 0, 0]
@[reducible] def k0_t2_loop (i : grid0.Coords) (v601 : BitVec 32) : Scf.Loop 32 :=
  let c0_i32_305 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_307 : BitVec 32 := 1#32
  ⟨c0_i32_305, v639, c1_i32_307⟩

def k0_mult3 (i : grid0.Coords) (v601 : BitVec 32) (k0_t2 : Fin (k0_t2_loop i v601).trips) : BitVec 32 :=
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let c1_i32_307 : BitVec 32 := 1#32
  let arg20 : BitVec 32 := Scf.iv c0_i32_305 c1_i32_307 k0_t2
  let v667 : BitVec 32 := Scalar.addi v618 arg20
  let c256_i32_322 : BitVec 32 := 256#32
  let v668 : BitVec 32 := Scalar.muli v667 c256_i32_322
  v668
def k0_off69 (i : grid0.Coords) (v601 : BitVec 32) (k0_t1 : Fin k0_t1_loop.trips) (k0_t2 : Fin (k0_t2_loop i v601).trips) : Fin 3 → Nat :=
  let c0_i32_294 : BitVec 32 := 0#32
  let c1_i32_295 : BitVec 32 := 1#32
  let arg19 : BitVec 32 := Scf.iv c0_i32_294 c1_i32_295 k0_t1
  let v670 : Index := Scalar.indexCast arg19
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let c1_i32_307 : BitVec 32 := 1#32
  let arg20 : BitVec 32 := Scf.iv c0_i32_305 c1_i32_307 k0_t2
  let v667 : BitVec 32 := Scalar.addi v618 arg20
  let c256_i32_322 : BitVec 32 := 256#32
  let v668 : BitVec 32 := Scalar.muli v667 c256_i32_322
  let v669 : BitVec 32 := v668
  let v671 : Index := Scalar.indexCast v669
  let c0_323 : Index := 0#32
  ![v670.toNat, v671.toNat, 0]
def k0_off70 (i : grid0.Coords) (v601 : BitVec 32) (k0_t1 : Fin k0_t1_loop.trips) (k0_t2 : Fin (k0_t2_loop i v601).trips) : Fin 3 → Nat :=
  let c0_i32_294 : BitVec 32 := 0#32
  let c1_i32_295 : BitVec 32 := 1#32
  let arg19 : BitVec 32 := Scf.iv c0_i32_294 c1_i32_295 k0_t1
  let v675 : Index := Scalar.indexCast arg19
  let c0_325 : Index := 0#32
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let c1_i32_307 : BitVec 32 := 1#32
  let arg20 : BitVec 32 := Scf.iv c0_i32_305 c1_i32_307 k0_t2
  let v667 : BitVec 32 := Scalar.addi v618 arg20
  let c256_i32_322 : BitVec 32 := 256#32
  let v668 : BitVec 32 := Scalar.muli v667 c256_i32_322
  let v669 : BitVec 32 := v668
  let v676 : Index := Scalar.indexCast v669
  ![v675.toNat, 0, v676.toNat]
def k0_mult4 (i : grid0.Coords) (v601 : BitVec 32) (k0_t2 : Fin (k0_t2_loop i v601).trips) : BitVec 32 :=
  let c0_i32_305 : BitVec 32 := 0#32
  let c1_i32_307 : BitVec 32 := 1#32
  let arg20 : BitVec 32 := Scf.iv c0_i32_305 c1_i32_307 k0_t2
  let c256_i32_327 : BitVec 32 := 256#32
  let v695 : BitVec 32 := Scalar.muli arg20 c256_i32_327
  v695
def k0_off71 (i : grid0.Coords) (v601 : BitVec 32) (k0_t2 : Fin (k0_t2_loop i v601).trips) : Fin 2 → Nat :=
  let c0_i32_305 : BitVec 32 := 0#32
  let c1_i32_307 : BitVec 32 := 1#32
  let arg20 : BitVec 32 := Scf.iv c0_i32_305 c1_i32_307 k0_t2
  let c256_i32_327 : BitVec 32 := 256#32
  let v695 : BitVec 32 := Scalar.muli arg20 c256_i32_327
  let v696 : BitVec 32 := v695
  let v697 : Index := Scalar.indexCast v696
  let c0_328 : Index := 0#32
  ![v697.toNat, 0]
@[reducible] def k0_t3_loop (i : grid0.Coords) (v601 : BitVec 32) : Scf.Loop 32 :=
  let c0_i32_305 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let v636 : BitVec 32 := Scalar.addi c0_i32_305 v635
  let c1_i32_308 : BitVec 32 := 1#32
  ⟨v639, v636, c1_i32_308⟩
def k0_mult5 (i : grid0.Coords) (v601 : BitVec 32) (k0_t3 : Fin (k0_t3_loop i v601).trips) : BitVec 32 :=
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let arg1 : BitVec 32 := BitVec.ofNat 32 (i 1).val
  let c1_i32_293 : BitVec 32 := 1#32
  let v619 : BitVec 32 := Scalar.addi arg1 c1_i32_293
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_308 : BitVec 32 := 1#32
  let arg20 : BitVec 32 := Scf.iv v639 c1_i32_308 k0_t3
  let v667 : BitVec 32 := Scalar.addi v618 arg20
  let c256_i32_322 : BitVec 32 := 256#32
  let v668 : BitVec 32 := Scalar.muli v667 c256_i32_322
  v668
def k0_off72 (i : grid0.Coords) (v601 : BitVec 32) (k0_t1 : Fin k0_t1_loop.trips) (k0_t3 : Fin (k0_t3_loop i v601).trips) : Fin 3 → Nat :=
  let c0_i32_294 : BitVec 32 := 0#32
  let c1_i32_295 : BitVec 32 := 1#32
  let arg19 : BitVec 32 := Scf.iv c0_i32_294 c1_i32_295 k0_t1
  let v670 : Index := Scalar.indexCast arg19
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let arg1 : BitVec 32 := BitVec.ofNat 32 (i 1).val
  let c1_i32_293 : BitVec 32 := 1#32
  let v619 : BitVec 32 := Scalar.addi arg1 c1_i32_293
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_308 : BitVec 32 := 1#32
  let arg20 : BitVec 32 := Scf.iv v639 c1_i32_308 k0_t3
  let v667 : BitVec 32 := Scalar.addi v618 arg20
  let c256_i32_322 : BitVec 32 := 256#32
  let v668 : BitVec 32 := Scalar.muli v667 c256_i32_322
  let v669 : BitVec 32 := v668
  let v671 : Index := Scalar.indexCast v669
  let c0_323 : Index := 0#32
  ![v670.toNat, v671.toNat, 0]
def k0_off73 (i : grid0.Coords) (v601 : BitVec 32) (k0_t1 : Fin k0_t1_loop.trips) (k0_t3 : Fin (k0_t3_loop i v601).trips) : Fin 3 → Nat :=
  let c0_i32_294 : BitVec 32 := 0#32
  let c1_i32_295 : BitVec 32 := 1#32
  let arg19 : BitVec 32 := Scf.iv c0_i32_294 c1_i32_295 k0_t1
  let v675 : Index := Scalar.indexCast arg19
  let c0_325 : Index := 0#32
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_305 : BitVec 32 := 0#32
  let arg1 : BitVec 32 := BitVec.ofNat 32 (i 1).val
  let c1_i32_293 : BitVec 32 := 1#32
  let v619 : BitVec 32 := Scalar.addi arg1 c1_i32_293
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_308 : BitVec 32 := 1#32
  let arg20 : BitVec 32 := Scf.iv v639 c1_i32_308 k0_t3
  let v667 : BitVec 32 := Scalar.addi v618 arg20
  let c256_i32_322 : BitVec 32 := 256#32
  let v668 : BitVec 32 := Scalar.muli v667 c256_i32_322
  let v669 : BitVec 32 := v668
  let v676 : Index := Scalar.indexCast v669
  ![v675.toNat, 0, v676.toNat]
def k0_mult6 (i : grid0.Coords) (v601 : BitVec 32) (k0_t3 : Fin (k0_t3_loop i v601).trips) : BitVec 32 :=
  let c0_i32_305 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_308 : BitVec 32 := 1#32
  let arg20 : BitVec 32 := Scf.iv v639 c1_i32_308 k0_t3
  let c256_i32_327 : BitVec 32 := 256#32
  let v695 : BitVec 32 := Scalar.muli arg20 c256_i32_327
  v695
def k0_off74 (i : grid0.Coords) (v601 : BitVec 32) (k0_t3 : Fin (k0_t3_loop i v601).trips) : Fin 2 → Nat :=
  let c0_i32_305 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v635 : BitVec 32 := Scalar.subi v620 c0_i32_305
  let c1_i32_306 : BitVec 32 := 1#32
  let v637 : BitVec 32 := Scalar.divsi v635 c1_i32_306
  let v638 : BitVec 32 := Scalar.muli v637 c1_i32_306
  let v639 : BitVec 32 := Scalar.addi c0_i32_305 v638
  let c1_i32_308 : BitVec 32 := 1#32
  let arg20 : BitVec 32 := Scf.iv v639 c1_i32_308 k0_t3
  let c256_i32_327 : BitVec 32 := 256#32
  let v695 : BitVec 32 := Scalar.muli arg20 c256_i32_327
  let v696 : BitVec 32 := v695
  let v697 : Index := Scalar.indexCast v696
  let c0_328 : Index := 0#32
  ![v697.toNat, 0]
@[reducible] def k0_t4_loop (i : grid0.Coords) (v601 : BitVec 32) : Scf.Loop 32 :=
  let c0_i32_310 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v643 : BitVec 32 := Scalar.subi v620 c0_i32_310
  let c1_i32_311 : BitVec 32 := 1#32
  let v645 : BitVec 32 := Scalar.divsi v643 c1_i32_311
  let v646 : BitVec 32 := Scalar.muli v645 c1_i32_311
  let v647 : BitVec 32 := Scalar.addi c0_i32_310 v646
  let c1_i32_312 : BitVec 32 := 1#32
  ⟨c0_i32_310, v647, c1_i32_312⟩
def k0_mult7 (i : grid0.Coords) (v601 : BitVec 32) (k0_t4 : Fin (k0_t4_loop i v601).trips) : BitVec 32 :=
  let c0_i32_310 : BitVec 32 := 0#32
  let c1_i32_312 : BitVec 32 := 1#32
  let arg20 : BitVec 32 := Scf.iv c0_i32_310 c1_i32_312 k0_t4
  let c256_i32_322 : BitVec 32 := 256#32
  let v667 : BitVec 32 := Scalar.muli arg20 c256_i32_322
  v667
def k0_off75 (i : grid0.Coords) (v601 : BitVec 32) (k0_t4 : Fin (k0_t4_loop i v601).trips) : Fin 2 → Nat :=
  let c0_i32_310 : BitVec 32 := 0#32
  let c1_i32_312 : BitVec 32 := 1#32
  let arg20 : BitVec 32 := Scf.iv c0_i32_310 c1_i32_312 k0_t4
  let c256_i32_322 : BitVec 32 := 256#32
  let v667 : BitVec 32 := Scalar.muli arg20 c256_i32_322
  let v668 : BitVec 32 := v667
  let v669 : Index := Scalar.indexCast v668
  let c0_323 : Index := 0#32
  ![v669.toNat, 0]
@[reducible] def k0_t5_loop (i : grid0.Coords) (v601 : BitVec 32) : Scf.Loop 32 :=
  let c0_i32_310 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v643 : BitVec 32 := Scalar.subi v620 c0_i32_310
  let c1_i32_311 : BitVec 32 := 1#32
  let v645 : BitVec 32 := Scalar.divsi v643 c1_i32_311
  let v646 : BitVec 32 := Scalar.muli v645 c1_i32_311
  let v647 : BitVec 32 := Scalar.addi c0_i32_310 v646
  let v644 : BitVec 32 := Scalar.addi c0_i32_310 v643
  let c1_i32_313 : BitVec 32 := 1#32
  ⟨v647, v644, c1_i32_313⟩
def k0_mult8 (i : grid0.Coords) (v601 : BitVec 32) (k0_t5 : Fin (k0_t5_loop i v601).trips) : BitVec 32 :=
  let c0_i32_310 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v643 : BitVec 32 := Scalar.subi v620 c0_i32_310
  let c1_i32_311 : BitVec 32 := 1#32
  let v645 : BitVec 32 := Scalar.divsi v643 c1_i32_311
  let v646 : BitVec 32 := Scalar.muli v645 c1_i32_311
  let v647 : BitVec 32 := Scalar.addi c0_i32_310 v646
  let c1_i32_313 : BitVec 32 := 1#32
  let arg20 : BitVec 32 := Scf.iv v647 c1_i32_313 k0_t5
  let c256_i32_322 : BitVec 32 := 256#32
  let v667 : BitVec 32 := Scalar.muli arg20 c256_i32_322
  v667
def k0_off76 (i : grid0.Coords) (v601 : BitVec 32) (k0_t5 : Fin (k0_t5_loop i v601).trips) : Fin 2 → Nat :=
  let c0_i32_310 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v643 : BitVec 32 := Scalar.subi v620 c0_i32_310
  let c1_i32_311 : BitVec 32 := 1#32
  let v645 : BitVec 32 := Scalar.divsi v643 c1_i32_311
  let v646 : BitVec 32 := Scalar.muli v645 c1_i32_311
  let v647 : BitVec 32 := Scalar.addi c0_i32_310 v646
  let c1_i32_313 : BitVec 32 := 1#32
  let arg20 : BitVec 32 := Scf.iv v647 c1_i32_313 k0_t5
  let c256_i32_322 : BitVec 32 := 256#32
  let v667 : BitVec 32 := Scalar.muli arg20 c256_i32_322
  let v668 : BitVec 32 := v667
  let v669 : Index := Scalar.indexCast v668
  let c0_323 : Index := 0#32
  ![v669.toNat, 0]
@[reducible] def k0_t6_loop (i : grid0.Coords) (v601 : BitVec 32) : Scf.Loop 32 :=
  let c0_i32_316 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let c1_i32_318 : BitVec 32 := 1#32
  ⟨c0_i32_316, v657, c1_i32_318⟩
def k0_mult9 (i : grid0.Coords) (v601 : BitVec 32) (k0_t6 : Fin (k0_t6_loop i v601).trips) : BitVec 32 :=
  let c0_i32_316 : BitVec 32 := 0#32
  let c1_i32_318 : BitVec 32 := 1#32
  let arg20 : BitVec 32 := Scf.iv c0_i32_316 c1_i32_318 k0_t6
  let c256_i32_322 : BitVec 32 := 256#32
  let v667 : BitVec 32 := Scalar.muli arg20 c256_i32_322
  v667
def k0_off77 (i : grid0.Coords) (v601 : BitVec 32) (k0_t6 : Fin (k0_t6_loop i v601).trips) : Fin 2 → Nat :=
  let c0_i32_316 : BitVec 32 := 0#32
  let c1_i32_318 : BitVec 32 := 1#32
  let arg20 : BitVec 32 := Scf.iv c0_i32_316 c1_i32_318 k0_t6
  let c256_i32_322 : BitVec 32 := 256#32
  let v667 : BitVec 32 := Scalar.muli arg20 c256_i32_322
  let v668 : BitVec 32 := v667
  let v669 : Index := Scalar.indexCast v668
  let c0_323 : Index := 0#32
  ![v669.toNat, 0]
def k0_mult10 (i : grid0.Coords) (v601 : BitVec 32) (k0_t6 : Fin (k0_t6_loop i v601).trips) : BitVec 32 :=
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_316 : BitVec 32 := 0#32
  let c1_i32_318 : BitVec 32 := 1#32
  let arg20 : BitVec 32 := Scf.iv c0_i32_316 c1_i32_318 k0_t6
  let v674 : BitVec 32 := Scalar.addi v618 arg20
  let c256_i32_324 : BitVec 32 := 256#32
  let v675 : BitVec 32 := Scalar.muli v674 c256_i32_324
  v675
def k0_off78 (i : grid0.Coords) (v601 : BitVec 32) (k0_t1 : Fin k0_t1_loop.trips) (k0_t6 : Fin (k0_t6_loop i v601).trips) : Fin 3 → Nat :=
  let c0_i32_294 : BitVec 32 := 0#32
  let c1_i32_295 : BitVec 32 := 1#32
  let arg19 : BitVec 32 := Scf.iv c0_i32_294 c1_i32_295 k0_t1
  let v677 : Index := Scalar.indexCast arg19
  let c0_325 : Index := 0#32
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_316 : BitVec 32 := 0#32
  let c1_i32_318 : BitVec 32 := 1#32
  let arg20 : BitVec 32 := Scf.iv c0_i32_316 c1_i32_318 k0_t6
  let v674 : BitVec 32 := Scalar.addi v618 arg20
  let c256_i32_324 : BitVec 32 := 256#32
  let v675 : BitVec 32 := Scalar.muli v674 c256_i32_324
  let v676 : BitVec 32 := v675
  let v678 : Index := Scalar.indexCast v676
  ![v677.toNat, 0, v678.toNat]
@[reducible] def k0_t7_loop (i : grid0.Coords) (v601 : BitVec 32) : Scf.Loop 32 :=
  let c0_i32_316 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let v654 : BitVec 32 := Scalar.addi c0_i32_316 v653
  let c1_i32_319 : BitVec 32 := 1#32
  ⟨v657, v654, c1_i32_319⟩
def k0_mult11 (i : grid0.Coords) (v601 : BitVec 32) (k0_t7 : Fin (k0_t7_loop i v601).trips) : BitVec 32 :=
  let c0_i32_316 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let c1_i32_319 : BitVec 32 := 1#32
  let arg20 : BitVec 32 := Scf.iv v657 c1_i32_319 k0_t7
  let c256_i32_322 : BitVec 32 := 256#32
  let v667 : BitVec 32 := Scalar.muli arg20 c256_i32_322
  v667
def k0_off79 (i : grid0.Coords) (v601 : BitVec 32) (k0_t7 : Fin (k0_t7_loop i v601).trips) : Fin 2 → Nat :=
  let c0_i32_316 : BitVec 32 := 0#32
  let arg1 : BitVec 32 := BitVec.ofNat 32 (i 1).val
  let c1_i32_293 : BitVec 32 := 1#32
  let v619 : BitVec 32 := Scalar.addi arg1 c1_i32_293
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let c1_i32_319 : BitVec 32 := 1#32
  let arg20 : BitVec 32 := Scf.iv v657 c1_i32_319 k0_t7
  let c256_i32_322 : BitVec 32 := 256#32
  let v667 : BitVec 32 := Scalar.muli arg20 c256_i32_322
  let v668 : BitVec 32 := v667
  let v669 : Index := Scalar.indexCast v668
  let c0_323 : Index := 0#32
  ![v669.toNat, 0]
def k0_mult12 (i : grid0.Coords) (v601 : BitVec 32) (k0_t7 : Fin (k0_t7_loop i v601).trips) : BitVec 32 :=
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_316 : BitVec 32 := 0#32
  let arg1 : BitVec 32 := BitVec.ofNat 32 (i 1).val
  let c1_i32_293 : BitVec 32 := 1#32
  let v619 : BitVec 32 := Scalar.addi arg1 c1_i32_293
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let c1_i32_319 : BitVec 32 := 1#32
  let arg20 : BitVec 32 := Scf.iv v657 c1_i32_319 k0_t7
  let v674 : BitVec 32 := Scalar.addi v618 arg20
  let c256_i32_324 : BitVec 32 := 256#32
  let v675 : BitVec 32 := Scalar.muli v674 c256_i32_324
  v675
def k0_off80 (i : grid0.Coords) (v601 : BitVec 32) (k0_t1 : Fin k0_t1_loop.trips) (k0_t7 : Fin (k0_t7_loop i v601).trips) : Fin 3 → Nat :=
  let c0_i32_294 : BitVec 32 := 0#32
  let c1_i32_295 : BitVec 32 := 1#32
  let arg19 : BitVec 32 := Scf.iv c0_i32_294 c1_i32_295 k0_t1
  let v677 : Index := Scalar.indexCast arg19
  let c0_325 : Index := 0#32
  let c0_i32_287 : BitVec 32 := 0#32
  let v603 : BitVec 1 := Scalar.cmpi .sgt v601 c0_i32_287
  let v604 : BitVec 32 := Scalar.extui v603
  let c0_i32_288 : BitVec 32 := 0#32
  let v605 : BitVec 1 := Scalar.cmpi .slt v601 c0_i32_288
  let v606 : BitVec 32 := Scalar.extui v605
  let v607 : BitVec 32 := Scalar.subi v604 v606
  let c256_i32_286 : BitVec 32 := 256#32
  let c0_i32_289 : BitVec 32 := 0#32
  let v608 : BitVec 1 := Scalar.cmpi .sgt c256_i32_286 c0_i32_289
  let v609 : BitVec 32 := Scalar.extui v608
  let c0_i32_290 : BitVec 32 := 0#32
  let v610 : BitVec 1 := Scalar.cmpi .slt c256_i32_286 c0_i32_290
  let v611 : BitVec 32 := Scalar.extui v610
  let v612 : BitVec 32 := Scalar.subi v609 v611
  let v613 : BitVec 1 := Scalar.cmpi .ne v607 v612
  let v614 : BitVec 32 := Scalar.remsi v601 c256_i32_286
  let c0_i32_291 : BitVec 32 := 0#32
  let v615 : BitVec 1 := Scalar.cmpi .ne v614 c0_i32_291
  let v616 : BitVec 1 := Scalar.andi v613 v615
  let v602 : BitVec 32 := Scalar.divsi v601 c256_i32_286
  let c1_i32_292 : BitVec 32 := 1#32
  let v617 : BitVec 32 := Scalar.subi v602 c1_i32_292
  let v618 : BitVec 32 := Scalar.select v616 v617 v602
  let c0_i32_316 : BitVec 32 := 0#32
  let arg1 : BitVec 32 := BitVec.ofNat 32 (i 1).val
  let c1_i32_293 : BitVec 32 := 1#32
  let v619 : BitVec 32 := Scalar.addi arg1 c1_i32_293
  let v620 : BitVec 32 := Scalar.subi v619 v618
  let v653 : BitVec 32 := Scalar.subi v620 c0_i32_316
  let c1_i32_317 : BitVec 32 := 1#32
  let v655 : BitVec 32 := Scalar.divsi v653 c1_i32_317
  let v656 : BitVec 32 := Scalar.muli v655 c1_i32_317
  let v657 : BitVec 32 := Scalar.addi c0_i32_316 v656
  let c1_i32_319 : BitVec 32 := 1#32
  let arg20 : BitVec 32 := Scf.iv v657 c1_i32_319 k0_t7
  let v674 : BitVec 32 := Scalar.addi v618 arg20
  let c256_i32_324 : BitVec 32 := 256#32
  let v675 : BitVec 32 := Scalar.muli v674 c256_i32_324
  let v676 : BitVec 32 := v675
  let v678 : Index := Scalar.indexCast v676
  ![v677.toNat, 0, v678.toNat]

def k0_chk1 (i : grid0.Coords) (v601 : BitVec 32) : Prop :=
  ((k0_t2_loop i v601).OK) ∧
  (∀ k0_t2 : Fin (k0_t2_loop i v601).trips, 256 ∣ (k0_mult3 i v601 k0_t2).toNat) ∧
  (∀ (k0_t1 : Fin k0_t1_loop.trips) (k0_t2 : Fin (k0_t2_loop i v601).trips), ∀ a, (k0_off69 i v601 k0_t1 k0_t2) a + S1x256x128.size a ≤ S32x4096x128.size a) ∧
  (∀ (k0_t1 : Fin k0_t1_loop.trips) (k0_t2 : Fin (k0_t2_loop i v601).trips), ∀ a, (k0_off70 i v601 k0_t1 k0_t2) a + S1x1x256.size a ≤ S32x1x4096.size a) ∧
  (∀ k0_t2 : Fin (k0_t2_loop i v601).trips, 256 ∣ (k0_mult4 i v601 k0_t2).toNat) ∧
  (∀ k0_t2 : Fin (k0_t2_loop i v601).trips, ∀ a, (k0_off71 i v601 k0_t2) a + S256x256.size a ≤ S4096x256.size a) ∧
  ((k0_t3_loop i v601).OK) ∧
  (∀ k0_t3 : Fin (k0_t3_loop i v601).trips, 256 ∣ (k0_mult5 i v601 k0_t3).toNat) ∧
  (∀ (k0_t1 : Fin k0_t1_loop.trips) (k0_t3 : Fin (k0_t3_loop i v601).trips), ∀ a, (k0_off72 i v601 k0_t1 k0_t3) a + S1x256x128.size a ≤ S32x4096x128.size a) ∧
  (∀ (k0_t1 : Fin k0_t1_loop.trips) (k0_t3 : Fin (k0_t3_loop i v601).trips), ∀ a, (k0_off73 i v601 k0_t1 k0_t3) a + S1x1x256.size a ≤ S32x1x4096.size a) ∧
  (∀ k0_t3 : Fin (k0_t3_loop i v601).trips, 256 ∣ (k0_mult6 i v601 k0_t3).toNat) ∧
  (∀ k0_t3 : Fin (k0_t3_loop i v601).trips, ∀ a, (k0_off74 i v601 k0_t3) a + S256x256.size a ≤ S4096x256.size a) ∧
  ((k0_t4_loop i v601).OK) ∧
  (∀ k0_t4 : Fin (k0_t4_loop i v601).trips, 256 ∣ (k0_mult7 i v601 k0_t4).toNat) ∧
  (∀ k0_t4 : Fin (k0_t4_loop i v601).trips, ∀ a, (k0_off75 i v601 k0_t4) a + S256x256.size a ≤ S4096x256.size a) ∧
  ((k0_t5_loop i v601).OK) ∧
  (∀ k0_t5 : Fin (k0_t5_loop i v601).trips, 256 ∣ (k0_mult8 i v601 k0_t5).toNat) ∧
  (∀ k0_t5 : Fin (k0_t5_loop i v601).trips, ∀ a, (k0_off76 i v601 k0_t5) a + S256x256.size a ≤ S4096x256.size a) ∧
  ((k0_t6_loop i v601).OK) ∧
  (∀ k0_t6 : Fin (k0_t6_loop i v601).trips, 256 ∣ (k0_mult9 i v601 k0_t6).toNat) ∧
  (∀ k0_t6 : Fin (k0_t6_loop i v601).trips, ∀ a, (k0_off77 i v601 k0_t6) a + S256x256.size a ≤ S4096x256.size a) ∧
  (∀ k0_t6 : Fin (k0_t6_loop i v601).trips, 256 ∣ (k0_mult10 i v601 k0_t6).toNat) ∧
  (∀ (k0_t1 : Fin k0_t1_loop.trips) (k0_t6 : Fin (k0_t6_loop i v601).trips), ∀ a, (k0_off78 i v601 k0_t1 k0_t6) a + S1x128x256.size a ≤ S32x128x4096.size a) ∧
  ((k0_t7_loop i v601).OK) ∧
  (∀ k0_t7 : Fin (k0_t7_loop i v601).trips, 256 ∣ (k0_mult11 i v601 k0_t7).toNat) ∧
  (∀ k0_t7 : Fin (k0_t7_loop i v601).trips, ∀ a, (k0_off79 i v601 k0_t7) a + S256x256.size a ≤ S4096x256.size a) ∧
  (∀ k0_t7 : Fin (k0_t7_loop i v601).trips, 256 ∣ (k0_mult12 i v601 k0_t7).toNat) ∧
  (∀ (k0_t1 : Fin k0_t1_loop.trips) (k0_t7 : Fin (k0_t7_loop i v601).trips), ∀ a, (k0_off80 i v601 k0_t1 k0_t7) a + S1x128x256.size a ≤ S32x128x4096.size a)
theorem k0_t2_ok : ∀ (i : grid0.Coords) (v601 : BitVec 32) (k0_hw1 : k0_chk1 i v601), (k0_t2_loop i v601).OK := fun i v601 k0_hw1 => k0_hw1.1
theorem k0_mult3_dvd : ∀ (i : grid0.Coords) (v601 : BitVec 32) (k0_hw1 : k0_chk1 i v601) (k0_t2 : Fin (k0_t2_loop i v601).trips), 256 ∣ (k0_mult3 i v601 k0_t2).toNat := fun i v601 k0_hw1 k0_t2 => k0_hw1.2.1 k0_t2
theorem k0_off69_inb : ∀ (i : grid0.Coords) (v601 : BitVec 32) (k0_hw1 : k0_chk1 i v601) (k0_t1 : Fin k0_t1_loop.trips) (k0_t2 : Fin (k0_t2_loop i v601).trips), ∀ a, (k0_off69 i v601 k0_t1 k0_t2) a + S1x256x128.size a ≤ S32x4096x128.size a := fun i v601 k0_hw1 k0_t1 k0_t2 => k0_hw1.2.2.1 k0_t1 k0_t2
theorem k0_off70_inb : ∀ (i : grid0.Coords) (v601 : BitVec 32) (k0_hw1 : k0_chk1 i v601) (k0_t1 : Fin k0_t1_loop.trips) (k0_t2 : Fin (k0_t2_loop i v601).trips), ∀ a, (k0_off70 i v601 k0_t1 k0_t2) a + S1x1x256.size a ≤ S32x1x4096.size a := fun i v601 k0_hw1 k0_t1 k0_t2 => k0_hw1.2.2.2.1 k0_t1 k0_t2
theorem k0_mult4_dvd : ∀ (i : grid0.Coords) (v601 : BitVec 32) (k0_hw1 : k0_chk1 i v601) (k0_t2 : Fin (k0_t2_loop i v601).trips), 256 ∣ (k0_mult4 i v601 k0_t2).toNat := fun i v601 k0_hw1 k0_t2 => k0_hw1.2.2.2.2.1 k0_t2
theorem k0_off71_inb : ∀ (i : grid0.Coords) (v601 : BitVec 32) (k0_hw1 : k0_chk1 i v601) (k0_t2 : Fin (k0_t2_loop i v601).trips), ∀ a, (k0_off71 i v601 k0_t2) a + S256x256.size a ≤ S4096x256.size a := fun i v601 k0_hw1 k0_t2 => k0_hw1.2.2.2.2.2.1 k0_t2
theorem k0_t3_ok : ∀ (i : grid0.Coords) (v601 : BitVec 32) (k0_hw1 : k0_chk1 i v601), (k0_t3_loop i v601).OK := fun i v601 k0_hw1 => k0_hw1.2.2.2.2.2.2.1
theorem k0_mult5_dvd : ∀ (i : grid0.Coords) (v601 : BitVec 32) (k0_hw1 : k0_chk1 i v601) (k0_t3 : Fin (k0_t3_loop i v601).trips), 256 ∣ (k0_mult5 i v601 k0_t3).toNat := fun i v601 k0_hw1 k0_t3 => k0_hw1.2.2.2.2.2.2.2.1 k0_t3
theorem k0_off72_inb : ∀ (i : grid0.Coords) (v601 : BitVec 32) (k0_hw1 : k0_chk1 i v601) (k0_t1 : Fin k0_t1_loop.trips) (k0_t3 : Fin (k0_t3_loop i v601).trips), ∀ a, (k0_off72 i v601 k0_t1 k0_t3) a + S1x256x128.size a ≤ S32x4096x128.size a := fun i v601 k0_hw1 k0_t1 k0_t3 => k0_hw1.2.2.2.2.2.2.2.2.1 k0_t1 k0_t3
theorem k0_off73_inb : ∀ (i : grid0.Coords) (v601 : BitVec 32) (k0_hw1 : k0_chk1 i v601) (k0_t1 : Fin k0_t1_loop.trips) (k0_t3 : Fin (k0_t3_loop i v601).trips), ∀ a, (k0_off73 i v601 k0_t1 k0_t3) a + S1x1x256.size a ≤ S32x1x4096.size a := fun i v601 k0_hw1 k0_t1 k0_t3 => k0_hw1.2.2.2.2.2.2.2.2.2.1 k0_t1 k0_t3
theorem k0_mult6_dvd : ∀ (i : grid0.Coords) (v601 : BitVec 32) (k0_hw1 : k0_chk1 i v601) (k0_t3 : Fin (k0_t3_loop i v601).trips), 256 ∣ (k0_mult6 i v601 k0_t3).toNat := fun i v601 k0_hw1 k0_t3 => k0_hw1.2.2.2.2.2.2.2.2.2.2.1 k0_t3
theorem k0_off74_inb : ∀ (i : grid0.Coords) (v601 : BitVec 32) (k0_hw1 : k0_chk1 i v601) (k0_t3 : Fin (k0_t3_loop i v601).trips), ∀ a, (k0_off74 i v601 k0_t3) a + S256x256.size a ≤ S4096x256.size a := fun i v601 k0_hw1 k0_t3 => k0_hw1.2.2.2.2.2.2.2.2.2.2.2.1 k0_t3
theorem k0_t4_ok : ∀ (i : grid0.Coords) (v601 : BitVec 32) (k0_hw1 : k0_chk1 i v601), (k0_t4_loop i v601).OK := fun i v601 k0_hw1 => k0_hw1.2.2.2.2.2.2.2.2.2.2.2.2.1
theorem k0_mult7_dvd : ∀ (i : grid0.Coords) (v601 : BitVec 32) (k0_hw1 : k0_chk1 i v601) (k0_t4 : Fin (k0_t4_loop i v601).trips), 256 ∣ (k0_mult7 i v601 k0_t4).toNat := fun i v601 k0_hw1 k0_t4 => k0_hw1.2.2.2.2.2.2.2.2.2.2.2.2.2.1 k0_t4
theorem k0_off75_inb : ∀ (i : grid0.Coords) (v601 : BitVec 32) (k0_hw1 : k0_chk1 i v601) (k0_t4 : Fin (k0_t4_loop i v601).trips), ∀ a, (k0_off75 i v601 k0_t4) a + S256x256.size a ≤ S4096x256.size a := fun i v601 k0_hw1 k0_t4 => k0_hw1.2.2.2.2.2.2.2.2.2.2.2.2.2.2.1 k0_t4
theorem k0_t5_ok : ∀ (i : grid0.Coords) (v601 : BitVec 32) (k0_hw1 : k0_chk1 i v601), (k0_t5_loop i v601).OK := fun i v601 k0_hw1 => k0_hw1.2.2.2.2.2.2.2.2.2.2.2.2.2.2.2.1
theorem k0_mult8_dvd : ∀ (i : grid0.Coords) (v601 : BitVec 32) (k0_hw1 : k0_chk1 i v601) (k0_t5 : Fin (k0_t5_loop i v601).trips), 256 ∣ (k0_mult8 i v601 k0_t5).toNat := fun i v601 k0_hw1 k0_t5 => k0_hw1.2.2.2.2.2.2.2.2.2.2.2.2.2.2.2.2.1 k0_t5
theorem k0_off76_inb : ∀ (i : grid0.Coords) (v601 : BitVec 32) (k0_hw1 : k0_chk1 i v601) (k0_t5 : Fin (k0_t5_loop i v601).trips), ∀ a, (k0_off76 i v601 k0_t5) a + S256x256.size a ≤ S4096x256.size a := fun i v601 k0_hw1 k0_t5 => k0_hw1.2.2.2.2.2.2.2.2.2.2.2.2.2.2.2.2.2.1 k0_t5
theorem k0_t6_ok : ∀ (i : grid0.Coords) (v601 : BitVec 32) (k0_hw1 : k0_chk1 i v601), (k0_t6_loop i v601).OK := fun i v601 k0_hw1 => k0_hw1.2.2.2.2.2.2.2.2.2.2.2.2.2.2.2.2.2.2.1
theorem k0_mult9_dvd : ∀ (i : grid0.Coords) (v601 : BitVec 32) (k0_hw1 : k0_chk1 i v601) (k0_t6 : Fin (k0_t6_loop i v601).trips), 256 ∣ (k0_mult9 i v601 k0_t6).toNat := fun i v601 k0_hw1 k0_t6 => k0_hw1.2.2.2.2.2.2.2.2.2.2.2.2.2.2.2.2.2.2.2.1 k0_t6
theorem k0_off77_inb : ∀ (i : grid0.Coords) (v601 : BitVec 32) (k0_hw1 : k0_chk1 i v601) (k0_t6 : Fin (k0_t6_loop i v601).trips), ∀ a, (k0_off77 i v601 k0_t6) a + S256x256.size a ≤ S4096x256.size a := fun i v601 k0_hw1 k0_t6 => k0_hw1.2.2.2.2.2.2.2.2.2.2.2.2.2.2.2.2.2.2.2.2.1 k0_t6
theorem k0_mult10_dvd : ∀ (i : grid0.Coords) (v601 : BitVec 32) (k0_hw1 : k0_chk1 i v601) (k0_t6 : Fin (k0_t6_loop i v601).trips), 256 ∣ (k0_mult10 i v601 k0_t6).toNat := fun i v601 k0_hw1 k0_t6 => k0_hw1.2.2.2.2.2.2.2.2.2.2.2.2.2.2.2.2.2.2.2.2.2.1 k0_t6
theorem k0_off78_inb : ∀ (i : grid0.Coords) (v601 : BitVec 32) (k0_hw1 : k0_chk1 i v601) (k0_t1 : Fin k0_t1_loop.trips) (k0_t6 : Fin (k0_t6_loop i v601).trips), ∀ a, (k0_off78 i v601 k0_t1 k0_t6) a + S1x128x256.size a ≤ S32x128x4096.size a := fun i v601 k0_hw1 k0_t1 k0_t6 => k0_hw1.2.2.2.2.2.2.2.2.2.2.2.2.2.2.2.2.2.2.2.2.2.2.1 k0_t1 k0_t6
theorem k0_t7_ok : ∀ (i : grid0.Coords) (v601 : BitVec 32) (k0_hw1 : k0_chk1 i v601), (k0_t7_loop i v601).OK := fun i v601 k0_hw1 => k0_hw1.2.2.2.2.2.2.2.2.2.2.2.2.2.2.2.2.2.2.2.2.2.2.2.1
theorem k0_mult11_dvd : ∀ (i : grid0.Coords) (v601 : BitVec 32) (k0_hw1 : k0_chk1 i v601) (k0_t7 : Fin (k0_t7_loop i v601).trips), 256 ∣ (k0_mult11 i v601 k0_t7).toNat := fun i v601 k0_hw1 k0_t7 => k0_hw1.2.2.2.2.2.2.2.2.2.2.2.2.2.2.2.2.2.2.2.2.2.2.2.2.1 k0_t7
theorem k0_off79_inb : ∀ (i : grid0.Coords) (v601 : BitVec 32) (k0_hw1 : k0_chk1 i v601) (k0_t7 : Fin (k0_t7_loop i v601).trips), ∀ a, (k0_off79 i v601 k0_t7) a + S256x256.size a ≤ S4096x256.size a := fun i v601 k0_hw1 k0_t7 => k0_hw1.2.2.2.2.2.2.2.2.2.2.2.2.2.2.2.2.2.2.2.2.2.2.2.2.2.1 k0_t7
theorem k0_mult12_dvd : ∀ (i : grid0.Coords) (v601 : BitVec 32) (k0_hw1 : k0_chk1 i v601) (k0_t7 : Fin (k0_t7_loop i v601).trips), 256 ∣ (k0_mult12 i v601 k0_t7).toNat := fun i v601 k0_hw1 k0_t7 => k0_hw1.2.2.2.2.2.2.2.2.2.2.2.2.2.2.2.2.2.2.2.2.2.2.2.2.2.2.1 k0_t7
theorem k0_off80_inb : ∀ (i : grid0.Coords) (v601 : BitVec 32) (k0_hw1 : k0_chk1 i v601) (k0_t1 : Fin k0_t1_loop.trips) (k0_t7 : Fin (k0_t7_loop i v601).trips), ∀ a, (k0_off80 i v601 k0_t1 k0_t7) a + S1x128x256.size a ≤ S32x128x4096.size a := fun i v601 k0_hw1 k0_t1 k0_t7 => k0_hw1.2.2.2.2.2.2.2.2.2.2.2.2.2.2.2.2.2.2.2.2.2.2.2.2.2.2.2 k0_t1 k0_t7

def k0_mult13 (k0_t1 : Fin k0_t1_loop.trips) : BitVec 32 :=
  let c0_i32_294 : BitVec 32 := 0#32
  let c1_i32_295 : BitVec 32 := 1#32
  let arg19 : BitVec 32 := Scf.iv c0_i32_294 c1_i32_295 k0_t1
  let c128_i32_320 : BitVec 32 := 128#32
  let v661 : BitVec 32 := Scalar.muli arg19 c128_i32_320
  v661
def k0_off81 (k0_t1 : Fin k0_t1_loop.trips) : Fin 2 → Nat :=
  let c0_321 : Index := 0#32
  let c0_i32_294 : BitVec 32 := 0#32
  let c1_i32_295 : BitVec 32 := 1#32
  let arg19 : BitVec 32 := Scf.iv c0_i32_294 c1_i32_295 k0_t1
  let c128_i32_320 : BitVec 32 := 128#32
  let v661 : BitVec 32 := Scalar.muli arg19 c128_i32_320
  let v662 : BitVec 32 := v661
  let v663 : Index := Scalar.indexCast v662
  ![0, v663.toNat]
@[reducible] def k0_t8_loop : Scf.Loop 32 :=
  let c0_i32_297 : BitVec 32 := 0#32
  let c8_i32 : BitVec 32 := 8#32
  let v625 : BitVec 32 := Scalar.addi c0_i32_297 c8_i32
  let c1_i32_298 : BitVec 32 := 1#32
  ⟨c0_i32_297, v625, c1_i32_298⟩
def k0_mult14 (k0_t8 : Fin k0_t8_loop.trips) : BitVec 32 :=
  let c0_i32_297 : BitVec 32 := 0#32
  let c1_i32_298 : BitVec 32 := 1#32
  let arg19 : BitVec 32 := Scf.iv c0_i32_297 c1_i32_298 k0_t8
  let c32_i32_300 : BitVec 32 := 32#32
  let v626 : BitVec 32 := Scalar.muli arg19 c32_i32_300
  v626
def k0_off82 (k0_t8 : Fin k0_t8_loop.trips) : Fin 2 → Nat :=
  let c0_i32_297 : BitVec 32 := 0#32
  let c1_i32_298 : BitVec 32 := 1#32
  let arg19 : BitVec 32 := Scf.iv c0_i32_297 c1_i32_298 k0_t8
  let c32_i32_300 : BitVec 32 := 32#32
  let v626 : BitVec 32 := Scalar.muli arg19 c32_i32_300
  let v627 : BitVec 32 := v626
  let v628 : Index := Scalar.indexCast v627
  let c0_301 : Index := 0#32
  ![v628.toNat, 0]
def k0_off83 (k0_t8 : Fin k0_t8_loop.trips) : Fin 3 → Nat :=
  let c0_315 : Index := 0#32
  let c0_i32_297 : BitVec 32 := 0#32
  let c1_i32_298 : BitVec 32 := 1#32
  let arg19 : BitVec 32 := Scf.iv c0_i32_297 c1_i32_298 k0_t8
  let c32_i32_300 : BitVec 32 := 32#32
  let v626 : BitVec 32 := Scalar.muli arg19 c32_i32_300
  let v627 : BitVec 32 := v626
  let v675 : Index := Scalar.indexCast v627
  let c0_316 : Index := 0#32
  ![0, v675.toNat, 0]
def k0_off84 (k0_t8 : Fin k0_t8_loop.trips) : Fin 3 → Nat :=
  let c0_317 : Index := 0#32
  let c0_i32_297 : BitVec 32 := 0#32
  let c1_i32_298 : BitVec 32 := 1#32
  let arg19 : BitVec 32 := Scf.iv c0_i32_297 c1_i32_298 k0_t8
  let c32_i32_300 : BitVec 32 := 32#32
  let v626 : BitVec 32 := Scalar.muli arg19 c32_i32_300
  let v627 : BitVec 32 := v626
  let v679 : Index := Scalar.indexCast v627
  let c0_318 : Index := 0#32
  ![0, v679.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "sm_scale_log2e" => some (((Real.sqrt 128)⁻¹ * (Real.log 2)⁻¹ : ℝ) : EReal)
  | _ => none
-- ==== ReferenceIdeal.lean ====
abbrev S8x4096x4096 : Shape := ⟨3, ![8, 4096, 4096]⟩
abbrev S8x4096x32 : Shape := ⟨3, ![8, 4096, 32]⟩
abbrev S8x4096 : Shape := ⟨2, ![8, 4096]⟩
abbrev S8x4096x1 : Shape := ⟨3, ![8, 4096, 1]⟩
abbrev S8x4096x32x128 : Shape := ⟨4, ![8, 4096, 32, 128]⟩
abbrev S8x32x4096x128 : Shape := ⟨4, ![8, 32, 4096, 128]⟩
abbrev S256x4096x128 : Shape := ⟨3, ![256, 4096, 128]⟩
abbrev S8x32x4096 : Shape := ⟨3, ![8, 32, 4096]⟩
abbrev S256x4096x1 : Shape := ⟨3, ![256, 4096, 1]⟩
abbrev S256x1x4096 : Shape := ⟨3, ![256, 1, 4096]⟩
abbrev S8x1x4096 : Shape := ⟨3, ![8, 1, 4096]⟩
abbrev S8x1x4096x4096 : Shape := ⟨4, ![8, 1, 4096, 4096]⟩
abbrev S8x32x4096x4096 : Shape := ⟨4, ![8, 32, 4096, 4096]⟩
abbrev S256x4096x4096 : Shape := ⟨3, ![256, 4096, 4096]⟩
abbrev S256x4096 : Shape := ⟨2, ![256, 4096]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x4096, .fp8e4m3⟩
  | .hbm, ⟨1, _⟩ => ⟨S8x4096x32, .f32⟩
  | .hbm, ⟨2, _⟩ => ⟨S8x4096x4096, .fp8e4m3⟩
  | .hbm, ⟨3, _⟩ => ⟨S8x4096x4096, .fp8e4m3⟩
  | .hbm, ⟨4, _⟩ => ⟨S8x4096x32, .f32⟩
  | .hbm, ⟨5, _⟩ => ⟨S8x4096x32, .f32⟩
  | .hbm, ⟨6, _⟩ => ⟨S8x4096, .i32⟩
  | .hbm, ⟨7, _⟩ => ⟨S8x4096x4096, .fp8e4m3⟩
  | .hbm, ⟨8, _⟩ => ⟨S8x4096x1, .f32⟩
  | .local _ .vmem, ⟨0, _⟩ => ⟨S8x4096x4096, .fp8e4m3⟩
  | .local _ .vmem, ⟨1, _⟩ => ⟨S8x4096x32, .f32⟩
  | .local _ .vmem, ⟨2, _⟩ => ⟨S8x4096x4096, .fp8e4m3⟩
  | .local _ .vmem, ⟨3, _⟩ => ⟨S8x4096x4096, .fp8e4m3⟩
  | .local _ .vmem, ⟨4, _⟩ => ⟨S8x4096x32, .f32⟩
  | .local _ .vmem, ⟨5, _⟩ => ⟨S8x4096x32, .f32⟩
  | .local _ .vmem, ⟨6, _⟩ => ⟨S8x4096, .i32⟩
  | .local _ .vmem, ⟨7, _⟩ => ⟨S8x4096x4096, .fp8e4m3⟩
  | .local _ .vmem, ⟨8, _⟩ => ⟨S8x4096x1, .f32⟩
  | _, _ => ⟨S8x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "sm_scale" => some (((Real.sqrt 128)⁻¹ : ℝ) : EReal)
  | _ => none

abbrev grid0 : Pipeline.Grid := .none

abbrev stage0_0 : Fin 1 → Memref sig .tc .vmem S8x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelTrip.lean ====
module

public import proofs.«01_k».proof.Proof.Gen.Kernel.Loops
public import Idealize.ShloMosaic.Lib.Pipeline.FrameBody

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One head's trip: the queries, the key and value caches and the scales are read, the tile of weights and
    the tile of outputs are written. -/
@[sl_loop] def loopInv_k0_t1 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (X3 : BufTy.Contents (Elt F) arg3.view.ty) (X12 : BufTy.Contents (Elt F) arg12.view.ty) (X13 : BufTy.Contents (Elt F) arg13.view.ty) (X14 : BufTy.Contents (Elt F) arg14.view.ty) (X15 : BufTy.Contents (Elt F) arg15.view.ty) (v1 : BitVec 32) (v572 : IVec S256x256 32) (v592 : IVec S1x256 32) (v601 : Elt F .i32) (k0_hw1 : k0_chk1 i v601) (v618 : BitVec 32) (v620 : BitVec 32) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v572 v592 v601 k0_hw1 v618 v620 where
  inv := fun k acc => iprop((arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg17.view.loc (c : Thread nD τ) ↦[arg17.view.set]{fullShare} f)) ∗ (∃ f, (arg18.view.loc (c : Thread nD τ) ↦[arg18.view.set]{fullShare} f)))
  step := fun k acc => by
    unfold k0_t1_body
    simp only [k0_part1_eq_skeleton]
    unfold k0_part1_skel
    simp only [bind_assoc, pure_bind]
    iintro ⟨H3, H12, H13, H14, H15, ⟨%f17, H17⟩, ⟨%f18, H18⟩⟩
    sl_exec
    sl_exec
    sl_step
    isplitl [H3]; · iexact H3
    isplitl [H12]; · iexact H12
    isplitl [H13]; · iexact H13
    isplitl [H14]; · iexact H14
    isplitl [H15]; · iexact H15
    isplitl [H17]; · iexists _; iexact H17
    iexists _; iexact H18

end Cert.Kernel.Hand

end

end
-- ==== Proof.KernelRange.lean ====
module
public import proofs.«01_k».proof.Proof.Gen.Kernel.Launch
@[expose] public section
open Idealize.ShloMosaic
open Cert Cert.Kernel

namespace Cert.Kernel.Hand

/-- The block of 256 keys that holds key `w`, as the kernel computes it: the floor of `w / 256`. -/
def firstBlk (w : BitVec 32) : BitVec 32 :=
  Scalar.select
    (Scalar.andi
      (Scalar.cmpi .ne
        (Scalar.subi (Scalar.extui (Scalar.cmpi .sgt w 0#32)) (Scalar.extui (Scalar.cmpi .slt w 0#32)))
        (Scalar.subi (Scalar.extui (Scalar.cmpi .sgt 256#32 0#32)) (Scalar.extui (Scalar.cmpi .slt 256#32 0#32))))
      (Scalar.cmpi .ne (Scalar.remsi w 256#32) 0#32))
    (Scalar.subi (Scalar.divsi w 256#32) 1#32) (Scalar.divsi w 256#32)

theorem firstBlk_fin : ∀ n : Fin 4097, firstBlk (BitVec.ofNat 32 n.val) = BitVec.ofNat 32 (n.val / 256) := by
  decide +kernel

/-- For a count of at most 4096 the kernel's block is `w / 256`. -/
theorem firstBlk_eq {w : BitVec 32} (h : w.toNat ≤ 4096) : firstBlk w = BitVec.ofNat 32 (w.toNat / 256) := by
  have := firstBlk_fin ⟨w.toNat, by omega⟩
  simpa using this

/-- The number of the chunks from the window's first block to the diagonal, as the kernel computes it. -/
def chunks (a b : BitVec 32) : BitVec 32 := Scalar.subi (Scalar.addi a 1#32) b

theorem loop_fin : ∀ (a : Fin 16) (q : Fin 17),
    let n := chunks (BitVec.ofNat 32 a.val) (BitVec.ofNat 32 q.val)
    let u := Scalar.addi 0#32 (Scalar.muli (Scalar.divsi (Scalar.subi n 0#32) 1#32) 1#32)
    Scf.OK 0#32 u 1#32 ∧ Scf.trips 0#32 u 1#32 = a.val + 1 - q.val ∧
      Scf.OK u (Scalar.addi 0#32 (Scalar.subi n 0#32)) 1#32 ∧
      Scf.trips u (Scalar.addi 0#32 (Scalar.subi n 0#32)) 1#32 = 0 := by
  decide +kernel

theorem off_fin : ∀ (q k : Fin 17),
    Scalar.muli (Scalar.addi (BitVec.ofNat 32 q.val) (Scf.iv 0#32 1#32 k.val)) 256#32 = BitVec.ofNat 32 ((q.val + k.val) * 256) ∧
      Scalar.muli (Scf.iv 0#32 1#32 k.val) 256#32 = BitVec.ofNat 32 (k.val * 256) := by
  decide +kernel

theorem head_fin : ∀ (k : Fin 32), (Scf.iv 0#32 1#32 k.val) = BitVec.ofNat 32 k.val := by
  decide +kernel

section
variable (i : grid0.Coords) (w : BitVec 32) (h : w.toNat ≤ 4096)
include h

theorem t2_all :
    ((k0_t2_loop i w).OK ∧ (k0_t2_loop i w).trips = (i 1).val + 1 - w.toNat / 256) ∧
      (k0_t3_loop i w).OK ∧ (k0_t3_loop i w).trips = 0 := by
  have := loop_fin ⟨(i 1).val, (i 1).isLt⟩ ⟨w.toNat / 256, by omega⟩
  dsimp only at this
  rw [← firstBlk_eq h] at this
  exact ⟨⟨this.1, this.2.1⟩, this.2.2.1, this.2.2.2⟩

theorem t2_ok : (k0_t2_loop i w).OK := (t2_all i w h).1.1
theorem t2_trips : (k0_t2_loop i w).trips = (i 1).val + 1 - w.toNat / 256 := (t2_all i w h).1.2
theorem t3_ok : (k0_t3_loop i w).OK := (t2_all i w h).2.1
theorem t3_trips : (k0_t3_loop i w).trips = 0 := (t2_all i w h).2.2
theorem t4_ok : (k0_t4_loop i w).OK := (t2_all i w h).1.1
theorem t4_trips : (k0_t4_loop i w).trips = (i 1).val + 1 - w.toNat / 256 := (t2_all i w h).1.2
theorem t5_ok : (k0_t5_loop i w).OK := (t2_all i w h).2.1
theorem t5_trips : (k0_t5_loop i w).trips = 0 := (t2_all i w h).2.2
theorem t6_ok : (k0_t6_loop i w).OK := (t2_all i w h).1.1
theorem t6_trips : (k0_t6_loop i w).trips = (i 1).val + 1 - w.toNat / 256 := (t2_all i w h).1.2
theorem t7_ok : (k0_t7_loop i w).OK := (t2_all i w h).2.1
theorem t7_trips : (k0_t7_loop i w).trips = 0 := (t2_all i w h).2.2

theorem t2_lt (j : Fin (k0_t2_loop i w).trips) : j.val < (i 1).val + 1 - w.toNat / 256 := lt_of_lt_of_eq j.isLt (t2_trips i w h)
theorem t4_lt (j : Fin (k0_t4_loop i w).trips) : j.val < (i 1).val + 1 - w.toNat / 256 := lt_of_lt_of_eq j.isLt (t4_trips i w h)
theorem t6_lt (j : Fin (k0_t6_loop i w).trips) : j.val < (i 1).val + 1 - w.toNat / 256 := lt_of_lt_of_eq j.isLt (t6_trips i w h)
theorem t3_lt (j : Fin (k0_t3_loop i w).trips) : j.val < 0 := lt_of_lt_of_eq j.isLt (t3_trips i w h)
theorem t5_lt (j : Fin (k0_t5_loop i w).trips) : j.val < 0 := lt_of_lt_of_eq j.isLt (t5_trips i w h)
theorem t7_lt (j : Fin (k0_t7_loop i w).trips) : j.val < 0 := lt_of_lt_of_eq j.isLt (t7_trips i w h)

theorem blk_off {n k : ℕ} (hk : k < (i 1).val + 1 - w.toNat / 256) (hn : n = k) :
    Scalar.muli (Scalar.addi (firstBlk w) (Scf.iv 0#32 1#32 n)) 256#32 = BitVec.ofNat 32 ((w.toNat / 256 + k) * 256) ∧
      Scalar.muli (Scf.iv 0#32 1#32 n) 256#32 = BitVec.ofNat 32 (k * 256) := by
  subst hn
  have hi : (i 1).val < 16 := (i 1).isLt
  rw [firstBlk_eq h]
  exact off_fin ⟨w.toNat / 256, by omega⟩ ⟨n, by omega⟩

theorem toNat_blk {k : ℕ} (hk : k < (i 1).val + 1 - w.toNat / 256) :
    (Scalar.muli (Scalar.addi (firstBlk w) (Scf.iv 0#32 1#32 k)) 256#32).toNat = (w.toNat / 256 + k) * 256 := by
  have hi : (i 1).val < 16 := (i 1).isLt
  rw [(blk_off i w h hk rfl).1, BitVec.toNat_ofNat]; omega
theorem toNat_row {k : ℕ} (hk : k < (i 1).val + 1 - w.toNat / 256) :
    (Scalar.muli (Scf.iv 0#32 1#32 k) 256#32).toNat = k * 256 := by
  have hi : (i 1).val < 16 := (i 1).isLt
  rw [(blk_off i w h hk rfl).2, BitVec.toNat_ofNat]; omega
end

theorem toNat_head (k : Fin k0_t1_loop.trips) : (Scf.iv 0#32 1#32 k.val).toNat = k.val := by
  have : k.val < 32 := k.isLt
  rw [head_fin ⟨k.val, this⟩, BitVec.toNat_ofNat]
  show k.val % _ = _
  omega

section
variable (i : grid0.Coords) (w : BitVec 32) (h : w.toNat ≤ 4096)
include h

theorem off69_eq (k : Fin k0_t1_loop.trips) (j : Fin (k0_t2_loop i w).trips) :
    k0_off69 i w k j = ![k.val, (w.toNat / 256 + j.val) * 256, 0] := by
  rw [← toNat_blk i w h (t2_lt i w h j), ← toNat_head k]; rfl
theorem off70_eq (k : Fin k0_t1_loop.trips) (j : Fin (k0_t2_loop i w).trips) :
    k0_off70 i w k j = ![k.val, 0, (w.toNat / 256 + j.val) * 256] := by
  rw [← toNat_blk i w h (t2_lt i w h j), ← toNat_head k]; rfl
theorem off71_eq (j : Fin (k0_t2_loop i w).trips) : k0_off71 i w j = ![j.val * 256, 0] := by
  rw [← toNat_row i w h (t2_lt i w h j)]; rfl
theorem off75_eq (j : Fin (k0_t4_loop i w).trips) : k0_off75 i w j = ![j.val * 256, 0] := by
  rw [← toNat_row i w h (t4_lt i w h j)]; rfl
theorem off77_eq (j : Fin (k0_t6_loop i w).trips) : k0_off77 i w j = ![j.val * 256, 0] := by
  rw [← toNat_row i w h (t6_lt i w h j)]; rfl
theorem off78_eq (k : Fin k0_t1_loop.trips) (j : Fin (k0_t6_loop i w).trips) :
    k0_off78 i w k j = ![k.val, 0, (w.toNat / 256 + j.val) * 256] := by
  rw [← toNat_blk i w h (t6_lt i w h j), ← toNat_head k]; rfl

/-- What the kernel assumes of the word it reads from the table holds of every count of at most 4096. -/
theorem chk1 : k0_chk1 i w := by
  have hi : (i 1).val < 16 := (i 1).isLt
  have z3 : ∀ j : Fin (k0_t3_loop i w).trips, False := fun j => absurd (t3_lt i w h j) (Nat.not_lt_zero _)
  have z5 : ∀ j : Fin (k0_t5_loop i w).trips, False := fun j => absurd (t5_lt i w h j) (Nat.not_lt_zero _)
  have z7 : ∀ j : Fin (k0_t7_loop i w).trips, False := fun j => absurd (t7_lt i w h j) (Nat.not_lt_zero _)
  refine ⟨t2_ok i w h, fun j => ?_, fun k j => ?_, fun k j => ?_, fun j => ?_, fun j => ?_, t3_ok i w h,
    fun j => (z3 j).elim, fun _ j => (z3 j).elim, fun _ j => (z3 j).elim, fun j => (z3 j).elim, fun j => (z3 j).elim,
    t4_ok i w h, fun j => ?_, fun j => ?_, t5_ok i w h, fun j => (z5 j).elim, fun j => (z5 j).elim,
    t6_ok i w h, fun j => ?_, fun j => ?_, fun j => ?_, fun k j => ?_, t7_ok i w h, fun j => (z7 j).elim,
    fun j => (z7 j).elim, fun j => (z7 j).elim, fun _ j => (z7 j).elim⟩
  · exact ⟨w.toNat / 256 + j.val, by rw [Nat.mul_comm, ← toNat_blk i w h (t2_lt i w h j)]; rfl⟩
  · rw [off69_eq i w h]; have := t2_lt i w h j; have hk : k.val < 32 := k.isLt
    intro a; match a with
    | 0 => show k.val + 1 ≤ 32; omega
    | 1 => show (w.toNat / 256 + j.val) * 256 + 256 ≤ 4096; omega
    | 2 => show 0 + 128 ≤ 128; omega
  · rw [off70_eq i w h]; have := t2_lt i w h j; have hk : k.val < 32 := k.isLt
    intro a; match a with
    | 0 => show k.val + 1 ≤ 32; omega
    | 1 => show 0 + 1 ≤ 1; omega
    | 2 => show (w.toNat / 256 + j.val) * 256 + 256 ≤ 4096; omega
  · exact ⟨j.val, by rw [Nat.mul_comm, ← toNat_row i w h (t2_lt i w h j)]; rfl⟩
  · rw [off71_eq i w h]; have := t2_lt i w h j
    intro a; match a with
    | 0 => show j.val * 256 + 256 ≤ 4096; omega
    | 1 => show 0 + 256 ≤ 256; omega
  · exact ⟨j.val, by rw [Nat.mul_comm, ← toNat_row i w h (t4_lt i w h j)]; rfl⟩
  · rw [off75_eq i w h]; have := t4_lt i w h j
    intro a; match a with
    | 0 => show j.val * 256 + 256 ≤ 4096; omega
    | 1 => show 0 + 256 ≤ 256; omega
  · exact ⟨j.val, by rw [Nat.mul_comm, ← toNat_row i w h (t6_lt i w h j)]; rfl⟩
  · rw [off77_eq i w h]; have := t6_lt i w h j
    intro a; match a with
    | 0 => show j.val * 256 + 256 ≤ 4096; omega
    | 1 => show 0 + 256 ≤ 256; omega
  · exact ⟨w.toNat / 256 + j.val, by rw [Nat.mul_comm, ← toNat_blk i w h (t6_lt i w h j)]; rfl⟩
  · rw [off78_eq i w h]; have := t6_lt i w h j; have hk : k.val < 32 := k.isLt
    intro a; match a with
    | 0 => show k.val + 1 ≤ 32; omega
    | 1 => show 0 + 128 ≤ 128; omega
    | 2 => show (w.toNat / 256 + j.val) * 256 + 256 ≤ 4096; omega
end
end Cert.Kernel.Hand
end
-- ==== Proof.KernelBody.lean ====
module

public import proofs.«01_k».proof.Proof.KernelTrip
public import proofs.«01_k».proof.Proof.KernelRange

@[expose] public section

set_option maxRecDepth 16384
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a grid point, from any contents of its buffers: it ends, the table and the staged inputs as they were. -/
theorem sound_kernel (c : Dev nD) (q : PosShare TreeShare) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty)
    (hX2 : ∀ x, (View.readAt (Elt F) arg2.view (Rect.unit (s := S8x16) (k0_off66 i) S1x1.size (k0_off66_inb i)).toLoadRect X2 x).toNat ≤ 4096)
    (K : PUnit → sProp 𝕄) :
    iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ ((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) -∗ K ⟨⟩))
      ⊢ wp frame (wpE (defs₀ (F := F)) Variants.none (c : Thread nD τ) none) Set.univ (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]
  unfold cc0__body_skel
  simp only [k0_part20_eq_skeleton]
  unfold k0_part20_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [bind_assoc, pure_bind]
  iintro ⟨H2, H3, H4, H5, H6, H7, H8, H9, H10, H11, H12, H13, H14, H15, H16, H17, H18, Hk⟩
  sl_exec
  have hchk : k0_chk1 i (sound_kernel.sl.r i arg2 X2) := by
    unfold sound_kernel.sl.r
    exact chk1 i _ (hX2 _)
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Kernel.Hand

end

end
-- ==== Proof.KernelTable.lean ====
module

public import proofs.«01_k».proof.Proof.Gen.Kernel.Launch
public import Idealize.ShloMosaic.PureOps.Reduce
public import Idealize.ShloMosaic.Lib.Pointwise.Index

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- Each buffer's contents when the region is entered. -/
def V (c : Dev nD) (b : Ref sig .tc) : Buf (Elt F) ((c.tc : Thread nD τ).loc b) :=
  StableHlo.after hostOps0 (fun b => m (c, b)) b

/-- The sum of zeros and ones counts the ones. -/
theorem fold_addi {ι : Type} [DecidableEq ι] (s : Finset ι) (f : ι → BitVec 32) (p : ι → Prop) [DecidablePred p]
    (h : ∀ k, f k = if p k then 1#32 else 0#32) :
    s.fold IntOp.addi 0#32 f = BitVec.ofNat 32 (s.filter p).card := by
  induction s using Finset.induction_on with
  | empty => rfl
  | insert a s ha ih =>
    rw [Finset.fold_insert ha, ih, h a, Finset.filter_insert]
    by_cases hp : p a
    · rw [if_pos hp, if_pos hp, Finset.card_insert_of_notMem (fun hm => ha (Finset.mem_filter.1 hm).1)]
      apply BitVec.eq_of_toNat_eq
      simp [IntOp.addi, Nat.add_comm]
    · rw [if_neg hp, if_neg hp]
      apply BitVec.eq_of_toNat_eq
      simp [IntOp.addi]

theorem reduces_keys : S8x16x4096.Reduces [2] S8x16 := by decide

/-- The table: how many keys of the batch have a document below the one of the block's first query. -/
theorem tbl_eq (c : Dev nD) : V m c main_v7 = Host.reduce IntOp.addi (extui 32 (cmpi .slt
      (broadcastInDim S8x16x4096 ![0, 1, 2] bcast_S8x1x4096_S8x16x4096_0_1_2 (broadcastInDim S8x1x4096 ![0, 2] bcast_S8x4096_S8x1x4096_0_2 (m ((c.tc : Thread nD τ).loc main_arg6))))
      (broadcastInDim S8x16x4096 ![0, 1, 2] bcast_S8x16x1_S8x16x4096_0_1_2 (broadcastInDim S8x16x1 ![0, 1] bcast_S8x16_S8x16x1_0_1
        (Host.slice S8x16 ![0, 0] ![1, 256] (m ((c.tc : Thread nD τ).loc main_arg6)) slicesBy_S8x4096_S8x16_0s1_0s256)))) natLt_1_32)
      (constantI S_ 32 0#32) reducesTo_S8x16x4096_S8x16_d2 h_S_ := by
  unfold V
  after_results

/-- The document of key `j` of batch `b`. -/
def doc (c : Dev nD) (b : Fin 8) (j : Fin 4096) : BitVec 32 := m ((c.tc : Thread nD τ).loc main_arg6) (ix2 b j)

theorem tbl_val (c : Dev nD) (x : S8x16.Idx) : V m c main_v7 x
    = BitVec.ofNat 32 (Finset.univ.filter fun j : Fin 4096 => (doc m c (x 0) j).slt (doc m c (x 0) ⟨256 * (x 1).val, by have := (x 1).isLt; simp at this; omega⟩) = true).card := by
  rw [tbl_eq, Host.reduce_eq_fold_single IntOp.addi _ _ _ reduces_keys]
  apply fold_addi
  intro k
  have h0 : (reduces_keys.lift x k (0 : Fin 3)).val = (x 0).val := rfl
  have h1 : (reduces_keys.lift x k (1 : Fin 3)).val = (x 1).val := rfl
  have h2 : (reduces_keys.lift x k (2 : Fin 3)).val = k.val := rfl
  have hk : (broadcastInDim S8x16x4096 ![0, 1, 2] bcast_S8x1x4096_S8x16x4096_0_1_2 (broadcastInDim S8x1x4096 ![0, 2] bcast_S8x4096_S8x1x4096_0_2 (m ((c.tc : Thread nD τ).loc main_arg6)))) (reduces_keys.lift x k)
      = doc m c (x 0) k := by
    refine congrArg (m ((c.tc : Thread nD τ).loc main_arg6)) (funext fun a => ?_)
    fin_cases a
    · exact Fin.ext h0
    · exact Fin.ext h2
  have hq : (broadcastInDim S8x16x4096 ![0, 1, 2] bcast_S8x16x1_S8x16x4096_0_1_2 (broadcastInDim S8x16x1 ![0, 1] bcast_S8x16_S8x16x1_0_1
        (Host.slice S8x16 ![0, 0] ![1, 256] (m ((c.tc : Thread nD τ).loc main_arg6)) slicesBy_S8x4096_S8x16_0s1_0s256))) (reduces_keys.lift x k)
      = doc m c (x 0) ⟨256 * (x 1).val, by have := (x 1).isLt; simp at this; omega⟩ := by
    refine congrArg (m ((c.tc : Thread nD τ).loc main_arg6)) (funext fun a => ?_)
    fin_cases a
    · exact Fin.ext (show 0 + 1 * (reduces_keys.lift x k (0 : Fin 3)).val = (x 0).val by rw [h0]; omega)
    · exact Fin.ext (show 0 + 256 * (reduces_keys.lift x k (1 : Fin 3)).val = 256 * (x 1).val by rw [h1]; omega)
  show (BitVec.ofBool (BitVec.slt _ _)).setWidth 32 = _
  rw [hk, hq]
  cases (doc m c (x 0) k).slt (doc m c (x 0) ⟨256 * (x 1).val, _⟩) <;> rfl

theorem tbl_le (c : Dev nD) (x : S8x16.Idx) : (V m c main_v7 x : BitVec 32).toNat ≤ 4096 := by
  rw [tbl_val]
  refine le_trans (BitVec.toNat_ofNat .. ▸ Nat.mod_le _ _) ((Finset.card_filter_le _ _).trans (by simp))

end Cert.Kernel.Hand

end

end
-- ==== Proof.KernelFrame.lean ====
module

public import proofs.«01_k».proof.Proof.KernelBody
public import proofs.«01_k».proof.Proof.KernelTable

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents when the region is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table as admissible contents. -/
abbrev adm : (pcfg0 (F := F)).Adm := ⟨tbl m, trivial⟩

/-- The pipeline at the table. -/
abbrev cfgM : Cfg sig Λ₀ := cfg0 (adm m)

/-- The data of the frame: nothing is said of what the body leaves. -/
def rdat (c : Dev nD) : RDat τ (Elt F) Unit ℕ (UR sig nD τ) ℕ (Pipeline.pin (pcfgs (F := F)) (fun _ => adm m) 0) c where
  A w := V m c (arrRef spec0 w)
  after _ _ _ _ := True
  Φ _ := iprop(ΦA spec0 c ∗ ΦT pre0 (tbl m) c)
  q _ := fullShare
  owed _ := 0

theorem PhiT_eq (c : Dev nD) : (Pipeline.ΦT pre0 (tbl m) c : sProp 𝕄)
    = iprop((Memref.whole main_v7).view.loc (c : Thread nD τ) ↦{fullShare.right} (V m 0 main_v7)) := by
  unfold Pipeline.ΦT Pipeline.prefHeld
  rw [show (Finset.univ : Finset (Fin 1)) = {(0 : Fin 1)} from by decide, bigSep_singleton]
  rfl

/-- The body at point `t`. -/
abbrev bodyAt (t : Fin grid0.N) (s : (w : Fin 9) → Fin (spec0 w).nbuf) : Prog (TpuEff nD τ sig (Elt F) Λ₀ .tc) PUnit :=
  cc0__body (F := F) (grid0.coords t) (Memref.whole main_v7) (Memref.isWhole_whole _)
    (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (spec0_6.stage (s 6)) (hstage0_6 ((s 6).cast nbuf0_6)) (spec0_7.stage (s 7)) (hstage0_7 ((s 7).cast nbuf0_7))
    (spec0_8.stage (s 8)) (hstage0_8 ((s 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)

theorem defs₀_row (t : Fin (cfgM m).N) :
    defs₀ (F := F) .tc (cfgM m).body ((cfgM m).bodyArgs t ((cfgM m).slots t)) = bodyAt t ((cfgM m).slots t) := by
  unfold defs₀; rw [Defs.onTc_tc]

theorem whole_pt (c : Dev nD) (b : Ref sig .tc) (q : PosShare TreeShare) (f : Buf (Elt F) ((c : Thread nD τ).loc b)) :
    ((((c : Thread nD τ).loc b) ↦{q} f : sProp 𝕄)) = ((Memref.whole b).view.loc (c : Thread nD τ) ↦[(Memref.whole b).view.set]{q} f) := by
  rw [View.set_whole]

set_option maxHeartbeats 4000000 in
theorem sound_body (c : Dev nD) (t : Fin grid0.N) (s : (w : Fin 9) → Fin (spec0 w).nbuf) (O : sProp 𝕄) (Y0 : spec0_0.block.Idx → Elt F spec0_0.elt) (Y1 : spec0_1.block.Idx → Elt F spec0_1.elt) (Y2 : spec0_2.block.Idx → Elt F spec0_2.elt) (Y3 : spec0_3.block.Idx → Elt F spec0_3.elt) (Y4 : spec0_4.block.Idx → Elt F spec0_4.elt) (Y5 : spec0_5.block.Idx → Elt F spec0_5.elt) (Y6 : spec0_6.block.Idx → Elt F spec0_6.elt) (Y7 : spec0_7.block.Idx → Elt F spec0_7.elt) (Y8 : spec0_8.block.Idx → Elt F spec0_8.elt) :
    iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) ∗ ((c : Thread nD τ).loc main_v7 ↦{fullShare.right} (V m 0 main_v7))) ∗ O ∗ owns (c : Thread nD τ) (spec0_0.stage (s 0)) fullShare Y0 ∗ owns (c : Thread nD τ) (spec0_1.stage (s 1)) fullShare Y1 ∗ owns (c : Thread nD τ) (spec0_2.stage (s 2)) fullShare Y2 ∗ owns (c : Thread nD τ) (spec0_3.stage (s 3)) fullShare Y3 ∗ owns (c : Thread nD τ) (spec0_4.stage (s 4)) fullShare Y4 ∗ owns (c : Thread nD τ) (spec0_5.stage (s 5)) fullShare Y5 ∗ owns (c : Thread nD τ) (spec0_6.stage (s 6)) fullShare Y6 ∗ owns (c : Thread nD τ) (spec0_7.stage (s 7)) fullShare Y7 ∗ owns (c : Thread nD τ) (spec0_8.stage (s 8)) fullShare Y8)
    ⊢ wp frame (wpE (defs₀ (F := F)) Variants.none c none) Set.univ (bodyAt t s) (fun _ =>
    iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) ∗ ((c : Thread nD τ).loc main_v7 ↦{fullShare.right} (V m 0 main_v7))) ∗ O ∗ (∃ X, ⌜True⌝ ∗ owns (c : Thread nD τ) (spec0_0.stage (s 0)) fullShare X) ∗ (∃ X, ⌜True⌝ ∗ owns (c : Thread nD τ) (spec0_1.stage (s 1)) fullShare X) ∗ (∃ X, ⌜True⌝ ∗ owns (c : Thread nD τ) (spec0_2.stage (s 2)) fullShare X) ∗ (∃ X, ⌜True⌝ ∗ owns (c : Thread nD τ) (spec0_3.stage (s 3)) fullShare X) ∗ (∃ X, ⌜True⌝ ∗ owns (c : Thread nD τ) (spec0_4.stage (s 4)) fullShare X) ∗ (∃ X, ⌜True⌝ ∗ owns (c : Thread nD τ) (spec0_5.stage (s 5)) fullShare X) ∗ (∃ X, ⌜True⌝ ∗ owns (c : Thread nD τ) (spec0_6.stage (s 6)) fullShare X) ∗ (∃ X, ⌜True⌝ ∗ owns (c : Thread nD τ) (spec0_7.stage (s 7)) fullShare X) ∗ (∃ X, ⌜True⌝ ∗ owns (c : Thread nD τ) (spec0_8.stage (s 8)) fullShare X))) := by
  unfold bodyAt
  simp only [whole_pt]
  unfold owns
  iintro ⟨⟨⟨⟨⟨%f0, S0⟩, ⟨%f1, S1⟩, ⟨%f2, S2⟩, ⟨%f3, S3⟩, ⟨%f4, S4⟩, ⟨%f5, S5⟩, ⟨%f6, S6⟩⟩, Hr⟩, HT⟩, Ho, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩⟩
  iapply (sound_kernel c fullShare.right (grid0.coords t) (Memref.whole main_v7) (Memref.isWhole_whole _) (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (spec0_6.stage (s 6)) (hstage0_6 ((s 6).cast nbuf0_6)) (spec0_7.stage (s 7)) (hstage0_7 ((s 7).cast nbuf0_7))
    (spec0_8.stage (s 8)) (hstage0_8 ((s 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (V m 0 main_v7) g0 g1 g2 g3 g4 g5 g6 g7 g8 f0 f1 f2 f3 f4 f5 f6 (fun x => tbl_le m 0 _) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨HT, H0, H1, H2, H3, H4, H5, H6, ⟨%g7', H7⟩, ⟨%g8', H8⟩, ⟨%f0', S0⟩, ⟨%f1', S1⟩, ⟨%f2', S2⟩, ⟨%f3', S3⟩, ⟨%f4', S4⟩, ⟨%f5', S5⟩, ⟨%f6', S6⟩⟩
  isplitl [HT S0 S1 S2 S3 S4 S5 S6 Hr]
  · isplitr [HT]
    · isplitr [Hr]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hr
    · iexact HT
  isplitl [Ho]; · iexact Ho
  isplitl [H0]
  · iexists Y0; isplitr; · ipureintro; trivial
    iexists g0; isplitr; · ipureintro; exact e0
    iexact H0
  isplitl [H1]
  · iexists Y1; isplitr; · ipureintro; trivial
    iexists g1; isplitr; · ipureintro; exact e1
    iexact H1
  isplitl [H2]
  · iexists Y2; isplitr; · ipureintro; trivial
    iexists g2; isplitr; · ipureintro; exact e2
    iexact H2
  isplitl [H3]
  · iexists Y3; isplitr; · ipureintro; trivial
    iexists g3; isplitr; · ipureintro; exact e3
    iexact H3
  isplitl [H4]
  · iexists Y4; isplitr; · ipureintro; trivial
    iexists g4; isplitr; · ipureintro; exact e4
    iexact H4
  isplitl [H5]
  · iexists Y5; isplitr; · ipureintro; trivial
    iexists g5; isplitr; · ipureintro; exact e5
    iexact H5
  isplitl [H6]
  · iexists Y6; isplitr; · ipureintro; trivial
    iexists g6; isplitr; · ipureintro; exact e6
    iexact H6
  isplitl [H7]
  · iexists (View.read (Elt F) (spec0_7.stage (s 7)).view g7'); isplitr; · ipureintro; trivial
    iexists g7'; isplitr; · ipureintro; exact rfl
    iexact H7
  iexists (View.read (Elt F) (spec0_8.stage (s 8)).view g8'); isplitr; · ipureintro; trivial
  iexists g8'; isplitr; · ipureintro; exact rfl
  iexact H8

theorem body_obligation (c : Dev nD) : (rdat m c).BodyObligation (defs₀ (F := F)) Variants.none () Set.univ := fun t Y hY => by
  rw [bigSep_W0, bigSep_W0, defs₀_row m t]
  rw [show (rdat m c).Φ t.succ = (rdat m c).Φ t.castSucc from rfl,
    show (rdat m c).owesAt () t.succ = (rdat m c).owesAt () t.castSucc from rfl,
    show (rdat m c).Φ t.castSucc = iprop((scopedRest spec0 c ∗ ∃ r, prngReg c r) ∗ ΦT pre0 (tbl m) c) from rfl, PhiT_eq, scopedRest0_eq]
  exact sound_body m c t _ _ (Y 0) (Y 1) (Y 2) (Y 3) (Y 4) (Y 5) (Y 6) (Y 7) (Y 8)

theorem hmain : HMainP (Ix := Unit) (Name := ℕ) (U := UR sig nD τ) (Lvl := ℕ) (pcfgs (F := F)) 0 defs₀ Variants.none m (main (F := F)) (V m) :=
  hmainP_prefix (pcfgs (F := F)) 0 defs₀ Variants.none m main hostOps0 hostOps0_sub
    ⟨rfl, rfl, rfl, rfl, rfl, rfl, rfl, rfl, rfl, rfl, rfl, rfl, rfl⟩ (main_chain (F := F))

set_option backward.isDefEq.respectTransparency.types false in
set_option maxHeartbeats 800000 in
theorem run_main : θ_run defs (onTc (τ := τ) (main (F := F))) (s₀ m ρ)
    (fun r => RDat.FramePost (Pipeline.pin (pcfgs (F := F)) (fun _ => adm m) 0) (rdat m) (V m) r ∧ r.2.sem = fun _ => 0) :=
  RDat.θ_run_frameP (Q' := _) pcfgs (fun _ => adm m) (0 : Fin 1) launch0 defs₀ Variants.none (rdat m) m ρ main
    (hbody := body_obligation m) (hshare := fun c w => by unfold RDat.share; split <;> rfl)
    (howed := fun _ _ => rfl) (V := V m) (hmain := hmain m) (hA := fun _ _ => rfl) (hpf := V_pre m) (hΦ := fun _ _ => rfl)

theorem V_arg (c : Dev nD) (b : Ref sig .tc) (h : b ∈ [main_arg0, main_arg1, main_arg2, main_arg3, main_arg4, main_arg5, main_arg6]) :
    V m c b = m ((c : Thread nD τ).loc b) := by
  simp only [List.mem_cons, List.not_mem_nil, or_false] at h
  rcases h with rfl | rfl | rfl | rfl | rfl | rfl | rfl <;> (unfold V; after_results)

/-- The program ends from any memory, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1.arr_in c 0 rfl).trans (V_arg m c main_arg0 (by simp)),
    ((h.1 c).2 main_arg1 (mem_restRefs_of (win := spec0) _ rfl (by decide))).trans (V_arg m c main_arg1 (by simp)),
    (h.1.arr_in c 5 rfl).trans (V_arg m c main_arg2 (by simp)),
    (h.1.arr_in c 6 rfl).trans (V_arg m c main_arg3 (by simp)),
    ((h.1 c).2 main_arg4 (mem_restRefs_of (win := spec0) _ rfl (by decide))).trans (V_arg m c main_arg4 (by simp)),
    ((h.1 c).2 main_arg5 (mem_restRefs_of (win := spec0) _ rfl (by decide))).trans (V_arg m c main_arg5 (by simp)),
    ((h.1 c).2 main_arg6 (mem_restRefs_of (win := spec0) _ rfl (by decide))).trans (V_arg m c main_arg6 (by simp))⟩, h.2⟩) (run_main m ρ)

end Cert.Kernel.Hand

end

end
-- ==== Proof.KernelIdealRange.lean ====
module
public import proofs.«01_k».proof.Proof.Gen.KernelIdeal.Launch
@[expose] public section
open Idealize.ShloMosaic
open Cert Cert.KernelIdeal

namespace Cert.KernelIdeal.Hand

/-- The block of 256 keys that holds key `w`, as the kernel computes it: the floor of `w / 256`. -/
def firstBlk (w : BitVec 32) : BitVec 32 :=
  Scalar.select
    (Scalar.andi
      (Scalar.cmpi .ne
        (Scalar.subi (Scalar.extui (Scalar.cmpi .sgt w 0#32)) (Scalar.extui (Scalar.cmpi .slt w 0#32)))
        (Scalar.subi (Scalar.extui (Scalar.cmpi .sgt 256#32 0#32)) (Scalar.extui (Scalar.cmpi .slt 256#32 0#32))))
      (Scalar.cmpi .ne (Scalar.remsi w 256#32) 0#32))
    (Scalar.subi (Scalar.divsi w 256#32) 1#32) (Scalar.divsi w 256#32)

theorem firstBlk_fin : ∀ n : Fin 4097, firstBlk (BitVec.ofNat 32 n.val) = BitVec.ofNat 32 (n.val / 256) := by
  decide +kernel

/-- For a count of at most 4096 the kernel's block is `w / 256`. -/
theorem firstBlk_eq {w : BitVec 32} (h : w.toNat ≤ 4096) : firstBlk w = BitVec.ofNat 32 (w.toNat / 256) := by
  have := firstBlk_fin ⟨w.toNat, by omega⟩
  simpa using this

/-- The number of the chunks from the window's first block to the diagonal, as the kernel computes it. -/
def chunks (a b : BitVec 32) : BitVec 32 := Scalar.subi (Scalar.addi a 1#32) b

theorem loop_fin : ∀ (a : Fin 16) (q : Fin 17),
    let n := chunks (BitVec.ofNat 32 a.val) (BitVec.ofNat 32 q.val)
    let u := Scalar.addi 0#32 (Scalar.muli (Scalar.divsi (Scalar.subi n 0#32) 1#32) 1#32)
    Scf.OK 0#32 u 1#32 ∧ Scf.trips 0#32 u 1#32 = a.val + 1 - q.val ∧
      Scf.OK u (Scalar.addi 0#32 (Scalar.subi n 0#32)) 1#32 ∧
      Scf.trips u (Scalar.addi 0#32 (Scalar.subi n 0#32)) 1#32 = 0 := by
  decide +kernel

theorem off_fin : ∀ (q k : Fin 17),
    Scalar.muli (Scalar.addi (BitVec.ofNat 32 q.val) (Scf.iv 0#32 1#32 k.val)) 256#32 = BitVec.ofNat 32 ((q.val + k.val) * 256) ∧
      Scalar.muli (Scf.iv 0#32 1#32 k.val) 256#32 = BitVec.ofNat 32 (k.val * 256) := by
  decide +kernel

theorem head_fin : ∀ (k : Fin 32), (Scf.iv 0#32 1#32 k.val) = BitVec.ofNat 32 k.val := by
  decide +kernel

section
variable (i : grid0.Coords) (w : BitVec 32) (h : w.toNat ≤ 4096)
include h

theorem t2_all :
    ((k0_t2_loop i w).OK ∧ (k0_t2_loop i w).trips = (i 1).val + 1 - w.toNat / 256) ∧
      (k0_t3_loop i w).OK ∧ (k0_t3_loop i w).trips = 0 := by
  have := loop_fin ⟨(i 1).val, (i 1).isLt⟩ ⟨w.toNat / 256, by omega⟩
  dsimp only at this
  rw [← firstBlk_eq h] at this
  exact ⟨⟨this.1, this.2.1⟩, this.2.2.1, this.2.2.2⟩

theorem t2_ok : (k0_t2_loop i w).OK := (t2_all i w h).1.1
theorem t2_trips : (k0_t2_loop i w).trips = (i 1).val + 1 - w.toNat / 256 := (t2_all i w h).1.2
theorem t3_ok : (k0_t3_loop i w).OK := (t2_all i w h).2.1
theorem t3_trips : (k0_t3_loop i w).trips = 0 := (t2_all i w h).2.2
theorem t4_ok : (k0_t4_loop i w).OK := (t2_all i w h).1.1
theorem t4_trips : (k0_t4_loop i w).trips = (i 1).val + 1 - w.toNat / 256 := (t2_all i w h).1.2
theorem t5_ok : (k0_t5_loop i w).OK := (t2_all i w h).2.1
theorem t5_trips : (k0_t5_loop i w).trips = 0 := (t2_all i w h).2.2
theorem t6_ok : (k0_t6_loop i w).OK := (t2_all i w h).1.1
theorem t6_trips : (k0_t6_loop i w).trips = (i 1).val + 1 - w.toNat / 256 := (t2_all i w h).1.2
theorem t7_ok : (k0_t7_loop i w).OK := (t2_all i w h).2.1
theorem t7_trips : (k0_t7_loop i w).trips = 0 := (t2_all i w h).2.2

theorem t2_lt (j : Fin (k0_t2_loop i w).trips) : j.val < (i 1).val + 1 - w.toNat / 256 := lt_of_lt_of_eq j.isLt (t2_trips i w h)
theorem t4_lt (j : Fin (k0_t4_loop i w).trips) : j.val < (i 1).val + 1 - w.toNat / 256 := lt_of_lt_of_eq j.isLt (t4_trips i w h)
theorem t6_lt (j : Fin (k0_t6_loop i w).trips) : j.val < (i 1).val + 1 - w.toNat / 256 := lt_of_lt_of_eq j.isLt (t6_trips i w h)
theorem t3_lt (j : Fin (k0_t3_loop i w).trips) : j.val < 0 := lt_of_lt_of_eq j.isLt (t3_trips i w h)
theorem t5_lt (j : Fin (k0_t5_loop i w).trips) : j.val < 0 := lt_of_lt_of_eq j.isLt (t5_trips i w h)
theorem t7_lt (j : Fin (k0_t7_loop i w).trips) : j.val < 0 := lt_of_lt_of_eq j.isLt (t7_trips i w h)

theorem blk_off {n k : ℕ} (hk : k < (i 1).val + 1 - w.toNat / 256) (hn : n = k) :
    Scalar.muli (Scalar.addi (firstBlk w) (Scf.iv 0#32 1#32 n)) 256#32 = BitVec.ofNat 32 ((w.toNat / 256 + k) * 256) ∧
      Scalar.muli (Scf.iv 0#32 1#32 n) 256#32 = BitVec.ofNat 32 (k * 256) := by
  subst hn
  have hi : (i 1).val < 16 := (i 1).isLt
  rw [firstBlk_eq h]
  exact off_fin ⟨w.toNat / 256, by omega⟩ ⟨n, by omega⟩

theorem toNat_blk {k : ℕ} (hk : k < (i 1).val + 1 - w.toNat / 256) :
    (Scalar.muli (Scalar.addi (firstBlk w) (Scf.iv 0#32 1#32 k)) 256#32).toNat = (w.toNat / 256 + k) * 256 := by
  have hi : (i 1).val < 16 := (i 1).isLt
  rw [(blk_off i w h hk rfl).1, BitVec.toNat_ofNat]; omega
theorem toNat_row {k : ℕ} (hk : k < (i 1).val + 1 - w.toNat / 256) :
    (Scalar.muli (Scf.iv 0#32 1#32 k) 256#32).toNat = k * 256 := by
  have hi : (i 1).val < 16 := (i 1).isLt
  rw [(blk_off i w h hk rfl).2, BitVec.toNat_ofNat]; omega
end

theorem toNat_head (k : Fin k0_t1_loop.trips) : (Scf.iv 0#32 1#32 k.val).toNat = k.val := by
  have : k.val < 32 := k.isLt
  rw [head_fin ⟨k.val, this⟩, BitVec.toNat_ofNat]
  show k.val % _ = _
  omega

section
variable (i : grid0.Coords) (w : BitVec 32) (h : w.toNat ≤ 4096)
include h

theorem off69_eq (k : Fin k0_t1_loop.trips) (j : Fin (k0_t2_loop i w).trips) :
    k0_off69 i w k j = ![k.val, (w.toNat / 256 + j.val) * 256, 0] := by
  rw [← toNat_blk i w h (t2_lt i w h j), ← toNat_head k]; rfl
theorem off70_eq (k : Fin k0_t1_loop.trips) (j : Fin (k0_t2_loop i w).trips) :
    k0_off70 i w k j = ![k.val, 0, (w.toNat / 256 + j.val) * 256] := by
  rw [← toNat_blk i w h (t2_lt i w h j), ← toNat_head k]; rfl
theorem off71_eq (j : Fin (k0_t2_loop i w).trips) : k0_off71 i w j = ![j.val * 256, 0] := by
  rw [← toNat_row i w h (t2_lt i w h j)]; rfl
theorem off75_eq (j : Fin (k0_t4_loop i w).trips) : k0_off75 i w j = ![j.val * 256, 0] := by
  rw [← toNat_row i w h (t4_lt i w h j)]; rfl
theorem off77_eq (j : Fin (k0_t6_loop i w).trips) : k0_off77 i w j = ![j.val * 256, 0] := by
  rw [← toNat_row i w h (t6_lt i w h j)]; rfl
theorem off78_eq (k : Fin k0_t1_loop.trips) (j : Fin (k0_t6_loop i w).trips) :
    k0_off78 i w k j = ![k.val, 0, (w.toNat / 256 + j.val) * 256] := by
  rw [← toNat_blk i w h (t6_lt i w h j), ← toNat_head k]; rfl

/-- What the kernel assumes of the word it reads from the table holds of every count of at most 4096. -/
theorem chk1 : k0_chk1 i w := by
  have hi : (i 1).val < 16 := (i 1).isLt
  have z3 : ∀ j : Fin (k0_t3_loop i w).trips, False := fun j => absurd (t3_lt i w h j) (Nat.not_lt_zero _)
  have z5 : ∀ j : Fin (k0_t5_loop i w).trips, False := fun j => absurd (t5_lt i w h j) (Nat.not_lt_zero _)
  have z7 : ∀ j : Fin (k0_t7_loop i w).trips, False := fun j => absurd (t7_lt i w h j) (Nat.not_lt_zero _)
  refine ⟨t2_ok i w h, fun j => ?_, fun k j => ?_, fun k j => ?_, fun j => ?_, fun j => ?_, t3_ok i w h,
    fun j => (z3 j).elim, fun _ j => (z3 j).elim, fun _ j => (z3 j).elim, fun j => (z3 j).elim, fun j => (z3 j).elim,
    t4_ok i w h, fun j => ?_, fun j => ?_, t5_ok i w h, fun j => (z5 j).elim, fun j => (z5 j).elim,
    t6_ok i w h, fun j => ?_, fun j => ?_, fun j => ?_, fun k j => ?_, t7_ok i w h, fun j => (z7 j).elim,
    fun j => (z7 j).elim, fun j => (z7 j).elim, fun _ j => (z7 j).elim⟩
  · exact ⟨w.toNat / 256 + j.val, by rw [Nat.mul_comm, ← toNat_blk i w h (t2_lt i w h j)]; rfl⟩
  · rw [off69_eq i w h]; have := t2_lt i w h j; have hk : k.val < 32 := k.isLt
    intro a; match a with
    | 0 => show k.val + 1 ≤ 32; omega
    | 1 => show (w.toNat / 256 + j.val) * 256 + 256 ≤ 4096; omega
    | 2 => show 0 + 128 ≤ 128; omega
  · rw [off70_eq i w h]; have := t2_lt i w h j; have hk : k.val < 32 := k.isLt
    intro a; match a with
    | 0 => show k.val + 1 ≤ 32; omega
    | 1 => show 0 + 1 ≤ 1; omega
    | 2 => show (w.toNat / 256 + j.val) * 256 + 256 ≤ 4096; omega
  · exact ⟨j.val, by rw [Nat.mul_comm, ← toNat_row i w h (t2_lt i w h j)]; rfl⟩
  · rw [off71_eq i w h]; have := t2_lt i w h j
    intro a; match a with
    | 0 => show j.val * 256 + 256 ≤ 4096; omega
    | 1 => show 0 + 256 ≤ 256; omega
  · exact ⟨j.val, by rw [Nat.mul_comm, ← toNat_row i w h (t4_lt i w h j)]; rfl⟩
  · rw [off75_eq i w h]; have := t4_lt i w h j
    intro a; match a with
    | 0 => show j.val * 256 + 256 ≤ 4096; omega
    | 1 => show 0 + 256 ≤ 256; omega
  · exact ⟨j.val, by rw [Nat.mul_comm, ← toNat_row i w h (t6_lt i w h j)]; rfl⟩
  · rw [off77_eq i w h]; have := t6_lt i w h j
    intro a; match a with
    | 0 => show j.val * 256 + 256 ≤ 4096; omega
    | 1 => show 0 + 256 ≤ 256; omega
  · exact ⟨w.toNat / 256 + j.val, by rw [Nat.mul_comm, ← toNat_blk i w h (t6_lt i w h j)]; rfl⟩
  · rw [off78_eq i w h]; have := t6_lt i w h j; have hk : k.val < 32 := k.isLt
    intro a; match a with
    | 0 => show k.val + 1 ≤ 32; omega
    | 1 => show 0 + 128 ≤ 128; omega
    | 2 => show (w.toNat / 256 + j.val) * 256 + 256 ≤ 4096; omega
end
end Cert.KernelIdeal.Hand
end
-- ==== Proof.KernelIdealLoops.lean ====
module

public import proofs.«01_k».proof.Proof.Gen.KernelIdeal.Loops
public import Idealize.ShloMosaic.Lib.LoopRemainder
public import Idealize.ShloMosaic.Lib.Pointwise.Index
public import proofs.«01_k».proof.Proof.KernelIdealRange
public import Idealize.ShloMosaic.Lib.Pipeline.FrameBody

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What the score loop carries and has written before trip `n`: the running maximum and the tile of scores. -/
def st2 (i : grid0.Coords) (arg12 : Memref sig .tc .vmem S32x4096x128 .fp8e4m3) (arg14 : Memref sig .tc .vmem S32x1x4096 .f32) (arg17 : Memref sig .tc .vmem S4096x256 .f32) (v572 : IVec S256x256 32) (v592 : IVec S1x256 32) (v601 : Elt Ideal .i32) (k0_hw1 : k0_chk1 i v601) (v618 : BitVec 32) (v623 : IVec S1x256 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty) (init : FVec Ideal S1x256 .f32) : ℕ → FVec Ideal S1x256 .f32 × BufTy.Contents (Elt Ideal) arg17.view.ty
  | 0 => (init, G17)
  | n + 1 =>
    if h : n < (k0_t2_loop i v601).trips then
      (k0_pay8 i v572 v592 v601 v618 v623 v629 v632 ⟨n, h⟩ (st2 i arg12 arg14 arg17 v572 v592 v601 k0_hw1 v618 v623 k0_t1 v629 v632 X12 X14 G17 init n).1 (View.readAt (Elt Ideal) arg12.view (Rect.unit (s := S32x4096x128) (k0_off69 i v601 k0_t1 ⟨n, h⟩) S1x256x128.size (k0_off69_inb i v601 k0_hw1 k0_t1 ⟨n, h⟩)).toLoadRect X12) (View.readAt (Elt Ideal) arg14.view (Rect.unit (s := S32x1x4096) (k0_off70 i v601 k0_t1 ⟨n, h⟩) S1x1x256.size (k0_off70_inb i v601 k0_hw1 k0_t1 ⟨n, h⟩)).toLoadRect X14),
        arg17.view.writes (Elt Ideal) (st2 i arg12 arg14 arg17 v572 v592 v601 k0_hw1 v618 v623 k0_t1 v629 v632 X12 X14 G17 init n).2 [⟨Rect.unit (s := S4096x256) (k0_off71 i v601 ⟨n, h⟩) S256x256.size (k0_off71_inb i v601 k0_hw1 ⟨n, h⟩), k0_pay7 i v572 v592 v601 v618 v623 v629 v632 ⟨n, h⟩ (View.readAt (Elt Ideal) arg12.view (Rect.unit (s := S32x4096x128) (k0_off69 i v601 k0_t1 ⟨n, h⟩) S1x256x128.size (k0_off69_inb i v601 k0_hw1 k0_t1 ⟨n, h⟩)).toLoadRect X12) (View.readAt (Elt Ideal) arg14.view (Rect.unit (s := S32x1x4096) (k0_off70 i v601 k0_t1 ⟨n, h⟩) S1x1x256.size (k0_off70_inb i v601 k0_hw1 k0_t1 ⟨n, h⟩)).toLoadRect X14)⟩])
    else st2 i arg12 arg14 arg17 v572 v592 v601 k0_hw1 v618 v623 k0_t1 v629 v632 X12 X14 G17 init n

theorem st2_succ (i : grid0.Coords) (arg12 : Memref sig .tc .vmem S32x4096x128 .fp8e4m3) (arg14 : Memref sig .tc .vmem S32x1x4096 .f32) (arg17 : Memref sig .tc .vmem S4096x256 .f32) (v572 : IVec S256x256 32) (v592 : IVec S1x256 32) (v601 : Elt Ideal .i32) (k0_hw1 : k0_chk1 i v601) (v618 : BitVec 32) (v623 : IVec S1x256 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty) (init : FVec Ideal S1x256 .f32) (k : Fin (k0_t2_loop i v601).trips) :
    st2 i arg12 arg14 arg17 v572 v592 v601 k0_hw1 v618 v623 k0_t1 v629 v632 X12 X14 G17 init (k.val + 1) = (k0_pay8 i v572 v592 v601 v618 v623 v629 v632 k (st2 i arg12 arg14 arg17 v572 v592 v601 k0_hw1 v618 v623 k0_t1 v629 v632 X12 X14 G17 init k.val).1 (View.readAt (Elt Ideal) arg12.view (Rect.unit (s := S32x4096x128) (k0_off69 i v601 k0_t1 k) S1x256x128.size (k0_off69_inb i v601 k0_hw1 k0_t1 k)).toLoadRect X12) (View.readAt (Elt Ideal) arg14.view (Rect.unit (s := S32x1x4096) (k0_off70 i v601 k0_t1 k) S1x1x256.size (k0_off70_inb i v601 k0_hw1 k0_t1 k)).toLoadRect X14),
        arg17.view.writes (Elt Ideal) (st2 i arg12 arg14 arg17 v572 v592 v601 k0_hw1 v618 v623 k0_t1 v629 v632 X12 X14 G17 init k.val).2 [⟨Rect.unit (s := S4096x256) (k0_off71 i v601 k) S256x256.size (k0_off71_inb i v601 k0_hw1 k), k0_pay7 i v572 v592 v601 v618 v623 v629 v632 k (View.readAt (Elt Ideal) arg12.view (Rect.unit (s := S32x4096x128) (k0_off69 i v601 k0_t1 k) S1x256x128.size (k0_off69_inb i v601 k0_hw1 k0_t1 k)).toLoadRect X12) (View.readAt (Elt Ideal) arg14.view (Rect.unit (s := S32x1x4096) (k0_off70 i v601 k0_t1 k) S1x1x256.size (k0_off70_inb i v601 k0_hw1 k0_t1 k)).toLoadRect X14)⟩]) := by
  rw [st2, dif_pos k.isLt]

/-- The score loop's invariant. -/
@[sl_loop] def vInv_t2 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty) (init : FVec Ideal S1x256 .f32)
    (hw : v601.toNat ≤ 4096) (h618 : v618 = firstBlk v601) (h572 : ∀ r l : Fin 256, v572 (ix2 r l) = BitVec.ofNat 32 r.val) :
    LoopInvTy_k0_t2 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v629 v632 init where
  inv := fun k acc => iprop((arg12.view.loc (c : Thread nD τ) ↦[arg12.view.set]{fullShare} X12) ∗ (arg14.view.loc (c : Thread nD τ) ↦[arg14.view.set]{fullShare} X14) ∗ (∃ f, (arg17.view.loc (c : Thread nD τ) ↦[arg17.view.set]{fullShare} f) ∗ ⌜f = (st2 i arg12 arg14 arg17 v572 v592 v601 k0_hw1 v618 v623 k0_t1 v629 v632 X12 X14 G17 init k).2⌝) ∗ ⌜acc = (st2 i arg12 arg14 arg17 v572 v592 v601 k0_hw1 v618 v623 k0_t1 v629 v632 X12 X14 G17 init k).1⌝)
  step := fun k acc => by
    iintro ⟨H12, H14, ⟨%f, H17, %hf⟩, %hacc⟩
    subst hf; subst hacc
    unfold k0_t2_body
    sl_exec
    sl_step
    rw [st2_succ]
    isplitl [H12]; · iexact H12
    isplitl [H14]; · iexact H14
    isplitl [H17]
    · iexists _; isplitl [H17]; · iexact H17
      ipureintro; rfl
    ipureintro; rfl

/-- What the weight loop carries and has written before trip `n`: the running sum and the tile, its chunks before `n`
    turned from scores to weights. -/
def st4 (i : grid0.Coords) (arg17 : Memref sig .tc .vmem S4096x256 .f32) (v601 : Elt Ideal .i32) (k0_hw1 : k0_chk1 i v601) (v641 : FVec Ideal S1x256 .f32) (G17 : BufTy.Contents (Elt Ideal) arg17.view.ty) (init : FVec Ideal S1x256 .f32) : ℕ → FVec Ideal S1x256 .f32 × BufTy.Contents (Elt Ideal) arg17.view.ty
  | 0 => (init, G17)
  | n + 1 =>
    if h : n < (k0_t4_loop i v601).trips then
      (k0_pay15 v641 (st4 i arg17 v601 k0_hw1 v641 G17 init n).1 (View.readAt (Elt Ideal) arg17.view (Rect.unit (s := S4096x256) (k0_off75 i v601 ⟨n, h⟩) S256x256.size (k0_off75_inb i v601 k0_hw1 ⟨n, h⟩)).toLoadRect (st4 i arg17 v601 k0_hw1 v641 G17 init n).2),
        arg17.view.writes (Elt Ideal) (st4 i arg17 v601 k0_hw1 v641 G17 init n).2 [⟨Rect.unit (s := S4096x256) (k0_off75 i v601 ⟨n, h⟩) S256x256.size (k0_off75_inb i v601 k0_hw1 ⟨n, h⟩), k0_pay14 v641 (View.readAt (Elt Ideal) arg17.view (Rect.unit (s := S4096x256) (k0_off75 i v601 ⟨n, h⟩) S256x256.size (k0_off75_inb i v601 k0_hw1 ⟨n, h⟩)).toLoadRect (st4 i arg17 v601 k0_hw1 v641 G17 init n).2)⟩])
    else st4 i arg17 v601 k0_hw1 v641 G17 init n

theorem st4_succ (i : grid0.Coords) (arg17 : Memref sig .tc .vmem S4096x256 .f32) (v601 : Elt Ideal .i32) (k0_hw1 : k0_chk1 i v601) (v641 : FVec Ideal S1x256 .f32) (G17 : BufTy.Contents (Elt Ideal) arg17.view.ty) (init : FVec Ideal S1x256 .f32) (k : Fin (k0_t4_loop i v601).trips) :
    st4 i arg17 v601 k0_hw1 v641 G17 init (k.val + 1) = (k0_pay15 v641 (st4 i arg17 v601 k0_hw1 v641 G17 init k.val).1 (View.readAt (Elt Ideal) arg17.view (Rect.unit (s := S4096x256) (k0_off75 i v601 k) S256x256.size (k0_off75_inb i v601 k0_hw1 k)).toLoadRect (st4 i arg17 v601 k0_hw1 v641 G17 init k.val).2),
        arg17.view.writes (Elt Ideal) (st4 i arg17 v601 k0_hw1 v641 G17 init k.val).2 [⟨Rect.unit (s := S4096x256) (k0_off75 i v601 k) S256x256.size (k0_off75_inb i v601 k0_hw1 k), k0_pay14 v641 (View.readAt (Elt Ideal) arg17.view (Rect.unit (s := S4096x256) (k0_off75 i v601 k) S256x256.size (k0_off75_inb i v601 k0_hw1 k)).toLoadRect (st4 i arg17 v601 k0_hw1 v641 G17 init k.val).2)⟩]) := by
  rw [st4, dif_pos k.isLt]

/-- The weight loop's invariant. -/
@[sl_loop] def vInv_t4 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v641 : FVec Ideal S1x256 .f32) (G17 : BufTy.Contents (Elt Ideal) arg17.view.ty) (init : FVec Ideal S1x256 .f32) :
    LoopInvTy_k0_t4 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v641 init where
  inv := fun k acc => iprop((∃ f, (arg17.view.loc (c : Thread nD τ) ↦[arg17.view.set]{fullShare} f) ∗ ⌜f = (st4 i arg17 v601 k0_hw1 v641 G17 init k).2⌝) ∗ ⌜acc = (st4 i arg17 v601 k0_hw1 v641 G17 init k).1⌝)
  step := fun k acc => by
    iintro ⟨⟨%f, H17, %hf⟩, %hacc⟩
    subst hf; subst hacc
    unfold k0_t4_body
    sl_exec
    sl_step
    rw [st4_succ]
    isplitl [H17]
    · iexists _; isplitl [H17]; · iexact H17
      ipureintro; rfl
    ipureintro; rfl

/-- What the output loop carries before trip `n`: the sum of the weighted values of the chunks before `n`. -/
def st6 (i : grid0.Coords) (arg13 : Memref sig .tc .vmem S32x128x4096 .bf16) (arg17 : Memref sig .tc .vmem S4096x256 .f32) (v601 : Elt Ideal .i32) (k0_hw1 : k0_chk1 i v601) (k0_t1 : Fin k0_t1_loop.trips) (v649 : FVec Ideal S1x256 .f32) (X13 : BufTy.Contents (Elt Ideal) arg13.view.ty) (X17 : BufTy.Contents (Elt Ideal) arg17.view.ty) (init : FVec Ideal S128x256 .f32) : ℕ → FVec Ideal S128x256 .f32
  | 0 => init
  | n + 1 => if h : n < (k0_t6_loop i v601).trips then k0_pay21 v649 (st6 i arg13 arg17 v601 k0_hw1 k0_t1 v649 X13 X17 init n) (View.readAt (Elt Ideal) arg17.view (Rect.unit (s := S4096x256) (k0_off77 i v601 ⟨n, h⟩) S256x256.size (k0_off77_inb i v601 k0_hw1 ⟨n, h⟩)).toLoadRect X17) (View.readAt (Elt Ideal) arg13.view (Rect.unit (s := S32x128x4096) (k0_off78 i v601 k0_t1 ⟨n, h⟩) S1x128x256.size (k0_off78_inb i v601 k0_hw1 k0_t1 ⟨n, h⟩)).toLoadRect X13) else st6 i arg13 arg17 v601 k0_hw1 k0_t1 v649 X13 X17 init n

theorem st6_succ (i : grid0.Coords) (arg13 : Memref sig .tc .vmem S32x128x4096 .bf16) (arg17 : Memref sig .tc .vmem S4096x256 .f32) (v601 : Elt Ideal .i32) (k0_hw1 : k0_chk1 i v601) (k0_t1 : Fin k0_t1_loop.trips) (v649 : FVec Ideal S1x256 .f32) (X13 : BufTy.Contents (Elt Ideal) arg13.view.ty) (X17 : BufTy.Contents (Elt Ideal) arg17.view.ty) (init : FVec Ideal S128x256 .f32) (k : Fin (k0_t6_loop i v601).trips) : st6 i arg13 arg17 v601 k0_hw1 k0_t1 v649 X13 X17 init (k.val + 1) = k0_pay21 v649 (st6 i arg13 arg17 v601 k0_hw1 k0_t1 v649 X13 X17 init k.val) (View.readAt (Elt Ideal) arg17.view (Rect.unit (s := S4096x256) (k0_off77 i v601 k) S256x256.size (k0_off77_inb i v601 k0_hw1 k)).toLoadRect X17) (View.readAt (Elt Ideal) arg13.view (Rect.unit (s := S32x128x4096) (k0_off78 i v601 k0_t1 k) S1x128x256.size (k0_off78_inb i v601 k0_hw1 k0_t1 k)).toLoadRect X13) := by
  rw [st6, dif_pos k.isLt]

/-- The output loop's invariant. -/
@[sl_loop] def vInv_t6 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v649 : FVec Ideal S1x256 .f32) (X13 : BufTy.Contents (Elt Ideal) arg13.view.ty) (X17 : BufTy.Contents (Elt Ideal) arg17.view.ty) (init : FVec Ideal S128x256 .f32) :
    LoopInvTy_k0_t6 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v649 init where
  inv := fun k acc => iprop((arg13.view.loc (c : Thread nD τ) ↦[arg13.view.set]{fullShare} X13) ∗ (arg17.view.loc (c : Thread nD τ) ↦[arg17.view.set]{fullShare} X17) ∗ ⌜acc = st6 i arg13 arg17 v601 k0_hw1 k0_t1 v649 X13 X17 init k⌝)
  step := fun k acc => by
    iintro ⟨H13, H17, %hacc⟩
    subst hacc
    unfold k0_t6_body
    sl_exec
    sl_step
    rw [st6_succ]
    isplitl [H13]; · iexact H13
    isplitl [H17]; · iexact H17
    ipureintro; rfl

/-- A loop from `n` to `n` runs no trip. -/
theorem trips_self (n : BitVec 32) : Scf.trips (Scalar.addi 0#32 (Scalar.muli (Scalar.divsi n 1#32) 1#32)) (Scalar.addi 0#32 n) 1#32 = 0 := by
  rw [Scalar.muli_divsi_one]; exact Scf.trips_self _

theorem trips3_zero (i : grid0.Coords) (w : BitVec 32) : (k0_t3_loop i w).trips = 0 := trips_self _

/-- A remainder loop that runs no trip. -/
@[sl_loop] def vInv_t3 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v629 : Vec Ideal S1x256x128 .fp8e4m3) (v632 : Vec Ideal S1x1x256 .f32) (init : FVec Ideal S1x256 .f32) :
    LoopInvTy_k0_t3 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v629 v632 init where
  inv := fun k acc => iprop(⌜acc = init⌝)
  step := fun k _ => (Nat.not_lt_zero _ (Nat.lt_of_lt_of_eq k.isLt (trips3_zero i v601))).elim

theorem trips5_zero (i : grid0.Coords) (w : BitVec 32) : (k0_t5_loop i w).trips = 0 := trips_self _

/-- A remainder loop that runs no trip. -/
@[sl_loop] def vInv_t5 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v641 : FVec Ideal S1x256 .f32) (init : FVec Ideal S1x256 .f32) :
    LoopInvTy_k0_t5 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v641 init where
  inv := fun k acc => iprop(⌜acc = init⌝)
  step := fun k _ => (Nat.not_lt_zero _ (Nat.lt_of_lt_of_eq k.isLt (trips5_zero i v601))).elim

theorem trips7_zero (i : grid0.Coords) (w : BitVec 32) : (k0_t7_loop i w).trips = 0 := trips_self _

/-- A remainder loop that runs no trip. -/
@[sl_loop] def vInv_t7 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v649 : FVec Ideal S1x256 .f32) (init : FVec Ideal S128x256 .f32) :
    LoopInvTy_k0_t7 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v649 init where
  inv := fun k acc => iprop(⌜acc = init⌝)
  step := fun k _ => (Nat.not_lt_zero _ (Nat.lt_of_lt_of_eq k.isLt (trips7_zero i v601))).elim

end Cert.KernelIdeal.Hand

end

end
-- ==== Proof.KernelIdealPay.lean ====
module

public import proofs.«01_k».proof.Proof.KernelIdealLoops
public import proofs.«01_k».proof.Proof.KernelIdealRange
public import Idealize.ShloMosaic.Lib.Pointwise
public import Idealize.ShloMosaic.Lib.WritesUnit

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A word's index into the key axis. -/
abbrev fx (n : ℕ) : Fin 4096 := Fin.ofNat 4096 n
theorem fx_val {n : ℕ} (h : n < 4096) : (fx n).val = n := Nat.mod_eq_of_lt h

/-- A head's trip as a head. -/
abbrev hd (k : Fin k0_t1_loop.trips) : Fin 32 := ⟨k.val, k.isLt⟩

/-- The masked score of key `key` for the block's query `l`, at head `h`. -/
def U (A12 : S32x4096x128.Idx → EReal) (A14 : S32x1x4096.Idx → EReal) (v592 v623 : IVec S1x256 32)
    (v629 : S1x256x128.Idx → EReal) (v632 : S1x1x256.Idx → EReal) (h : Fin 32) (key : ℕ) (l : Fin 256) : EReal :=
  Scalar.select (IntOp.andi (IntOp.cmpi .sge (BitVec.ofNat 32 key) (v592 (ix2 0 l))) (IntOp.cmpi .sle (BitVec.ofNat 32 key) (v623 (ix2 0 l))))
    (((∑ x : Fin 128, A12 (ix3 h (fx key) x) * v629 (ix3 0 l x)) * A14 (ix3 h 0 (fx key))) * v632 (ix3 0 0 l)) ⊥

theorem neg_bits : Ideal.ofBits .f32 4286578688#32 = (⊥ : EReal) := by
  simp [Ideal.ofBits, Ideal.ieee]

theorem readAt_unit {sig : RefSig} {κ : Kind} {sp : Space} {s : Shape} {e : EltTy} {Val : EltTy → Type} (v : View sig κ sp s e)
    (f : v.ty.Contents Val) {off size off' : Fin s.rank → ℕ} (inb : ∀ a, off a + size a ≤ s.size a) (heq : off = off')
    (x : (Rect.unit off size inb).shape.Idx) (y : s.Idx) (h : ∀ a, (y a).val = off' a + (x a).val) :
    v.readAt Val (Rect.unit off size inb).toLoadRect f x = v.read Val f y := by
  subst heq
  refine congrArg (v.read Val f) (funext fun a => Fin.ext ?_)
  show off a + 1 * (x a).val = (y a).val
  rw [h a, Nat.one_mul]

theorem pay7_raw (i : grid0.Coords) (v572 : IVec S256x256 32) (v592 : IVec S1x256 32) (v601 : Elt Ideal .i32) (v618 : BitVec 32) (v623 : IVec S1x256 32) (v629 : Vec Ideal S1x256x128 .fp8e4m3) (v632 : Vec Ideal S1x1x256 .f32) (k : Fin (k0_t2_loop i v601).trips) (v672 : Vec Ideal S1x256x128 .fp8e4m3) (v677 : Vec Ideal S1x1x256 .f32) (r : Fin 256) (l : Fin 256) :
    k0_pay7 i v572 v592 v601 v618 v623 v629 v632 k v672 v677 (ix2 r l) = Scalar.select (IntOp.andi (IntOp.cmpi .sge (IntOp.addi (Scalar.muli (Scalar.addi v618 (Scf.iv 0#32 1#32 ↑k)) 256#32) (v572 (ix2 r l))) (v592 (ix2 0 l))) (IntOp.cmpi .sle (IntOp.addi (Scalar.muli (Scalar.addi v618 (Scf.iv 0#32 1#32 ↑k)) 256#32) (v572 (ix2 r l))) (v623 (ix2 0 l)))) (((∑ x : Fin 128, v672 (ix3 0 r x) * v629 (ix3 0 l x)) * v677 (ix3 0 0 r)) * v632 (ix3 0 0 l)) (⊥ : EReal) := by
  rw [← neg_bits]
  pointwise [k0_pay7, k0_pay6, k0_pay3, k0_pay4]
  simp only [dite_eq_ite, ite_self]

theorem pay6_raw (i : grid0.Coords) (v572 : IVec S256x256 32) (v592 : IVec S1x256 32) (v601 : Elt Ideal .i32) (v618 : BitVec 32) (v623 : IVec S1x256 32) (v629 : Vec Ideal S1x256x128 .fp8e4m3) (v632 : Vec Ideal S1x1x256 .f32) (k : Fin (k0_t2_loop i v601).trips) (v672 : Vec Ideal S1x256x128 .fp8e4m3) (v677 : Vec Ideal S1x1x256 .f32) (r : Fin 256) (l : Fin 256) :
    k0_pay6 i v572 v592 v601 v618 v623 v629 v632 k v672 v677 (ix2 r l) = k0_pay7 i v572 v592 v601 v618 v623 v629 v632 k v672 v677 (ix2 r l) := by
  pointwise [k0_pay7]

theorem pay8_raw (i : grid0.Coords) (v572 : IVec S256x256 32) (v592 : IVec S1x256 32) (v601 : Elt Ideal .i32) (v618 : BitVec 32) (v623 : IVec S1x256 32) (v629 : Vec Ideal S1x256x128 .fp8e4m3) (v632 : Vec Ideal S1x1x256 .f32) (k : Fin (k0_t2_loop i v601).trips) (v672 : Vec Ideal S1x256x128 .fp8e4m3) (v677 : Vec Ideal S1x1x256 .f32) (acc : FVec Ideal S1x256 .f32) (l : Fin 256) :
    k0_pay8 i v572 v592 v601 v618 v623 v629 v632 k acc v672 v677 (ix2 0 l) = max (acc (ix2 0 l) : EReal) (Finset.univ.sup fun x : Fin 256 => (k0_pay7 i v572 v592 v601 v618 v623 v629 v632 k v672 v677 (ix2 x l) : EReal)) := by
  simp only [← pay6_raw]
  show _ = max _ (Finset.fold max ⊥ _ _)
  rw [← neg_bits]
  pointwise [k0_pay8]

theorem pay14_raw (v641 : FVec Ideal S1x256 .f32) (v670 : Vec Ideal S256x256 .f32)  (r : Fin 256) (l : Fin 256) :
    k0_pay14 v641 v670 (ix2 r l) = (FloatOps.exp2 (v670 (ix2 r l) - v641 (ix2 0 l) : Ideal .f32) : Ideal .f32) := by
  pointwise [k0_pay14, k0_pay13]
theorem pay15_raw (v641 : FVec Ideal S1x256 .f32) (acc : FVec Ideal S1x256 .f32) (v670 : Vec Ideal S256x256 .f32) (l : Fin 256) :
    k0_pay15 v641 acc v670 (ix2 0 l) = (acc (ix2 0 l) : EReal) + ∑ x : Fin 256, (FloatOps.exp2 (v670 (ix2 x l) - v641 (ix2 0 l) : Ideal .f32) : Ideal .f32) := by
  pointwise [k0_pay15, k0_pay13]
theorem pay21_raw (v649 : FVec Ideal S1x256 .f32) (acc : FVec Ideal S128x256 .f32) (v670 : Vec Ideal S256x256 .f32) (v679 : Vec Ideal S1x128x256 .bf16)  (r : Fin 128) (l : Fin 256) :
    k0_pay21 v649 acc v670 v679 (ix2 r l) = (acc (ix2 r l) : EReal) + ∑ x : Fin 256, (v679 (ix3 0 r x) : EReal) * ((v670 (ix2 x l) : EReal) * Ideal.div (1 : EReal) (v649 (ix2 0 l))) := by
  pointwise [k0_pay21, k0_pay19]
theorem pay5_raw (l : Fin 256) : k0_pay5 (F := Ideal) (ix2 0 l) = (⊥ : EReal) := by
  rw [← neg_bits]
  pointwise [k0_pay5]
theorem pay12_raw (l : Fin 256) : k0_pay12 (F := Ideal) (ix2 0 l) = (0 : EReal) := by
  rw [← Ideal.ofBits_zero_f32]
  pointwise [k0_pay12]
theorem pay20_raw (r : Fin 128) (l : Fin 256) : k0_pay20 (F := Ideal) (ix2 r l) = (0 : EReal) := by
  rw [← Ideal.ofBits_zero_f32]
  pointwise [k0_pay20]
theorem pay110_raw (v649 : FVec Ideal S128x256 .f32)  (r : Fin 256) (l : Fin 128) :
    k0_pay110 (k0_pay23 v649) (ix2 r l) = v649 (ix2 l r) := by
  pointwise [k0_pay110, k0_pay23]

end Cert.KernelIdeal.Hand

end

end
-- ==== Proof.KernelIdealChunk.lean ====
module

public import proofs.«01_k».proof.Proof.KernelIdealPay

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem sup_chunk (f : ℕ → EReal) (n : ℕ) :
    (Finset.range (256 * (n + 1))).sup f = max ((Finset.range (256 * n)).sup f) (Finset.univ.sup fun x : Fin 256 => f (256 * n + x.val)) := by
  apply le_antisymm
  · refine Finset.sup_le fun r hr => ?_
    rw [Finset.mem_range] at hr
    by_cases h : r < 256 * n
    · exact le_max_of_le_left (Finset.le_sup (f := f) (Finset.mem_range.mpr h))
    · refine le_max_of_le_right ?_
      have := Finset.le_sup (f := fun x : Fin 256 => f (256 * n + x.val)) (Finset.mem_univ ⟨r - 256 * n, by omega⟩)
      simpa [show 256 * n + (r - 256 * n) = r by omega] using this
  · refine max_le (Finset.sup_mono fun r hr => ?_) (Finset.sup_le fun x _ => ?_)
    · rw [Finset.mem_range] at *; omega
    · exact Finset.le_sup (f := f) (Finset.mem_range.mpr (by have := x.isLt; omega))

theorem sum_chunk (f : ℕ → EReal) (n : ℕ) :
    ∑ r ∈ Finset.range (256 * (n + 1)), f r = (∑ r ∈ Finset.range (256 * n), f r) + ∑ x : Fin 256, f (256 * n + x.val) := by
  rw [Nat.mul_succ, Finset.sum_range_add, Finset.sum_range (fun x => f (256 * n + x))]

theorem key_word (i : grid0.Coords) (w : BitVec 32) (h : w.toNat ≤ 4096) {k : ℕ} (hk : k < (i 1).val + 1 - w.toNat / 256) (r : Fin 256) :
    IntOp.addi (Scalar.muli (Scalar.addi (firstBlk w) (Scf.iv 0#32 1#32 k)) 256#32) (BitVec.ofNat 32 r.val)
      = BitVec.ofNat 32 ((w.toNat / 256) * 256 + (256 * k + r.val)) := by
  rw [(blk_off i w h hk rfl).1]
  show BitVec.ofNat 32 _ + BitVec.ofNat 32 _ = _
  rw [← BitVec.ofNat_add]
  congr 1
  omega

theorem pay7_at (i : grid0.Coords) (arg12 : Memref sig .tc .vmem S32x4096x128 .fp8e4m3) (arg14 : Memref sig .tc .vmem S32x1x4096 .f32) (arg17 : Memref sig .tc .vmem S4096x256 .f32) (v572 : IVec S256x256 32) (v592 : IVec S1x256 32) (v601 : Elt Ideal .i32) (k0_hw1 : k0_chk1 i v601) (v618 : BitVec 32) (v623 : IVec S1x256 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty)  (hw : v601.toNat ≤ 4096) (h618 : v618 = firstBlk v601)
    (h572 : ∀ r l : Fin 256, v572 (ix2 r l) = BitVec.ofNat 32 r.val) (k : Fin (k0_t2_loop i v601).trips) (r l : Fin 256) :
    k0_pay7 i v572 v592 v601 v618 v623 v629 v632 k
      (View.readAt (Elt Ideal) arg12.view (Rect.unit (s := S32x4096x128) (k0_off69 i v601 k0_t1 k) S1x256x128.size (k0_off69_inb i v601 k0_hw1 k0_t1 k)).toLoadRect X12)
      (View.readAt (Elt Ideal) arg14.view (Rect.unit (s := S32x1x4096) (k0_off70 i v601 k0_t1 k) S1x1x256.size (k0_off70_inb i v601 k0_hw1 k0_t1 k)).toLoadRect X14) (ix2 r l)
      = U (arg12.view.read (Elt Ideal) X12) (arg14.view.read (Elt Ideal) X14) v592 v623 v629 v632 (hd k0_t1) ((v601.toNat / 256) * 256 + (256 * k.val + r.val)) l := by
  have hk := t2_lt i v601 hw k
  have hi : (i 1).val < 16 := (i 1).isLt
  have hr := r.isLt
  rw [pay7_raw, h618, h572, key_word i v601 hw hk]
  unfold U
  have e := fx_val (n := (v601.toNat / 256) * 256 + (256 * k.val + r.val)) (by omega)
  have h1 : ∀ x : Fin 128, (View.readAt (Elt Ideal) arg12.view (Rect.unit (s := S32x4096x128) (k0_off69 i v601 k0_t1 k) S1x256x128.size (k0_off69_inb i v601 k0_hw1 k0_t1 k)).toLoadRect X12) (ix3 0 r x)
      = arg12.view.read (Elt Ideal) X12 (ix3 (hd k0_t1) (fx ((v601.toNat / 256) * 256 + (256 * k.val + r.val))) x) := fun x => by
    refine readAt_unit (s := S32x4096x128) _ _ _ (off69_eq i v601 hw k0_t1 k) _ _ fun a => ?_
    match a with
    | 0 => rfl
    | 1 => show (fx _).val = (v601.toNat / 256 + k.val) * 256 + r.val; rw [e]; omega
    | 2 => show x.val = 0 + x.val; omega
  have h2 : (View.readAt (Elt Ideal) arg14.view (Rect.unit (s := S32x1x4096) (k0_off70 i v601 k0_t1 k) S1x1x256.size (k0_off70_inb i v601 k0_hw1 k0_t1 k)).toLoadRect X14) (ix3 0 0 r)
      = arg14.view.read (Elt Ideal) X14 (ix3 (hd k0_t1) 0 (fx ((v601.toNat / 256) * 256 + (256 * k.val + r.val)))) := by
    refine readAt_unit (s := S32x1x4096) _ _ _ (off70_eq i v601 hw k0_t1 k) _ _ fun a => ?_
    match a with
    | 0 => rfl
    | 1 => rfl
    | 2 => show (fx _).val = (v601.toNat / 256 + k.val) * 256 + r.val; rw [e]; omega
  rw [h2]
  simp only [h1]

/-- A tile of rows written at `256 n` is read back there. -/
theorem read_tile_in (arg17 : Memref sig .tc .vmem S4096x256 .f32) (f : BufTy.Contents (Elt Ideal) arg17.view.ty) {off : Fin 2 → ℕ} (inb) (n : ℕ) (hoff : off = ![n * 256, 0])
    (pay : S256x256.Idx → Elt Ideal .f32) (r : Fin 256) (hn : 256 * n + r.val < 4096) (l : Fin 256) :
    arg17.view.read (Elt Ideal) (arg17.view.writes (Elt Ideal) f [⟨Rect.unit (s := S4096x256) off S256x256.size inb, pay⟩]) (ix2 (fx (256 * n + r.val)) l) = pay (ix2 r l) := by
  refine View.read_writes_cons_unit_of_mem _ _ inb pay [] _ (ix2 r l) hoff fun a => ?_
  match a with
  | 0 => show (fx _).val = n * 256 + r.val; rw [fx_val hn]; omega
  | 1 => show l.val = 0 + l.val; omega

/-- … and leaves the other rows. -/
theorem read_tile_out (arg17 : Memref sig .tc .vmem S4096x256 .f32) (f : BufTy.Contents (Elt Ideal) arg17.view.ty) {off : Fin 2 → ℕ} (inb) (n : ℕ) (hoff : off = ![n * 256, 0])
    (pay : S256x256.Idx → Elt Ideal .f32) (r : ℕ) (hr : r < 4096) (hn : r < 256 * n ∨ 256 * (n + 1) ≤ r) (l : Fin 256) :
    arg17.view.read (Elt Ideal) (arg17.view.writes (Elt Ideal) f [⟨Rect.unit (s := S4096x256) off S256x256.size inb, pay⟩]) (ix2 (fx r) l) = arg17.view.read (Elt Ideal) f (ix2 (fx r) l) := by
  refine View.read_writes_cons_unit_of_not_mem _ _ inb pay [] _ hoff 0 ?_
  show (fx r).val < n * 256 ∨ n * 256 + 256 ≤ (fx r).val
  rw [fx_val hr]; omega

/-- What the score loop leaves: the scores of the chunks done, and their maximum. -/
theorem st2_sem (i : grid0.Coords) (arg12 : Memref sig .tc .vmem S32x4096x128 .fp8e4m3) (arg14 : Memref sig .tc .vmem S32x1x4096 .f32) (arg17 : Memref sig .tc .vmem S4096x256 .f32) (v572 : IVec S256x256 32) (v592 : IVec S1x256 32) (v601 : Elt Ideal .i32) (k0_hw1 : k0_chk1 i v601) (v618 : BitVec 32) (v623 : IVec S1x256 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty)  (hw : v601.toNat ≤ 4096) (h618 : v618 = firstBlk v601)
    (h572 : ∀ r l : Fin 256, v572 (ix2 r l) = BitVec.ofNat 32 r.val) (l : Fin 256) : ∀ n ≤ (k0_t2_loop i v601).trips,
    (∀ r < 256 * n, arg17.view.read (Elt Ideal) (st2 i arg12 arg14 arg17 v572 v592 v601 k0_hw1 v618 v623 k0_t1 v629 v632 X12 X14 G17 (k0_pay5 (F := Ideal)) n).2 (ix2 (fx r) l) = U (arg12.view.read (Elt Ideal) X12) (arg14.view.read (Elt Ideal) X14) v592 v623 v629 v632 (hd k0_t1) ((v601.toNat / 256) * 256 + r) l) ∧
      (st2 i arg12 arg14 arg17 v572 v592 v601 k0_hw1 v618 v623 k0_t1 v629 v632 X12 X14 G17 (k0_pay5 (F := Ideal)) n).1 (ix2 0 l) = (Finset.range (256 * n)).sup fun r => U (arg12.view.read (Elt Ideal) X12) (arg14.view.read (Elt Ideal) X14) v592 v623 v629 v632 (hd k0_t1) ((v601.toNat / 256) * 256 + r) l
  | 0, _ => ⟨fun r hr => absurd hr (by omega), by
      show k0_pay5 (F := Ideal) (ix2 0 l) = _
      rw [pay5_raw]; rfl⟩
  | n + 1, hn => by
    obtain ⟨ih1, ih2⟩ := st2_sem i arg12 arg14 arg17 v572 v592 v601 k0_hw1 v618 v623 k0_t1 v629 v632 X12 X14 G17 hw h618 h572 l n (by omega)
    have hi : (i 1).val < 16 := (i 1).isLt
    have hk := t2_lt i v601 hw ⟨n, hn⟩
    rw [st2_succ i arg12 arg14 arg17 v572 v592 v601 k0_hw1 v618 v623 k0_t1 v629 v632 X12 X14 G17 (k0_pay5 (F := Ideal)) ⟨n, hn⟩]
    refine ⟨fun r hr => ?_, ?_⟩
    · dsimp only
      by_cases h : r < 256 * n
      · rw [read_tile_out arg17 _ _ n (off71_eq i v601 hw ⟨n, hn⟩) _ r (by dsimp only at hk; omega) (.inl h)]
        exact ih1 r h
      · obtain ⟨x, rfl⟩ : ∃ x : Fin 256, r = 256 * n + x.val := ⟨⟨r - 256 * n, by omega⟩, by dsimp only; omega⟩
        rw [read_tile_in arg17 _ _ n (off71_eq i v601 hw ⟨n, hn⟩) _ x (by have := x.isLt; dsimp only at hk; omega),
          pay7_at i arg12 arg14 arg17 v572 v592 v601 k0_hw1 v618 v623 k0_t1 v629 v632 X12 X14 G17 hw h618 h572]
    · dsimp only
      rw [sup_chunk, pay8_raw, ih2]
      simp only [pay7_at i arg12 arg14 arg17 v572 v592 v601 k0_hw1 v618 v623 k0_t1 v629 v632 X12 X14 G17 hw h618 h572]

/-- What the weight loop leaves: the chunks done turned to weights, the others as they were, and the weights' sum. -/
theorem st4_sem (i : grid0.Coords) (arg17 : Memref sig .tc .vmem S4096x256 .f32) (v601 : Elt Ideal .i32) (k0_hw1 : k0_chk1 i v601) (v641 : FVec Ideal S1x256 .f32) (G17 : BufTy.Contents (Elt Ideal) arg17.view.ty)  (hw : v601.toNat ≤ 4096) (l : Fin 256) : ∀ n ≤ (k0_t4_loop i v601).trips,
    (∀ r < 256 * n, arg17.view.read (Elt Ideal) (st4 i arg17 v601 k0_hw1 v641 G17 (k0_pay12 (F := Ideal)) n).2 (ix2 (fx r) l) = Ideal.exp2 ((arg17.view.read (Elt Ideal) G17 (ix2 (fx r) l) : EReal) - v641 (ix2 0 l))) ∧
    (∀ r < 4096, 256 * n ≤ r → arg17.view.read (Elt Ideal) (st4 i arg17 v601 k0_hw1 v641 G17 (k0_pay12 (F := Ideal)) n).2 (ix2 (fx r) l) = arg17.view.read (Elt Ideal) G17 (ix2 (fx r) l)) ∧
      (st4 i arg17 v601 k0_hw1 v641 G17 (k0_pay12 (F := Ideal)) n).1 (ix2 0 l) = ∑ r ∈ Finset.range (256 * n), Ideal.exp2 ((arg17.view.read (Elt Ideal) G17 (ix2 (fx r) l) : EReal) - v641 (ix2 0 l))
  | 0, _ => ⟨fun r hr => absurd hr (by omega), fun _ _ _ => rfl, by
      show k0_pay12 (F := Ideal) (ix2 0 l) = _
      rw [pay12_raw]; rfl⟩
  | n + 1, hn => by
    obtain ⟨ih1, ih2, ih3⟩ := st4_sem i arg17 v601 k0_hw1 v641 G17 hw l n (by omega)
    have hi : (i 1).val < 16 := (i 1).isLt
    have hk : n < _ := t4_lt i v601 hw ⟨n, hn⟩
    rw [st4_succ i arg17 v601 k0_hw1 v641 G17 (k0_pay12 (F := Ideal)) ⟨n, hn⟩]
    have key : ∀ x : Fin 256, (View.readAt (Elt Ideal) arg17.view (Rect.unit (s := S4096x256) (k0_off75 i v601 ⟨n, hn⟩) S256x256.size (k0_off75_inb i v601 k0_hw1 ⟨n, hn⟩)).toLoadRect (st4 i arg17 v601 k0_hw1 v641 G17 (k0_pay12 (F := Ideal)) n).2) (ix2 x l)
        = arg17.view.read (Elt Ideal) G17 (ix2 (fx (256 * n + x.val)) l) := fun x => by
      have hx := x.isLt
      rw [← ih2 (256 * n + x.val) (by omega) (by omega)]
      refine readAt_unit _ _ _ (off75_eq i v601 hw ⟨n, hn⟩) _ _ fun a => ?_
      match a with
      | 0 => show (fx _).val = n * 256 + x.val; rw [fx_val (by omega)]; omega
      | 1 => show l.val = 0 + l.val; omega
    refine ⟨fun r hr => ?_, fun r hr hr' => ?_, ?_⟩
    · dsimp only
      by_cases h : r < 256 * n
      · rw [read_tile_out arg17 _ _ n (off75_eq i v601 hw ⟨n, hn⟩) _ r (by omega) (.inl h)]
        exact ih1 r h
      · obtain ⟨x, rfl⟩ : ∃ x : Fin 256, r = 256 * n + x.val := ⟨⟨r - 256 * n, by omega⟩, by dsimp only; omega⟩
        rw [read_tile_in arg17 _ _ n (off75_eq i v601 hw ⟨n, hn⟩) _ x (by have := x.isLt; omega), pay14_raw, key]
        rfl
    · dsimp only
      rw [read_tile_out arg17 _ _ n (off75_eq i v601 hw ⟨n, hn⟩) _ r hr (.inr hr')]
      exact ih2 r hr (by omega)
    · dsimp only
      rw [sum_chunk, pay15_raw, ih3]
      simp only [key]
      rfl

/-- What the output loop carries: the weighted values of the chunks done, summed. -/
theorem st6_sem (i : grid0.Coords) (arg13 : Memref sig .tc .vmem S32x128x4096 .bf16) (arg17 : Memref sig .tc .vmem S4096x256 .f32) (v601 : Elt Ideal .i32) (k0_hw1 : k0_chk1 i v601) (k0_t1 : Fin k0_t1_loop.trips) (v649 : FVec Ideal S1x256 .f32) (X13 : BufTy.Contents (Elt Ideal) arg13.view.ty) (X17 : BufTy.Contents (Elt Ideal) arg17.view.ty)  (hw : v601.toNat ≤ 4096) (d : Fin 128) (l : Fin 256) : ∀ n ≤ (k0_t6_loop i v601).trips,
    (st6 i arg13 arg17 v601 k0_hw1 k0_t1 v649 X13 X17 (k0_pay20 (F := Ideal)) n) (ix2 d l) = ∑ r ∈ Finset.range (256 * n), (arg13.view.read (Elt Ideal) X13 (ix3 (hd k0_t1) d (fx ((v601.toNat / 256) * 256 + r))) : EReal)
      * ((arg17.view.read (Elt Ideal) X17 (ix2 (fx r) l) : EReal) * Ideal.div (1 : EReal) (v649 (ix2 0 l)))
  | 0, _ => by
      show k0_pay20 (F := Ideal) (ix2 d l) = _
      rw [pay20_raw]; rfl
  | n + 1, hn => by
    have ih := st6_sem i arg13 arg17 v601 k0_hw1 k0_t1 v649 X13 X17 hw d l n (by omega)
    have hi : (i 1).val < 16 := (i 1).isLt
    have hk : n < _ := t6_lt i v601 hw ⟨n, hn⟩
    rw [st6_succ i arg13 arg17 v601 k0_hw1 k0_t1 v649 X13 X17 (k0_pay20 (F := Ideal)) ⟨n, hn⟩, sum_chunk, pay21_raw, ih]
    refine congrArg _ (Finset.sum_congr rfl fun x _ => ?_)
    have hx := x.isLt
    refine congr (congrArg _ ?_) (congrArg (· * _) ?_)
    · refine readAt_unit _ _ _ (off78_eq i v601 hw k0_t1 ⟨n, hn⟩) _ _ fun a => ?_
      match a with
      | 0 => rfl
      | 1 => show d.val = 0 + d.val; omega
      | 2 => show (fx _).val = (v601.toNat / 256 + n) * 256 + x.val; rw [fx_val (by omega)]; omega
    · refine readAt_unit _ _ _ (off77_eq i v601 hw ⟨n, hn⟩) _ _ fun a => ?_
      match a with
      | 0 => show (fx _).val = n * 256 + x.val; rw [fx_val (by omega)]; omega
      | 1 => show l.val = 0 + l.val; omega

end Cert.KernelIdeal.Hand

end

end
-- ==== Proof.KernelIdealExit.lean ====
module

public import proofs.«01_k».proof.Proof.KernelIdealChunk

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Column `x` of head `h`. -/
abbrev col (h : Fin 32) (x : Fin 128) : Fin 4096 := ⟨128 * h.val + x.val, by omega⟩

/-- The masked score of key `key` for the block's query `l`, at head `h`, from the blocks and caches. -/
def UH (A3 : S1x256x4096.Idx → EReal) (A12 : S32x4096x128.Idx → EReal) (A14 : S32x1x4096.Idx → EReal) (A15 : S32x1x256.Idx → EReal)
    (v592 v623 : IVec S1x256 32) (h : Fin 32) (key : ℕ) (l : Fin 256) : EReal :=
  Scalar.select (IntOp.andi (IntOp.cmpi .sge (BitVec.ofNat 32 key) (v592 (ix2 0 l))) (IntOp.cmpi .sle (BitVec.ofNat 32 key) (v623 (ix2 0 l))))
    (((∑ x : Fin 128, A12 (ix3 h (fx key) x) * A3 (ix3 0 l (col h x))) * A14 (ix3 h 0 (fx key))) * A15 (ix3 h 0 l)) ⊥

/-- A query's output at head `h` and feature `d` over the keys `lo, …, lo + n - 1`, from its scores `u`. -/
def OW (u : ℕ → EReal) (V : ℕ → EReal) (lo n : ℕ) : EReal :=
  ∑ r ∈ Finset.range n, V (lo + r) * (Ideal.exp2 (u (lo + r) - (Finset.range n).sup fun r => u (lo + r)) *
    Ideal.div 1 (∑ r' ∈ Finset.range n, Ideal.exp2 (u (lo + r') - (Finset.range n).sup fun r => u (lo + r))))

/-- The head's output tile. -/
def OH (A3 : S1x256x4096.Idx → EReal) (A12 : S32x4096x128.Idx → EReal) (A13 : S32x128x4096.Idx → EReal) (A14 : S32x1x4096.Idx → EReal) (A15 : S32x1x256.Idx → EReal)
    (v592 v623 : IVec S1x256 32) (i1 w0 : ℕ) (h : Fin 32) (d : Fin 128) (l : Fin 256) : EReal :=
  OW (fun key => UH A3 A12 A14 A15 v592 v623 h key l) (fun key => A13 (ix3 h d (fx key))) (w0 * 256) (256 * (i1 + 1 - w0))

/-- The score read through one head's load is the score. -/
theorem U_eq_UH (arg3 : Memref sig .tc .vmem S1x256x4096 .fp8e4m3) (arg15 : Memref sig .tc .vmem S32x1x256 .f32) (X3 : BufTy.Contents (Elt Ideal) arg3.view.ty) (X15 : BufTy.Contents (Elt Ideal) arg15.view.ty)
    (A12 : S32x4096x128.Idx → EReal) (A14 : S32x1x4096.Idx → EReal) (v592 v623 : IVec S1x256 32) (k : Fin k0_t1_loop.trips) (key : ℕ) (l : Fin 256) :
    U A12 A14 v592 v623
      (View.readAt (Elt Ideal) arg3.view (Rect.unit (s := S1x256x4096) (k0_off67 k) S1x256x128.size (k0_off67_inb k)).toLoadRect X3)
      (View.readAt (Elt Ideal) arg15.view (Rect.unit (s := S32x1x256) (k0_off68 k) S1x1x256.size (k0_off68_inb k)).toLoadRect X15) (hd k) key l
      = UH (arg3.view.read (Elt Ideal) X3) A12 A14 (arg15.view.read (Elt Ideal) X15) v592 v623 (hd k) key l := by
  have hk : k.val < 32 := k.isLt
  have o67 : k0_off67 k = ![0, 0, 128 * k.val] := by
    have e : (Scalar.muli (Scf.iv 0#32 1#32 k.val) 128#32).toNat = 128 * k.val := by
      rw [head_fin ⟨k.val, hk⟩]
      show (BitVec.ofNat 32 k.val * 128#32).toNat = _
      rw [BitVec.toNat_mul, BitVec.toNat_ofNat]
      show k.val % 2 ^ 32 * 128 % 2 ^ 32 = _
      omega
    rw [← e]; rfl
  have o68 : k0_off68 k = ![k.val, 0, 0] := by rw [← toNat_head k]; rfl
  have h1 : ∀ x : Fin 128, (View.readAt (Elt Ideal) arg3.view (Rect.unit (s := S1x256x4096) (k0_off67 k) S1x256x128.size (k0_off67_inb k)).toLoadRect X3) (ix3 0 l x)
      = arg3.view.read (Elt Ideal) X3 (ix3 0 l (col (hd k) x)) := fun x => by
    refine readAt_unit (s := S1x256x4096) _ _ _ o67 _ _ fun a => ?_
    match a with
    | 0 => rfl
    | 1 => show l.val = 0 + l.val; omega
    | 2 => rfl
  have h2 : (View.readAt (Elt Ideal) arg15.view (Rect.unit (s := S32x1x256) (k0_off68 k) S1x1x256.size (k0_off68_inb k)).toLoadRect X15) (ix3 0 0 l)
      = arg15.view.read (Elt Ideal) X15 (ix3 (hd k) 0 l) := by
    refine readAt_unit (s := S32x1x256) _ _ _ o68 _ _ fun a => ?_
    match a with
    | 0 => rfl
    | 1 => rfl
    | 2 => show l.val = 0 + l.val; omega
  unfold U UH
  rw [h2]
  simp only [h1]

/-- The output tile written by head `k` extends the tiles written before. -/
theorem head_tile (arg18 : Memref sig .tc .vmem S256x4096 .f32) (f : BufTy.Contents (Elt Ideal) arg18.view.ty) (T : Fin 32 → Fin 128 → Fin 256 → EReal)
    (k : Fin k0_t1_loop.trips) {off : Fin 2 → ℕ} (inb) (hoff : off = ![0, 128 * k.val]) (pay : S256x128.Idx → Elt Ideal .f32)
    (hf : ∀ h : Fin 32, h.val < k.val → ∀ d l, arg18.view.read (Elt Ideal) f (ix2 l (col h d)) = T h d l)
    (hp : ∀ d l, pay (ix2 l d) = T (hd k) d l) :
    ∀ h : Fin 32, h.val < k.val + 1 → ∀ d l, arg18.view.read (Elt Ideal) (arg18.view.writes (Elt Ideal) f [⟨Rect.unit (s := S256x4096) off S256x128.size inb, pay⟩]) (ix2 l (col h d)) = T h d l := by
  intro h hh d l
  by_cases e : h.val = k.val
  · have e' : h = hd k := Fin.ext e
    subst e'
    rw [← hp]
    refine View.read_writes_cons_unit_of_mem _ _ inb pay [] _ (ix2 l d) hoff fun a => ?_
    match a with
    | 0 => show l.val = 0 + l.val; omega
    | 1 => rfl
  · rw [← hf h (by omega) d l]
    refine View.read_writes_cons_unit_of_not_mem _ _ inb pay [] _ hoff 1 (.inl ?_)
    show 128 * h.val + d.val < 128 * k.val
    have := d.isLt
    omega

/-- The head's columns, from what the three loops leave. -/
theorem head_pay (i : grid0.Coords) (arg3 : Memref sig .tc .vmem S1x256x4096 .fp8e4m3) (arg12 : Memref sig .tc .vmem S32x4096x128 .fp8e4m3) (arg13 : Memref sig .tc .vmem S32x128x4096 .bf16) (arg14 : Memref sig .tc .vmem S32x1x4096 .f32) (arg15 : Memref sig .tc .vmem S32x1x256 .f32) (arg17 : Memref sig .tc .vmem S4096x256 .f32)
    (v592 v623 : IVec S1x256 32) (v601 : Elt Ideal .i32) (k0_hw1 : k0_chk1 i v601) (hw : v601.toNat ≤ 4096) (k : Fin k0_t1_loop.trips)
    (X3 : BufTy.Contents (Elt Ideal) arg3.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f : BufTy.Contents (Elt Ideal) arg17.view.ty) (A : FVec Ideal S1x256 .f32)
    (h1 : ∀ l, ∀ r < 256 * ((i 1).val + 1 - v601.toNat / 256), arg17.view.read (Elt Ideal) f (ix2 (fx r) l) = U (arg12.view.read (Elt Ideal) X12) (arg14.view.read (Elt Ideal) X14) v592 v623
      (View.readAt (Elt Ideal) arg3.view (Rect.unit (s := S1x256x4096) (k0_off67 k) S1x256x128.size (k0_off67_inb k)).toLoadRect X3)
      (View.readAt (Elt Ideal) arg15.view (Rect.unit (s := S32x1x256) (k0_off68 k) S1x1x256.size (k0_off68_inb k)).toLoadRect X15) (hd k) ((v601.toNat / 256) * 256 + r) l)
    (h2 : ∀ l, A (ix2 0 l) = (Finset.range (256 * ((i 1).val + 1 - v601.toNat / 256))).sup fun r => U (arg12.view.read (Elt Ideal) X12) (arg14.view.read (Elt Ideal) X14) v592 v623
      (View.readAt (Elt Ideal) arg3.view (Rect.unit (s := S1x256x4096) (k0_off67 k) S1x256x128.size (k0_off67_inb k)).toLoadRect X3)
      (View.readAt (Elt Ideal) arg15.view (Rect.unit (s := S32x1x256) (k0_off68 k) S1x1x256.size (k0_off68_inb k)).toLoadRect X15) (hd k) ((v601.toNat / 256) * 256 + r) l)
    (d : Fin 128) (l : Fin 256) :
    k0_pay110 (k0_pay23 (st6 i arg13 arg17 v601 k0_hw1 k (st4 i arg17 v601 k0_hw1 A f (k0_pay12 (F := Ideal)) (k0_t4_loop i v601).trips).1 X13
      (st4 i arg17 v601 k0_hw1 A f (k0_pay12 (F := Ideal)) (k0_t4_loop i v601).trips).2 (k0_pay20 (F := Ideal)) (k0_t6_loop i v601).trips)) (ix2 l d)
      = OH (arg3.view.read (Elt Ideal) X3) (arg12.view.read (Elt Ideal) X12) (arg13.view.read (Elt Ideal) X13) (arg14.view.read (Elt Ideal) X14) (arg15.view.read (Elt Ideal) X15) v592 v623 (i 1).val (v601.toNat / 256) (hd k) d l := by
  have h1 := fun l r hr => (h1 l r hr).trans (U_eq_UH arg3 arg15 X3 X15 (arg12.view.read (Elt Ideal) X12) (arg14.view.read (Elt Ideal) X14) v592 v623 k _ l)
  have h2 := fun l => (h2 l).trans (Finset.sup_congr rfl fun r _ => U_eq_UH arg3 arg15 X3 X15 (arg12.view.read (Elt Ideal) X12) (arg14.view.read (Elt Ideal) X14) v592 v623 k _ l)
  obtain ⟨s1, -, s3⟩ := st4_sem i arg17 v601 k0_hw1 A f hw l _ le_rfl
  rw [pay110_raw, st6_sem i arg13 arg17 v601 k0_hw1 k _ X13 _ hw d l _ le_rfl, s3]
  rw [t4_trips i v601 hw] at s1 ⊢
  unfold OH OW
  have e : ∀ r ∈ Finset.range (256 * ((i 1).val + 1 - v601.toNat / 256)), Ideal.exp2 ((arg17.view.read (Elt Ideal) f (ix2 (fx r) l) : EReal) - A (ix2 0 l)) = Ideal.exp2 (UH (arg3.view.read (Elt Ideal) X3) (arg12.view.read (Elt Ideal) X12) (arg14.view.read (Elt Ideal) X14) (arg15.view.read (Elt Ideal) X15) v592 v623 (hd k) ((v601.toNat / 256) * 256 + r) l - (Finset.range (256 * ((i 1).val + 1 - v601.toNat / 256))).sup fun r => UH (arg3.view.read (Elt Ideal) X3) (arg12.view.read (Elt Ideal) X12) (arg14.view.read (Elt Ideal) X14) (arg15.view.read (Elt Ideal) X15) v592 v623 (hd k) ((v601.toNat / 256) * 256 + r) l) := fun r hr => by
    rw [h1 l r (Finset.mem_range.mp hr), h2]
  rw [Finset.sum_congr rfl e]
  refine Finset.sum_congr rfl fun r hr => ?_
  rw [s1 r (Finset.mem_range.mp hr), e r hr]

theorem off81_eq (k : Fin k0_t1_loop.trips) : k0_off81 k = ![0, 128 * k.val] := by
  have hk : k.val < 32 := k.isLt
  have e : (Scalar.muli (Scf.iv 0#32 1#32 k.val) 128#32).toNat = 128 * k.val := by
    rw [head_fin ⟨k.val, hk⟩]
    show (BitVec.ofNat 32 k.val * 128#32).toNat = _
    rw [BitVec.toNat_mul, BitVec.toNat_ofNat]
    show k.val % 2 ^ 32 * 128 % 2 ^ 32 = _
    omega
  rw [← e]; rfl

/-- The score loop's exit: the scores of the window's keys, and their maximum. -/
instance vExit_t2 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v572 : IVec S256x256 32) (v592 : IVec S1x256 32) (v601 : Elt Ideal .i32) (k0_hw1 : k0_chk1 i v601) (v618 : BitVec 32) (v620 : BitVec 32) (v623 : IVec S1x256 32) (c0_i32_294 : BitVec 32) (c1_i32_295 : BitVec 32) (k0_t1 : Fin k0_t1_loop.trips) (v629 : Vec Ideal S1x256x128 .fp8e4m3) (v632 : Vec Ideal S1x1x256 .f32) (X12 : BufTy.Contents (Elt Ideal) arg12.view.ty) (X14 : BufTy.Contents (Elt Ideal) arg14.view.ty) (G17 : BufTy.Contents (Elt Ideal) arg17.view.ty)
    (hw : v601.toNat ≤ 4096) (h618 : v618 = firstBlk v601) (h572 : ∀ r l : Fin 256, v572 (ix2 r l) = BitVec.ofNat 32 r.val) :
    LoopExit (vInv_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v572 v592 v601 k0_hw1 v618 v620 v623 c0_i32_294 c1_i32_295 k0_t1 v629 v632 X12 X14 G17 (k0_pay5 (F := Ideal)) hw h618 h572) where
  post := fun acc => iprop((arg12.view.loc (c : Thread nD τ) ↦[arg12.view.set]{fullShare} X12) ∗ (arg14.view.loc (c : Thread nD τ) ↦[arg14.view.set]{fullShare} X14) ∗
    (∃ f, (arg17.view.loc (c : Thread nD τ) ↦[arg17.view.set]{fullShare} f) ∗
      ⌜∀ l, ∀ r < 256 * ((i 1).val + 1 - v601.toNat / 256), arg17.view.read (Elt Ideal) f (ix2 (fx r) l) = U (arg12.view.read (Elt Ideal) X12) (arg14.view.read (Elt Ideal) X14) v592 v623 v629 v632 (hd k0_t1) ((v601.toNat / 256) * 256 + r) l⌝) ∗
    ⌜∀ l, acc (ix2 0 l) = (Finset.range (256 * ((i 1).val + 1 - v601.toNat / 256))).sup fun r => U (arg12.view.read (Elt Ideal) X12) (arg14.view.read (Elt Ideal) X14) v592 v623 v629 v632 (hd k0_t1) ((v601.toNat / 256) * 256 + r) l⌝)
  exit := fun acc => by
    have e : Scf.trips (k0_t2_loop i v601).lb (k0_t2_loop i v601).ub (k0_t2_loop i v601).st = (i 1).val + 1 - v601.toNat / 256 := t2_trips i v601 hw
    have S := fun l => st2_sem i arg12 arg14 arg17 v572 v592 v601 k0_hw1 v618 v623 k0_t1 v629 v632 X12 X14 G17 hw h618 h572 l _ le_rfl
    rw [show (k0_t2_loop i v601).trips = (i 1).val + 1 - v601.toNat / 256 from e] at S
    rw [e]
    show iprop((arg12.view.loc (c : Thread nD τ) ↦[arg12.view.set]{fullShare} X12) ∗ (arg14.view.loc (c : Thread nD τ) ↦[arg14.view.set]{fullShare} X14) ∗ (∃ f, (arg17.view.loc (c : Thread nD τ) ↦[arg17.view.set]{fullShare} f) ∗ ⌜f = (st2 i arg12 arg14 arg17 v572 v592 v601 k0_hw1 v618 v623 k0_t1 v629 v632 X12 X14 G17 (k0_pay5 (F := Ideal)) ((i 1).val + 1 - v601.toNat / 256)).2⌝) ∗ ⌜acc = (st2 i arg12 arg14 arg17 v572 v592 v601 k0_hw1 v618 v623 k0_t1 v629 v632 X12 X14 G17 (k0_pay5 (F := Ideal)) ((i 1).val + 1 - v601.toNat / 256)).1⌝) ⊢ _
    iintro ⟨H12, H14, ⟨%f, H17, %hf⟩, %hacc⟩
    subst hf; subst hacc
    isplitl [H12]; · iexact H12
    isplitl [H14]; · iexact H14
    isplitl [H17]
    · iexists _; isplitl [H17]; · iexact H17
      ipureintro; exact fun l => (S l).1
    ipureintro; exact fun l => (S l).2

end Cert.KernelIdeal.Hand

end

end
-- ==== Proof.KernelIdealHead.lean ====
module

public import proofs.«01_k».proof.Proof.KernelIdealExit

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- One head's trip: the queries, the key and value caches and the scales are read, the head's columns of the
    tile of outputs are written. -/
@[sl_loop] def vInv_t1 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (v1 : BitVec 32) (v572 : IVec S256x256 32) (v592 : IVec S1x256 32) (v601 : Elt Ideal .i32) (k0_hw1 : k0_chk1 i v601) (v618 : BitVec 32) (v620 : BitVec 32)
    (X3 : BufTy.Contents (Elt Ideal) arg3.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty)
    (hw : v601.toNat ≤ 4096) (h618 : v618 = firstBlk v601) (h572 : ∀ r l : Fin 256, v572 (ix2 r l) = BitVec.ofNat 32 r.val) :
    Gen.LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v572 v592 v601 k0_hw1 v618 v620 where
  inv := fun k acc => iprop((arg3.view.loc (c : Thread nD τ) ↦[arg3.view.set]{fullShare} X3) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f17, (arg17.view.loc (c : Thread nD τ) ↦[arg17.view.set]{fullShare} f17)) ∗
    (∃ f18, (arg18.view.loc (c : Thread nD τ) ↦[arg18.view.set]{fullShare} f18) ∗ ⌜∀ h : Fin 32, h.val < k → ∀ d l, arg18.view.read (Elt Ideal) f18 (ix2 l (col h d)) = OH (arg3.view.read (Elt Ideal) X3) (arg12.view.read (Elt Ideal) X12) (arg13.view.read (Elt Ideal) X13) (arg14.view.read (Elt Ideal) X14) (arg15.view.read (Elt Ideal) X15) v592 (k0_pay109 v1) (i 1).val (v601.toNat / 256) h d l⌝))
  step := fun k acc => by
    unfold k0_t1_body
    simp only [k0_part1_eq_skeleton]
    unfold k0_part1_skel
    simp only [bind_assoc, pure_bind]
    iintro ⟨H3, H12, H13, H14, H15, ⟨%f17, H17⟩, ⟨%f18, H18, %hf⟩⟩
    sl_exec
    rename_i A
    rename ∀ l, ∀ r < _, _ = _ => h1
    rename ∀ l, A _ = _ => h2
    sl_step
    isplitl [H3]; · iexact H3
    isplitl [H12]; · iexact H12
    isplitl [H13]; · iexact H13
    isplitl [H14]; · iexact H14
    isplitl [H15]; · iexact H15
    isplitl [H17]; · iexists _; iexact H17
    iexists _; isplitl [H18]; · iexact H18
    ipureintro
    exact head_tile arg18 f18 (fun h d l => OH (arg3.view.read (Elt Ideal) X3) (arg12.view.read (Elt Ideal) X12) (arg13.view.read (Elt Ideal) X13) (arg14.view.read (Elt Ideal) X14) (arg15.view.read (Elt Ideal) X15) v592 (k0_pay109 v1) (i 1).val (v601.toNat / 256) h d l) k _ (off81_eq k) _ hf
      (head_pay i arg3 arg12 arg13 arg14 arg15 arg17 v592 (k0_pay109 v1) v601 k0_hw1 hw k X3 X12 X13 X14 X15 _ A h1 h2)

end Cert.KernelIdeal.Hand

end

end
-- ==== Proof.KernelIdealQuant.lean ====
module

public import proofs.«01_k».proof.Proof.KernelIdealPay

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The scaled magnitude of a row. -/
def rowT (x : Fin 4096 → EReal) : EReal := (Finset.univ.sup fun j => (FloatOps.absf (x j : Ideal .f32) : Ideal .f32)) * Ideal.ofBits .f32 991054117#32

/-- A row's exponent, as the kernel counts it. -/
def kexp (x : Fin 4096 → EReal) : BitVec 32 :=
  if (Finset.univ.sup fun j => (FloatOps.absf (x j : Ideal .f32) : Ideal .f32)) = 0 then 0#32 else
    IntOp.subi (Finset.fold IntOp.addi 0#32 (fun j : Fin 256 => Scalar.select (IntOp.andi (IntOp.andi (IntOp.cmpi .sgt (BitVec.ofNat 32 j.val) 0#32) (IntOp.cmpi .slt (BitVec.ofNat 32 j.val) 253#32))
      (BitVec.ofBool (decide (Ideal.ofBits .f32 (IntOp.shli .vector (BitVec.ofNat 32 j.val) 23#32) ≤ rowT x)))) 1#32 0#32) Finset.univ) 126#32

/-- A row's scale. -/
def kscale (x : Fin 4096 → EReal) : EReal := Ideal.ofBits .f32 (IntOp.shli .vector (IntOp.addi (kexp x) 127#32) 23#32)
/-- A row's code at `y`. -/
def kcode (x : Fin 4096 → EReal) (y : EReal) : EReal :=
  min (Ideal.ofBits .f32 1138753536#32) (max (Ideal.ofBits .f32 3286237184#32) (y * Ideal.ofBits .f32 (IntOp.shli .vector (IntOp.subi 127#32 (kexp x)) 23#32)))

theorem pay24_raw (x : Vec Ideal S32x4096 .f32) (r : Fin 32) : k0_pay24 x (ix2 r 0) = kexp fun j => x (ix2 r j) := by
  unfold kexp rowT Finset.sup
  rw [← neg_bits]
  pointwise [k0_pay24]
theorem pay1_raw (x : Vec Ideal S32x4096 .f32) (r : Fin 32) (l : Fin 4096) :
    k0_pay1 x (k0_pay26 x) (ix3 0 r l) = kcode (fun j => x (ix2 r j)) (x (ix2 r l)) := by
  unfold kcode
  rw [← pay24_raw]
  pointwise [k0_pay1, k0_pay26]
theorem pay2_raw (x : Vec Ideal S32x4096 .f32) (r : Fin 32) : k0_pay2 (k0_pay25 x) (ix3 0 r 0) = kscale fun j => x (ix2 r j) := by
  unfold kscale
  rw [← pay24_raw]
  pointwise [k0_pay2, k0_pay25]

theorem off_t8 (k : Fin k0_t8_loop.trips) : k0_off82 k = ![32 * k.val, 0] ∧ k0_off83 k = ![0, 32 * k.val, 0] ∧ k0_off84 k = ![0, 32 * k.val, 0] := by
  have hk : k.val < 8 := k.isLt
  have e : (Scalar.muli (Scf.iv 0#32 1#32 k.val) 32#32).toNat = 32 * k.val := by
    rw [head_fin ⟨k.val, by omega⟩]
    show (BitVec.ofNat 32 k.val * 32#32).toNat = _
    rw [BitVec.toNat_mul, BitVec.toNat_ofNat]
    show k.val % 2 ^ 32 * 32 % 2 ^ 32 = _
    omega
  refine ⟨?_, ?_, ?_⟩ <;> (rw [← e]; rfl)

theorem row_lt {k : ℕ} (hk : k < 8) (r : Fin 32) : 32 * k + r.val < 256 := by omega

theorem code_tile (arg10 : Memref sig .tc .vmem S1x256x4096 .fp8e4m3) (f : BufTy.Contents (Elt Ideal) arg10.view.ty) (T : Fin 256 → Fin 4096 → EReal)
    (k : ℕ) (hk : k < 8) {off : Fin 3 → ℕ} (inb) (hoff : off = ![0, 32 * k, 0]) (pay : S1x32x4096.Idx → Elt Ideal .fp8e4m3)
    (hf : ∀ q : Fin 256, q.val < 32 * k → ∀ j, arg10.view.read (Elt Ideal) f (ix3 0 q j) = T q j)
    (hp : ∀ (r : Fin 32) j, pay (ix3 0 r j) = T ⟨32 * k + r.val, row_lt hk r⟩ j) (q : Fin 256) (hq : q.val < 32 * (k + 1)) (j : Fin 4096) :
    arg10.view.read (Elt Ideal) (arg10.view.writes (Elt Ideal) f [⟨Rect.unit (s := S1x256x4096) off S1x32x4096.size inb, pay⟩]) (ix3 0 q j) = T q j := by
  by_cases h : q.val < 32 * k
  · rw [← hf q h j]
    refine View.read_writes_cons_unit_of_not_mem _ _ inb pay [] _ hoff 1 (.inl ?_)
    exact h
  · have hr : q.val - 32 * k < 32 := by omega
    have e : q = ⟨32 * k + (⟨q.val - 32 * k, hr⟩ : Fin 32).val, row_lt hk _⟩ := Fin.ext (by dsimp only; omega)
    refine (View.read_writes_cons_unit_of_mem _ _ inb pay [] _ (ix3 0 ⟨q.val - 32 * k, hr⟩ j) hoff fun a => ?_).trans ((hp _ j).trans (by rw [← e]))
    match a with
    | 0 => rfl
    | 1 => show q.val = 32 * k + (q.val - 32 * k); omega
    | 2 => show j.val = 0 + j.val; omega

theorem scale_tile (arg11 : Memref sig .tc .vmem S1x256x1 .f32) (f : BufTy.Contents (Elt Ideal) arg11.view.ty) (T : Fin 256 → EReal)
    (k : ℕ) (hk : k < 8) {off : Fin 3 → ℕ} (inb) (hoff : off = ![0, 32 * k, 0]) (pay : S1x32x1.Idx → Elt Ideal .f32)
    (hf : ∀ q : Fin 256, q.val < 32 * k → arg11.view.read (Elt Ideal) f (ix3 0 q 0) = T q)
    (hp : ∀ (r : Fin 32), pay (ix3 0 r 0) = T ⟨32 * k + r.val, row_lt hk r⟩) (q : Fin 256) (hq : q.val < 32 * (k + 1)) :
    arg11.view.read (Elt Ideal) (arg11.view.writes (Elt Ideal) f [⟨Rect.unit (s := S1x256x1) off S1x32x1.size inb, pay⟩]) (ix3 0 q 0) = T q := by
  by_cases h : q.val < 32 * k
  · rw [← hf q h]
    refine View.read_writes_cons_unit_of_not_mem _ _ inb pay [] _ hoff 1 (.inl ?_)
    exact h
  · have hr : q.val - 32 * k < 32 := by omega
    have e : q = ⟨32 * k + (⟨q.val - 32 * k, hr⟩ : Fin 32).val, row_lt hk _⟩ := Fin.ext (by dsimp only; omega)
    refine (View.read_writes_cons_unit_of_mem _ _ inb pay [] _ (ix3 0 ⟨q.val - 32 * k, hr⟩ 0) hoff fun a => ?_).trans ((hp _).trans (by rw [← e]))
    match a with
    | 0 => rfl
    | 1 => show q.val = 32 * k + (q.val - 32 * k); omega
    | 2 => rfl

/-- The quantiser's trip: 32 rows of the tile of outputs are turned to codes and scales. -/
@[sl_loop] def vInv_t8 (c : Dev nD) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (X18 : BufTy.Contents (Elt Ideal) arg18.view.ty) :
    LoopInvTy_k0_t8 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 where
  inv := fun k acc => iprop((arg18.view.loc (c : Thread nD τ) ↦[arg18.view.set]{fullShare} X18) ∗
    (∃ f10, (arg10.view.loc (c : Thread nD τ) ↦[arg10.view.set]{fullShare} f10) ∗ ⌜∀ q : Fin 256, q.val < 32 * k → ∀ j : Fin 4096, arg10.view.read (Elt Ideal) f10 (ix3 0 q j) = kcode (fun j => arg18.view.read (Elt Ideal) X18 (ix2 q j)) (arg18.view.read (Elt Ideal) X18 (ix2 q j))⌝) ∗
    (∃ f11, (arg11.view.loc (c : Thread nD τ) ↦[arg11.view.set]{fullShare} f11) ∗ ⌜∀ q : Fin 256, q.val < 32 * k → arg11.view.read (Elt Ideal) f11 (ix3 0 q 0) = kscale (fun j => arg18.view.read (Elt Ideal) X18 (ix2 q j))⌝))
  step := fun k acc => by
    unfold k0_t8_body
    simp only [k0_part2_eq_skeleton]
    unfold k0_part2_skel
    simp only [bind_assoc, pure_bind]
    iintro ⟨H18, ⟨%f10, H10, %h10⟩, ⟨%f11, H11, %h11⟩⟩
    sl_exec
    sl_step
    have hk : k.val < 8 := k.isLt
    obtain ⟨o82, o83, o84⟩ := off_t8 k
    have key : ∀ (r : Fin 32) (j : Fin 4096), (View.readAt (Elt Ideal) arg18.view (Rect.unit (s := S256x4096) (k0_off82 k) S32x4096.size (k0_off82_inb k)).toLoadRect X18) (ix2 r j)
        = arg18.view.read (Elt Ideal) X18 (ix2 ⟨32 * k.val + r.val, row_lt hk r⟩ j) := fun r j => by
      refine readAt_unit (s := S256x4096) _ _ _ o82 _ _ fun a => ?_
      match a with
      | 0 => rfl
      | 1 => show j.val = 0 + j.val; omega
    isplitl [H18]; · iexact H18
    isplitl [H10]
    · iexists _; isplitl [H10]; · iexact H10
      ipureintro
      exact code_tile arg10 f10 (fun q j => kcode (fun j => arg18.view.read (Elt Ideal) X18 (ix2 q j)) (arg18.view.read (Elt Ideal) X18 (ix2 q j))) k.val hk _ o83 _ h10
        (fun r j => (pay1_raw _ r j).trans (by rw [key]; congr 1; funext j; exact key r j))
    · iexists _; isplitl [H11]; · iexact H11
      ipureintro
      exact scale_tile arg11 f11 (fun q => kscale (fun j => arg18.view.read (Elt Ideal) X18 (ix2 q j))) k.val hk _ o84 _ h11
        (fun r => (pay2_raw _ r).trans (by congr 1; funext j; exact key r j))

end Cert.KernelIdeal.Hand

end

end
-- ==== Proof.KernelIdealStore.lean ====
module

public import proofs.«01_k».proof.Proof.KernelIdealHead
public import proofs.«01_k».proof.Proof.KernelIdealQuant

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem q0_toNat (i : grid0.Coords) : (Scalar.muli (BitVec.ofNat 32 (i 1).val) 256#32).toNat = 256 * (i 1).val := by
  have hi : (i 1).val < 16 := (i 1).isLt
  show (BitVec.ofNat 32 (i 1).val * 256#32).toNat = _
  rw [BitVec.toNat_mul, BitVec.toNat_ofNat, BitVec.toNat_ofNat]
  omega

/-- The first key of a query's document, from the documents of the block's queries and from what the block before left. -/
def stl (i : grid0.Coords) (A7 : S1x1x256.Idx → BitVec 32) (A16 : S2x256.Idx → BitVec 32) (l : Fin 256) : BitVec 32 :=
  let cnt := Finset.fold IntOp.addi 0#32 (fun x : Fin 256 => Scalar.select (IntOp.cmpi .slt (A7 (ix3 0 0 x)) (A7 (ix3 0 0 l))) 1#32 0#32) Finset.univ
  let first := Scalar.cmpi .eq (BitVec.ofNat 32 (i 1).val) 0#32
  Scalar.select (IntOp.andi (IntOp.cmpi .eq cnt 0#32) (IntOp.cmpi .eq (A7 (ix3 0 0 l)) (Scalar.select first 4294967295#32 (A16 (ix2 1 255)))))
    (Scalar.select first 0#32 (A16 (ix2 0 255))) (IntOp.addi (Scalar.muli (BitVec.ofNat 32 (i 1).val) 256#32) cnt)

/-- The factor of the scores. -/
def cl2e : EReal := (Named.named κ "sm_scale_log2e" 0x3E0293EE#32 : Ideal .f32)

/-- What the body leaves, as values. -/
def BodyPost (i : grid0.Coords) (w : BitVec 32) (A3 : S1x256x4096.Idx → EReal) (A4 A5 A6 : S1x32x256.Idx → EReal) (A7 : S1x1x256.Idx → BitVec 32) (A8 A9 : S1x256x4096.Idx → EReal)
    (A12 : S32x4096x128.Idx → EReal) (A13 : S32x128x4096.Idx → EReal) (A14 : S32x1x4096.Idx → EReal) (A16 : S2x256.Idx → BitVec 32)
    (B10 : S1x256x4096.Idx → EReal) (B11 : S1x256x1.Idx → EReal) (B12 : S32x4096x128.Idx → EReal) (B13 : S32x128x4096.Idx → EReal) (B14 : S32x1x4096.Idx → EReal) (B16 : S2x256.Idx → BitVec 32) : Prop :=
  ((∀ h (r : Fin 256) d, B12 (ix3 h (fx (256 * (i 1).val + r.val)) d) = A8 (ix3 0 r (col h d))) ∧ ∀ h (n : Fin 4096) d, n.val < 256 * (i 1).val → B12 (ix3 h n d) = A12 (ix3 h n d)) ∧
  ((∀ h (r : Fin 256) d, B13 (ix3 h d (fx (256 * (i 1).val + r.val))) = A9 (ix3 0 r (col h d)) * A6 (ix3 0 h r)) ∧ ∀ h (n : Fin 4096) d, n.val < 256 * (i 1).val → B13 (ix3 h d n) = A13 (ix3 h d n)) ∧
  ((∀ h (r : Fin 256), B14 (ix3 h 0 (fx (256 * (i 1).val + r.val))) = A5 (ix3 0 h r)) ∧ ∀ h (n : Fin 4096), n.val < 256 * (i 1).val → B14 (ix3 h 0 n) = A14 (ix3 h 0 n)) ∧
  (∀ l, B16 (ix2 0 l) = stl i A7 A16 l) ∧ (∀ l, B16 (ix2 1 l) = A7 (ix3 0 0 l)) ∧
  ∃ (A15 : S32x1x256.Idx → EReal) (v592 v623 : IVec S1x256 32) (O : Fin 256 → Fin 4096 → EReal),
    (∀ h l, A15 (ix3 h 0 l) = A4 (ix3 0 h l) * cl2e) ∧ (∀ l, v592 (ix2 0 l) = stl i A7 A16 l) ∧ (∀ l, v623 (ix2 0 l) = BitVec.ofNat 32 (256 * (i 1).val + l.val)) ∧
    (∀ h d l, O l (col h d) = OH A3 B12 B13 B14 A15 v592 v623 (i 1).val (w.toNat / 256) h d l) ∧
    (∀ (l : Fin 256) j, B10 (ix3 0 l j) = kcode (O l) (O l j)) ∧ ∀ (l : Fin 256), B11 (ix3 0 l 0) = kscale (O l)

theorem rd_col (arg : Memref sig .tc .vmem S1x256x4096 .fp8e4m3) (X : BufTy.Contents (Elt Ideal) arg.view.ty) {h : ℕ} (hh : h < 32) {off : Fin 3 → ℕ} (inb) (hoff : off = ![0, 0, 128 * h]) (r : Fin 256) (d : Fin 128) :
    View.readAt (Elt Ideal) arg.view (Rect.unit (s := S1x256x4096) off S1x256x128.size inb).toLoadRect X (ix3 0 r d) = arg.view.read (Elt Ideal) X (ix3 0 r (col ⟨h, hh⟩ d)) := by
  refine readAt_unit (s := S1x256x4096) _ _ _ hoff _ _ fun a => ?_
  match a with
  | 0 => rfl
  | 1 => show r.val = 0 + r.val; omega
  | 2 => rfl

theorem rd_row (arg : Memref sig .tc .vmem S1x32x256 .f32) (X : BufTy.Contents (Elt Ideal) arg.view.ty) (inb) (h : Fin 32) (r : Fin 256) :
    View.readAt (Elt Ideal) arg.view (Rect.unit (s := S1x32x256) ![0, 0, 0] S1x32x256.size inb).toLoadRect X (ix3 0 h r) = arg.view.read (Elt Ideal) X (ix3 0 h r) := by
  refine readAt_unit (s := S1x32x256) _ _ _ rfl _ _ fun a => ?_
  match a with
  | 0 => rfl
  | 1 => show h.val = 0 + h.val; omega
  | 2 => show r.val = 0 + r.val; omega

theorem rd_doc (arg : Memref sig .tc .vmem S1x1x256 .i32) (X : BufTy.Contents (Elt Ideal) arg.view.ty) (inb) (r : Fin 256) :
    View.readAt (Elt Ideal) arg.view (Rect.unit (s := S1x1x256) ![0, 0, 0] S1x1x256.size inb).toLoadRect X (ix3 0 0 r) = arg.view.read (Elt Ideal) X (ix3 0 0 r) := by
  refine readAt_unit (s := S1x1x256) _ _ _ rfl _ _ fun a => ?_
  match a with
  | 0 => rfl
  | 1 => rfl
  | 2 => show r.val = 0 + r.val; omega

theorem rd_one (arg : Memref sig .tc .vmem S2x256 .i32) (X : BufTy.Contents (Elt Ideal) arg.view.ty) {off : Fin 2 → ℕ} (inb) (a : Fin 2) (r : Fin 256) (hoff : off = ![a.val, r.val]) :
    View.readAt (Elt Ideal) arg.view (Rect.unit (s := S2x256) off S1x1.size inb).toLoadRect X (ix2 0 0) = arg.view.read (Elt Ideal) X (ix2 a r) := by
  refine readAt_unit (s := S2x256) _ _ _ hoff _ _ fun b => ?_
  match b with
  | 0 => rfl
  | 1 => rfl

theorem fx_row {k : ℕ} (hk : k < 16) (r : Fin 256) : (fx (256 * k + r.val)).val = 256 * k + r.val := fx_val (by omega)

/-- The keys after the first `n` heads' stores. -/
def KC (arg : Memref sig .tc .vmem S32x4096x128 .fp8e4m3) (g X : BufTy.Contents (Elt Ideal) arg.view.ty) (A : Fin 32 → Fin 256 → Fin 128 → EReal) (k n : ℕ) : Prop :=
  (∀ h : Fin 32, h.val < n → ∀ (r : Fin 256) d, arg.view.read (Elt Ideal) g (ix3 h (fx (256 * k + r.val)) d) = A h r d) ∧
  ∀ h (m : Fin 4096) d, m.val < 256 * k → arg.view.read (Elt Ideal) g (ix3 h m d) = arg.view.read (Elt Ideal) X (ix3 h m d)

theorem kc_zero (arg : Memref sig .tc .vmem S32x4096x128 .fp8e4m3) (X : BufTy.Contents (Elt Ideal) arg.view.ty) (A) (k : ℕ) : KC arg (arg.view.writes (Elt Ideal) X []) X A k 0 :=
  ⟨fun _ h => absurd h (Nat.not_lt_zero _), fun _ _ _ _ => rfl⟩

theorem kc_step (arg : Memref sig .tc .vmem S32x4096x128 .fp8e4m3) (X : BufTy.Contents (Elt Ideal) arg.view.ty) (A) {k : ℕ} (hk : k < 16) {n : ℕ} (hn : n < 32) (L) {off : Fin 3 → ℕ} (inb) (hoff : off = ![n, 256 * k, 0])
    (pay : S1x256x128.Idx → Elt Ideal .fp8e4m3) (hp : ∀ r d, pay (ix3 0 r d) = A ⟨n, hn⟩ r d) (ih : KC arg (arg.view.writes (Elt Ideal) X L) X A k n) :
    KC arg (arg.view.writes (Elt Ideal) X (⟨Rect.unit (s := S32x4096x128) off S1x256x128.size inb, pay⟩ :: L)) X A k (n + 1) := by
  refine ⟨fun h hh r d => ?_, fun h m d hm => ?_⟩
  · by_cases e : h.val = n
    · obtain rfl : h = ⟨n, hn⟩ := Fin.ext e
      refine (View.read_writes_cons_unit_of_mem _ _ inb pay L _ (ix3 0 r d) hoff fun a => ?_).trans (hp r d)
      match a with
      | 0 => rfl
      | 1 => exact fx_row hk r
      | 2 => show d.val = 0 + d.val; omega
    · rw [← ih.1 h (by omega) r d]
      refine View.read_writes_cons_unit_of_not_mem _ _ inb pay L _ hoff 0 (.inl ?_)
      show h.val < n; omega
  · rw [← ih.2 h m d hm]
    exact View.read_writes_cons_unit_of_not_mem _ _ inb pay L _ hoff 1 (.inl hm)

/-- The scaled values after the first `n` heads' stores. -/
def VC (arg : Memref sig .tc .vmem S32x128x4096 .bf16) (g X : BufTy.Contents (Elt Ideal) arg.view.ty) (A : Fin 32 → Fin 256 → Fin 128 → EReal) (k n : ℕ) : Prop :=
  (∀ h : Fin 32, h.val < n → ∀ (r : Fin 256) d, arg.view.read (Elt Ideal) g (ix3 h d (fx (256 * k + r.val))) = A h r d) ∧
  ∀ h (m : Fin 4096) d, m.val < 256 * k → arg.view.read (Elt Ideal) g (ix3 h d m) = arg.view.read (Elt Ideal) X (ix3 h d m)

theorem vc_zero (arg : Memref sig .tc .vmem S32x128x4096 .bf16) (X : BufTy.Contents (Elt Ideal) arg.view.ty) (A) (k : ℕ) : VC arg (arg.view.writes (Elt Ideal) X []) X A k 0 :=
  ⟨fun _ h => absurd h (Nat.not_lt_zero _), fun _ _ _ _ => rfl⟩

theorem vc_step (arg : Memref sig .tc .vmem S32x128x4096 .bf16) (X : BufTy.Contents (Elt Ideal) arg.view.ty) (A) {k : ℕ} (hk : k < 16) {n : ℕ} (hn : n < 32) (L) {off : Fin 3 → ℕ} (inb) (hoff : off = ![n, 0, 256 * k])
    (pay : S1x128x256.Idx → Elt Ideal .bf16) (hp : ∀ r d, pay (ix3 0 d r) = A ⟨n, hn⟩ r d) (ih : VC arg (arg.view.writes (Elt Ideal) X L) X A k n) :
    VC arg (arg.view.writes (Elt Ideal) X (⟨Rect.unit (s := S32x128x4096) off S1x128x256.size inb, pay⟩ :: L)) X A k (n + 1) := by
  refine ⟨fun h hh r d => ?_, fun h m d hm => ?_⟩
  · by_cases e : h.val = n
    · obtain rfl : h = ⟨n, hn⟩ := Fin.ext e
      refine (View.read_writes_cons_unit_of_mem _ _ inb pay L _ (ix3 0 d r) hoff fun a => ?_).trans (hp r d)
      match a with
      | 0 => rfl
      | 1 => show d.val = 0 + d.val; omega
      | 2 => exact fx_row hk r
    · rw [← ih.1 h (by omega) r d]
      refine View.read_writes_cons_unit_of_not_mem _ _ inb pay L _ hoff 0 (.inl ?_)
      show h.val < n; omega
  · rw [← ih.2 h m d hm]
    exact View.read_writes_cons_unit_of_not_mem _ _ inb pay L _ hoff 2 (.inl hm)

theorem sc_store (arg : Memref sig .tc .vmem S32x1x4096 .f32) (X : BufTy.Contents (Elt Ideal) arg.view.ty) (A : Fin 32 → Fin 256 → EReal) {k : ℕ} (hk : k < 16) {off : Fin 3 → ℕ} (inb) (hoff : off = ![0, 0, 256 * k])
    (pay : S32x1x256.Idx → Elt Ideal .f32) (hp : ∀ h r, pay (ix3 h 0 r) = A h r) :
    (∀ h (r : Fin 256), arg.view.read (Elt Ideal) (arg.view.writes (Elt Ideal) X [⟨Rect.unit (s := S32x1x4096) off S32x1x256.size inb, pay⟩]) (ix3 h 0 (fx (256 * k + r.val))) = A h r) ∧
    ∀ h (m : Fin 4096), m.val < 256 * k → arg.view.read (Elt Ideal) (arg.view.writes (Elt Ideal) X [⟨Rect.unit (s := S32x1x4096) off S32x1x256.size inb, pay⟩]) (ix3 h 0 m) = arg.view.read (Elt Ideal) X (ix3 h 0 m) := by
  refine ⟨fun h r => ?_, fun h m hm => ?_⟩
  · refine (View.read_writes_cons_unit_of_mem _ _ inb pay [] _ (ix3 h 0 r) hoff fun a => ?_).trans (hp h r)
    match a with
    | 0 => show h.val = 0 + h.val; omega
    | 1 => rfl
    | 2 => exact fx_row hk r
  · exact View.read_writes_cons_unit_of_not_mem _ _ inb pay [] _ hoff 2 (.inl hm)

theorem qs_store (arg : Memref sig .tc .vmem S32x1x256 .f32) (X : BufTy.Contents (Elt Ideal) arg.view.ty) (inb)
    (pay : S32x1x256.Idx → Elt Ideal .f32) (h : Fin 32) (r : Fin 256) :
    arg.view.read (Elt Ideal) (arg.view.writes (Elt Ideal) X [⟨Rect.unit (s := S32x1x256) ![0, 0, 0] S32x1x256.size inb, pay⟩]) (ix3 h 0 r) = pay (ix3 h 0 r) := by
  refine View.read_writes_cons_unit_of_mem _ _ inb pay [] _ (ix3 h 0 r) rfl fun a => ?_
  match a with
  | 0 => show h.val = 0 + h.val; omega
  | 1 => rfl
  | 2 => show r.val = 0 + r.val; omega

theorem st_store (arg : Memref sig .tc .vmem S2x256 .i32) (X : BufTy.Contents (Elt Ideal) arg.view.ty) (inb inb')
    (pay pay' : S1x256.Idx → Elt Ideal .i32) (r : Fin 256) :
    arg.view.read (Elt Ideal) (arg.view.writes (Elt Ideal) X [⟨Rect.unit (s := S2x256) ![1, 0] S1x256.size inb, pay⟩, ⟨Rect.unit (s := S2x256) ![0, 0] S1x256.size inb', pay'⟩]) (ix2 0 r) = pay' (ix2 0 r) ∧
    arg.view.read (Elt Ideal) (arg.view.writes (Elt Ideal) X [⟨Rect.unit (s := S2x256) ![1, 0] S1x256.size inb, pay⟩, ⟨Rect.unit (s := S2x256) ![0, 0] S1x256.size inb', pay'⟩]) (ix2 1 r) = pay (ix2 0 r) := by
  constructor
  · refine (View.read_writes_cons_unit_of_not_mem _ _ inb pay _ _ rfl 0 (.inl Nat.zero_lt_one)).trans ?_
    refine View.read_writes_cons_unit_of_mem _ _ inb' pay' [] _ (ix2 0 r) rfl fun a => ?_
    match a with
    | 0 => rfl
    | 1 => show r.val = 0 + r.val; omega
  · refine View.read_writes_cons_unit_of_mem _ _ inb pay _ _ (ix2 0 r) rfl fun a => ?_
    match a with
    | 0 => rfl
    | 1 => show r.val = 0 + r.val; omega

theorem pay106_raw (i : grid0.Coords) (A7 : Vec Ideal S1x1x256 .i32) (u v : Vec Ideal S1x1 .i32) (A16 : S2x256.Idx → BitVec 32) (hu : u (ix2 0 0) = A16 (ix2 1 255)) (hv : v (ix2 0 0) = A16 (ix2 0 255)) (l : Fin 256) :
    k0_pay106 (F := Ideal) (BitVec.ofNat 32 (i 1).val) (Scalar.muli (BitVec.ofNat 32 (i 1).val) 256#32) A7 u v (ix2 0 l) = stl i A7 A16 l := by
  unfold stl
  rw [← hu, ← hv]
  pointwise [k0_pay106, k0_pay105]
theorem pay29_raw (x : Vec Ideal S1x32x256 .f32) (h : Fin 32) (l : Fin 256) : k0_pay29 x (ix3 h 0 l) = x (ix3 0 h l) * cl2e := by
  unfold cl2e
  pointwise [k0_pay29]
theorem pay27_raw (x : Vec Ideal S1x32x256 .f32) (h : Fin 32) (l : Fin 256) : k0_pay27 x (ix3 h 0 l) = x (ix3 0 h l) := by
  pointwise [k0_pay27]
theorem pay109_raw (i : grid0.Coords) (l : Fin 256) : k0_pay109 (Scalar.muli (BitVec.ofNat 32 (i 1).val) 256#32) (ix2 0 l) = BitVec.ofNat 32 (256 * (i 1).val + l.val) := by
  have e : Scalar.muli (BitVec.ofNat 32 (i 1).val) 256#32 = BitVec.ofNat 32 (256 * (i 1).val) :=
    BitVec.eq_of_toNat_eq (by rw [q0_toNat, BitVec.toNat_ofNat]; have := (i 1).isLt; simp at this; omega)
  rw [e]
  have h : k0_pay109 (BitVec.ofNat 32 (256 * (i 1).val)) (ix2 0 l) = IntOp.addi (BitVec.ofNat 32 (256 * (i 1).val)) (BitVec.ofNat 32 l.val) := by pointwise [k0_pay109]
  rw [h, BitVec.ofNat_add]; rfl
theorem st_eq (i : grid0.Coords) (A7 A7' : S1x1x256.Idx → BitVec 32) (A16 : S2x256.Idx → BitVec 32) (h : ∀ r, A7 (ix3 0 0 r) = A7' (ix3 0 0 r)) (l : Fin 256) : stl i A7 A16 l = stl i A7' A16 l := by
  unfold stl; simp only [h]

theorem bodyPost_intro (i : grid0.Coords) (w : BitVec 32) (A3 : S1x256x4096.Idx → EReal) (A4 A5 A6 : S1x32x256.Idx → EReal) (A7 : S1x1x256.Idx → BitVec 32) (A8 A9 : S1x256x4096.Idx → EReal)
    (arg12 : Memref sig .tc .vmem S32x4096x128 .fp8e4m3) (arg13 : Memref sig .tc .vmem S32x128x4096 .bf16) (f12 X12 : BufTy.Contents (Elt Ideal) arg12.view.ty) (f13 X13 : BufTy.Contents (Elt Ideal) arg13.view.ty)
    (A14 : S32x1x4096.Idx → EReal) (A16 : S2x256.Idx → BitVec 32)
    (B10 : S1x256x4096.Idx → EReal) (B11 : S1x256x1.Idx → EReal) (B14 : S32x1x4096.Idx → EReal) (B16 : S2x256.Idx → BitVec 32) (A15 : S32x1x256.Idx → EReal) (v592 v623 : IVec S1x256 32) (O : Fin 256 → Fin 4096 → EReal)
    (hk : KC arg12 f12 X12 (fun h r d => A8 (ix3 0 r (col h d))) (i 1).val 32)
    (hv : VC arg13 f13 X13 (fun h r d => A9 (ix3 0 r (col h d)) * A6 (ix3 0 h r)) (i 1).val 32)
    (hs : (∀ h (r : Fin 256), B14 (ix3 h 0 (fx (256 * (i 1).val + r.val))) = A5 (ix3 0 h r)) ∧ ∀ h (n : Fin 4096), n.val < 256 * (i 1).val → B14 (ix3 h 0 n) = A14 (ix3 h 0 n))
    (h0 : ∀ l, B16 (ix2 0 l) = stl i A7 A16 l) (h1 : ∀ l, B16 (ix2 1 l) = A7 (ix3 0 0 l))
    (h15 : ∀ h l, A15 (ix3 h 0 l) = A4 (ix3 0 h l) * cl2e) (h592 : ∀ l, v592 (ix2 0 l) = stl i A7 A16 l) (h623 : ∀ l, v623 (ix2 0 l) = BitVec.ofNat 32 (256 * (i 1).val + l.val))
    (hO : ∀ h : Fin 32, h.val < 32 → ∀ d l, O l (col h d) = OH A3 (arg12.view.read (Elt Ideal) f12) (arg13.view.read (Elt Ideal) f13) B14 A15 v592 v623 (i 1).val (w.toNat / 256) h d l)
    (h10 : ∀ l : Fin 256, l.val < 256 → ∀ j, B10 (ix3 0 l j) = kcode (O l) (O l j)) (h11 : ∀ l : Fin 256, l.val < 256 → B11 (ix3 0 l 0) = kscale (O l)) :
    BodyPost i w A3 A4 A5 A6 A7 A8 A9 (arg12.view.read (Elt Ideal) X12) (arg13.view.read (Elt Ideal) X13) A14 A16 B10 B11 (arg12.view.read (Elt Ideal) f12) (arg13.view.read (Elt Ideal) f13) B14 B16 :=
  ⟨⟨fun h r d => hk.1 h h.isLt r d, hk.2⟩, ⟨fun h r d => hv.1 h h.isLt r d, hv.2⟩, hs, h0, h1, A15, v592, v623, O, h15, h592, h623, fun h d l => hO h h.isLt d l, fun l j => h10 l l.isLt j, fun l => h11 l l.isLt⟩

end Cert.KernelIdeal.Hand

end

end
-- ==== Proof.KernelIdealValue.lean ====
module

public import proofs.«01_k».proof.Proof.KernelIdealStore

@[expose] public section

set_option warn.classDefReducibility false
set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The body at a grid point: what it leaves in its outputs and in the buffers that the next points read. -/
theorem sound_kernelV (c : Dev nD) (q : PosShare TreeShare) (i : grid0.Coords) (arg2 : Memref sig .tc .smem S8x16 .i32) (harg2 : arg2.IsWhole) (arg3 : Memref sig .tc .vmem S1x256x4096 .fp8e4m3) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .f32) (harg6 : arg6.IsWhole) (arg7 : Memref sig .tc .vmem S1x1x256 .i32) (harg7 : arg7.IsWhole) (arg8 : Memref sig .tc .vmem S1x256x4096 .fp8e4m3) (harg8 : arg8.IsWhole) (arg9 : Memref sig .tc .vmem S1x256x4096 .fp8e4m3) (harg9 : arg9.IsWhole) (arg10 : Memref sig .tc .vmem S1x256x4096 .fp8e4m3) (harg10 : arg10.IsWhole) (arg11 : Memref sig .tc .vmem S1x256x1 .f32) (harg11 : arg11.IsWhole) (arg12 : Memref sig .tc .vmem S32x4096x128 .fp8e4m3) (harg12 : arg12.IsWhole) (arg13 : Memref sig .tc .vmem S32x128x4096 .bf16) (harg13 : arg13.IsWhole) (arg14 : Memref sig .tc .vmem S32x1x4096 .f32) (harg14 : arg14.IsWhole) (arg15 : Memref sig .tc .vmem S32x1x256 .f32) (harg15 : arg15.IsWhole) (arg16 : Memref sig .tc .vmem S2x256 .i32) (harg16 : arg16.IsWhole) (arg17 : Memref sig .tc .vmem S4096x256 .f32) (harg17 : arg17.IsWhole) (arg18 : Memref sig .tc .vmem S256x4096 .f32) (harg18 : arg18.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty)
    (w : BitVec 32) (hX2 : ∀ x, View.readAt (Elt Ideal) arg2.view (Rect.unit (s := S8x16) (k0_off66 i) S1x1.size (k0_off66_inb i)).toLoadRect X2 x = w) (hw0 : w.toNat ≤ 4096)
    (K : PUnit → sProp 𝕄) :
    iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ ((∃ f10 : BufTy.Contents (Elt Ideal) arg10.view.ty, ∃ f11 : BufTy.Contents (Elt Ideal) arg11.view.ty, ∃ f12 : BufTy.Contents (Elt Ideal) arg12.view.ty, ∃ f13 : BufTy.Contents (Elt Ideal) arg13.view.ty, ∃ f14 : BufTy.Contents (Elt Ideal) arg14.view.ty, ∃ f15 : BufTy.Contents (Elt Ideal) arg15.view.ty, ∃ f16 : BufTy.Contents (Elt Ideal) arg16.view.ty, ∃ f17 : BufTy.Contents (Elt Ideal) arg17.view.ty, ∃ f18 : BufTy.Contents (Elt Ideal) arg18.view.ty, (arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ ⌜BodyPost i w (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg12.view.read (Elt Ideal) X12) (arg13.view.read (Elt Ideal) X13) (arg14.view.read (Elt Ideal) X14) (arg16.view.read (Elt Ideal) X16) (arg10.view.read (Elt Ideal) f10) (arg11.view.read (Elt Ideal) f11) (arg12.view.read (Elt Ideal) f12) (arg13.view.read (Elt Ideal) f13) (arg14.view.read (Elt Ideal) f14) (arg16.view.read (Elt Ideal) f16)⌝) -∗ K ⟨⟩))
      ⊢ wp frame (wpE (defs₀ (F := Ideal)) Variants.none (c : Thread nD τ) none) Set.univ (cc0__body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]
  unfold cc0__body_skel
  simp only [k0_part20_eq_skeleton]
  unfold k0_part20_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [bind_assoc, pure_bind]
  iintro ⟨H2, H3, H4, H5, H6, H7, H8, H9, H10, H11, H12, H13, H14, H15, H16, H17, H18, Hk⟩
  sl_exec
  have hr : sound_kernelV.sl.r i arg2 X2 = w := by unfold sound_kernelV.sl.r; exact hX2 _
  have hw : (sound_kernelV.sl.r i arg2 X2).toNat ≤ 4096 := by rw [hr]; exact hw0
  have hchk : k0_chk1 i (sound_kernelV.sl.r i arg2 X2) := chk1 i _ hw
  have h618 : firstBlk (sound_kernelV.sl.r i arg2 X2) = firstBlk (sound_kernelV.sl.r i arg2 X2) := rfl
  have h572 : ∀ r l : Fin 256, (iota .tc S256x256 32 [0] iota_S256x256_d0_w32 : IVec S256x256 32) (ix2 r l) = BitVec.ofNat 32 r.val := fun r l => by pointwise []
  sl_exec
  rename ∀ h : Fin 32, h.val < _ → ∀ d l, _ = _ => hO
  rename ∀ q : Fin 256, q.val < _ → ∀ j : Fin 4096, _ = _ => h10
  rename ∀ q : Fin 256, q.val < _ → _ = _ => h11
  have hi : (i 1).val < 16 := (i 1).isLt
  sl_step
  iapply Hk
  iexists _, _, _, _, _, _, _, _, _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  ipureintro
  have hst : ∀ l : Fin 256, k0_pay106 (F := Ideal) (BitVec.ofNat 32 (i 1).val) (Scalar.muli (BitVec.ofNat 32 (i 1).val) 256#32)
      (View.readAt (Elt Ideal) arg7.view (Rect.unit (s := S1x1x256) ![0, 0, 0] S1x1x256.size inb_S1x1x256_S1x1x256_0_0_0).toLoadRect X7)
      (View.readAt (Elt Ideal) arg16.view (Rect.unit (s := S2x256) ![1, 255] S1x1.size inb_S2x256_S1x1_1_255).toLoadRect X16)
      (View.readAt (Elt Ideal) arg16.view (Rect.unit (s := S2x256) ![0, 255] S1x1.size inb_S2x256_S1x1_0_255).toLoadRect X16) (ix2 0 l)
      = stl i (arg7.view.read (Elt Ideal) X7) (arg16.view.read (Elt Ideal) X16) l := fun l =>
    (pay106_raw i _ _ _ _ (rd_one arg16 X16 inb_S2x256_S1x1_1_255 1 255 rfl) (rd_one arg16 X16 inb_S2x256_S1x1_0_255 0 255 rfl) l).trans (st_eq i _ _ _ (fun r => rd_doc arg7 X7 inb_S1x1x256_S1x1x256_0_0_0 r) l)
  rw [hr] at hO
  refine bodyPost_intro i w _ _ _ _ _ _ _ arg12 arg13 _ _ _ _ _ _ _ _ _ _ _ _ _ (fun l j => arg18.view.read (Elt Ideal) f18L1 (ix2 l j)) ?_ ?_ ?_ (fun l => ?_) (fun l => ?_) (fun h l => ?_) hst (fun l => pay109_raw i l) hO h10 h11
  · iterate 32
      refine kc_step _ _ _ hi (by decide) _ _ (by rw [← q0_toNat i]; rfl) _ (fun r d => ?_) ?_
      · refine Eq.trans ?_ (rd_col arg8 X8 (by decide) (by decide) rfl r d)
        pointwise [k0_pay30, k0_pay33, k0_pay35, k0_pay38, k0_pay40, k0_pay43, k0_pay45, k0_pay47, k0_pay49, k0_pay51, k0_pay53, k0_pay55, k0_pay57, k0_pay59, k0_pay60, k0_pay62, k0_pay64, k0_pay65, k0_pay67, k0_pay69, k0_pay70, k0_pay72, k0_pay74, k0_pay76, k0_pay78, k0_pay80, k0_pay82, k0_pay84, k0_pay86, k0_pay89, k0_pay91, k0_pay94, k0_pay96, k0_pay100, k0_pay102]
    exact kc_zero _ _ _ _
  · iterate 32
      refine vc_step _ _ _ hi (by decide) _ _ (by rw [← q0_toNat i]; rfl) _ (fun r d => ?_) ?_
      · refine Eq.trans ?_ (congrArg₂ (fun a b : EReal => a * b) (rd_col arg9 X9 (by decide) (by decide) rfl r d) (rd_row arg6 X6 inb_S1x32x256_S1x32x256_0_0_0 _ r))
        pointwise [k0_pay28, k0_pay31, k0_pay32, k0_pay34, k0_pay36, k0_pay37, k0_pay39, k0_pay41, k0_pay42, k0_pay44, k0_pay46, k0_pay48, k0_pay50, k0_pay52, k0_pay54, k0_pay56, k0_pay58, k0_pay61, k0_pay63, k0_pay66, k0_pay68, k0_pay71, k0_pay73, k0_pay75, k0_pay77, k0_pay79, k0_pay81, k0_pay83, k0_pay85, k0_pay87, k0_pay88, k0_pay90, k0_pay92, k0_pay93, k0_pay95, k0_pay97, k0_pay98, k0_pay99, k0_pay101, k0_pay103, k0_pay104]
    exact vc_zero _ _ _ _
  · exact sc_store arg14 X14 _ hi _ (by rw [← q0_toNat i]; rfl) _ fun h r => (pay27_raw _ h r).trans (rd_row arg5 X5 inb_S1x32x256_S1x32x256_0_0_0 h r)
  · refine ((st_store arg16 _ _ _ _ _ l).1).trans (Eq.trans ?_ (hst l))
    pointwise [k0_pay107]
  · refine ((st_store arg16 _ _ _ _ _ l).2).trans (Eq.trans ?_ (rd_doc arg7 X7 inb_S1x1x256_S1x1x256_0_0_0 l))
    pointwise [k0_pay108, k0_pay105]
  · exact (qs_store arg15 _ _ _ h l).trans ((pay29_raw _ h l).trans (congrArg (· * cl2e) (rd_row arg4 X4 inb_S1x32x256_S1x32x256_0_0_0 h l)))

end Cert.KernelIdeal.Hand

end

end
-- ==== Proof.KernelIdealTable.lean ====
module

public import proofs.«01_k».proof.Proof.Gen.KernelIdeal.Launch
public import Idealize.ShloMosaic.PureOps.Reduce
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ)

/-- Each buffer's contents when the region is entered. -/
def V (c : Dev nD) (b : Ref sig .tc) : Buf (Elt F) ((c.tc : Thread nD τ).loc b) :=
  StableHlo.after hostOps0 (fun b => m (c, b)) b

/-- The sum of zeros and ones counts the ones. -/
theorem fold_addi {ι : Type} [DecidableEq ι] (s : Finset ι) (f : ι → BitVec 32) (p : ι → Prop) [DecidablePred p]
    (h : ∀ k, f k = if p k then 1#32 else 0#32) :
    s.fold IntOp.addi 0#32 f = BitVec.ofNat 32 (s.filter p).card := by
  induction s using Finset.induction_on with
  | empty => rfl
  | insert a s ha ih =>
    rw [Finset.fold_insert ha, ih, h a, Finset.filter_insert]
    by_cases hp : p a
    · rw [if_pos hp, if_pos hp, Finset.card_insert_of_notMem (fun hm => ha (Finset.mem_filter.1 hm).1)]
      apply BitVec.eq_of_toNat_eq
      simp [IntOp.addi, Nat.add_comm]
    · rw [if_neg hp, if_neg hp]
      apply BitVec.eq_of_toNat_eq
      simp [IntOp.addi]

theorem reduces_keys : S8x16x4096.Reduces [2] S8x16 := by decide

/-- The table: how many keys of the batch have a document below the one of the block's first query. -/
theorem tbl_eq (c : Dev nD) : V m c main_v7 = Host.reduce IntOp.addi (extui 32 (cmpi .slt
      (broadcastInDim S8x16x4096 ![0, 1, 2] bcast_S8x1x4096_S8x16x4096_0_1_2 (broadcastInDim S8x1x4096 ![0, 2] bcast_S8x4096_S8x1x4096_0_2 (m ((c.tc : Thread nD τ).loc main_arg6))))
      (broadcastInDim S8x16x4096 ![0, 1, 2] bcast_S8x16x1_S8x16x4096_0_1_2 (broadcastInDim S8x16x1 ![0, 1] bcast_S8x16_S8x16x1_0_1
        (Host.slice S8x16 ![0, 0] ![1, 256] (m ((c.tc : Thread nD τ).loc main_arg6)) slicesBy_S8x4096_S8x16_0s1_0s256)))) natLt_1_32)
      (constantI S_ 32 0#32) reducesTo_S8x16x4096_S8x16_d2 h_S_ := by
  unfold V
  after_results

/-- The document of key `j` of batch `b`. -/
def doc (c : Dev nD) (b : Fin 8) (j : Fin 4096) : BitVec 32 := m ((c.tc : Thread nD τ).loc main_arg6) (ix2 b j)

theorem tbl_val (c : Dev nD) (x : S8x16.Idx) : V m c main_v7 x
    = BitVec.ofNat 32 (Finset.univ.filter fun j : Fin 4096 => (doc m c (x 0) j).slt (doc m c (x 0) ⟨256 * (x 1).val, by have := (x 1).isLt; simp at this; omega⟩) = true).card := by
  rw [tbl_eq, Host.reduce_eq_fold_single IntOp.addi _ _ _ reduces_keys]
  apply fold_addi
  intro k
  have h0 : (reduces_keys.lift x k (0 : Fin 3)).val = (x 0).val := rfl
  have h1 : (reduces_keys.lift x k (1 : Fin 3)).val = (x 1).val := rfl
  have h2 : (reduces_keys.lift x k (2 : Fin 3)).val = k.val := rfl
  have hk : (broadcastInDim S8x16x4096 ![0, 1, 2] bcast_S8x1x4096_S8x16x4096_0_1_2 (broadcastInDim S8x1x4096 ![0, 2] bcast_S8x4096_S8x1x4096_0_2 (m ((c.tc : Thread nD τ).loc main_arg6)))) (reduces_keys.lift x k)
      = doc m c (x 0) k := by
    refine congrArg (m ((c.tc : Thread nD τ).loc main_arg6)) (funext fun a => ?_)
    fin_cases a
    · exact Fin.ext h0
    · exact Fin.ext h2
  have hq : (broadcastInDim S8x16x4096 ![0, 1, 2] bcast_S8x16x1_S8x16x4096_0_1_2 (broadcastInDim S8x16x1 ![0, 1] bcast_S8x16_S8x16x1_0_1
        (Host.slice S8x16 ![0, 0] ![1, 256] (m ((c.tc : Thread nD τ).loc main_arg6)) slicesBy_S8x4096_S8x16_0s1_0s256))) (reduces_keys.lift x k)
      = doc m c (x 0) ⟨256 * (x 1).val, by have := (x 1).isLt; simp at this; omega⟩ := by
    refine congrArg (m ((c.tc : Thread nD τ).loc main_arg6)) (funext fun a => ?_)
    fin_cases a
    · exact Fin.ext (show 0 + 1 * (reduces_keys.lift x k (0 : Fin 3)).val = (x 0).val by rw [h0]; omega)
    · exact Fin.ext (show 0 + 256 * (reduces_keys.lift x k (1 : Fin 3)).val = 256 * (x 1).val by rw [h1]; omega)
  show (BitVec.ofBool (BitVec.slt _ _)).setWidth 32 = _
  rw [hk, hq]
  cases (doc m c (x 0) k).slt (doc m c (x 0) ⟨256 * (x 1).val, _⟩) <;> rfl

theorem tbl_le (c : Dev nD) (x : S8x16.Idx) : (V m c main_v7 x : BitVec 32).toNat ≤ 4096 := by
  rw [tbl_val]
  refine le_trans (BitVec.toNat_ofNat .. ▸ Nat.mod_le _ _) ((Finset.card_filter_le _ _).trans (by simp))

end Cert.KernelIdeal.Hand

end

end
-- ==== Proof.KernelIdealFrame.lean ====
module

public import proofs.«01_k».proof.Proof.KernelIdealValue
public import proofs.«01_k».proof.Proof.KernelIdealTable

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-- The table's contents when the region is entered. -/
def tbl : pre0.Contents (Elt Ideal) := fun j => V m (0 : Dev nD) (pre0.ref j)

theorem V_pre (c : Dev nD) (j : Fin 1) : V m c (pre0.ref j) = tbl m j := by
  obtain rfl : c = 0 := Subsingleton.elim _ _; rfl

/-- The table as admissible contents. -/
abbrev adm : (pcfg0 (F := Ideal)).Adm := ⟨tbl m, trivial⟩

/-- The pipeline at the table. -/
abbrev cfgM : Cfg sig Λ₀ := cfg0 (adm m)

/-- The data of the frame: nothing is said of what the body leaves. -/
def rdat (c : Dev nD) : RDat τ (Elt Ideal) Unit ℕ (UR sig nD τ) ℕ (Pipeline.pin (pcfgs (F := Ideal)) (fun _ => adm m) 0) c where
  A w := V m c (arrRef spec0 w)
  after _ _ _ _ := True
  Φ _ := iprop(ΦA spec0 c ∗ ΦT pre0 (tbl m) c)
  q _ := fullShare
  owed _ := 0

theorem PhiT_eq (c : Dev nD) : (Pipeline.ΦT pre0 (tbl m) c : sProp 𝕄)
    = iprop((Memref.whole main_v7).view.loc (c : Thread nD τ) ↦{fullShare.right} (V m 0 main_v7)) := by
  unfold Pipeline.ΦT Pipeline.prefHeld
  rw [show (Finset.univ : Finset (Fin 1)) = {(0 : Fin 1)} from by decide, bigSep_singleton]
  rfl

/-- The body at point `t`. -/
abbrev bodyAt (t : Fin grid0.N) (s : (w : Fin 9) → Fin (spec0 w).nbuf) : Prog (TpuEff nD τ sig (Elt Ideal) Λ₀ .tc) PUnit :=
  cc0__body (F := Ideal) (grid0.coords t) (Memref.whole main_v7) (Memref.isWhole_whole _)
    (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (spec0_6.stage (s 6)) (hstage0_6 ((s 6).cast nbuf0_6)) (spec0_7.stage (s 7)) (hstage0_7 ((s 7).cast nbuf0_7))
    (spec0_8.stage (s 8)) (hstage0_8 ((s 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)

theorem defs₀_row (t : Fin (cfgM m).N) :
    defs₀ (F := Ideal) .tc (cfgM m).body ((cfgM m).bodyArgs t ((cfgM m).slots t)) = bodyAt t ((cfgM m).slots t) := by
  unfold defs₀; rw [Defs.onTc_tc]

/-! ## The grid's points -/

theorem pt_lt (t : Fin grid0.N) : t.val < 128 := N_0 ▸ t.isLt

/-- The point's batch. -/
def bT (t : Fin grid0.N) : Fin 8 := ⟨t.val / 16, by have := pt_lt t; omega⟩
/-- The point's block of queries. -/
def iT (t : Fin grid0.N) : Fin 16 := ⟨t.val % 16, by omega⟩

theorem coords_at : ∀ t : Fin grid0.N, (grid0.coords t 0).val = t.val / 16 ∧ (grid0.coords t 1).val = t.val % 16 := by decide +kernel

theorem off66_at : ∀ t : Fin grid0.N, k0_off66 (grid0.coords t) = ![t.val / 16, t.val % 16] := by decide +kernel

/-- The word of the table that the body reads at a point. -/
theorem tbl_word (t : Fin grid0.N) (x) : View.readAt (Elt Ideal) (Memref.whole main_v7).view (Rect.unit (s := S8x16) (k0_off66 (grid0.coords t)) S1x1.size (k0_off66_inb (grid0.coords t))).toLoadRect (V m 0 main_v7) x
    = V m 0 main_v7 (ix2 (bT t) (iT t)) := by
  refine readAt_unit (s := S8x16) _ _ _ (off66_at t) _ _ fun a => ?_
  match a with
  | 0 => show t.val / 16 = t.val / 16 + (x 0).val; have : (x 0).val < 1 := (x 0).isLt; omega
  | 1 => show t.val % 16 = t.val % 16 + (x 1).val; have : (x 1).val < 1 := (x 1).isLt; omega

theorem whole_pt (c : Dev nD) (b : Ref sig .tc) (q : PosShare TreeShare) (f : Buf (Elt Ideal) ((c : Thread nD τ).loc b)) :
    ((((c : Thread nD τ).loc b) ↦{q} f : sProp 𝕄)) = ((Memref.whole b).view.loc (c : Thread nD τ) ↦[(Memref.whole b).view.set]{q} f) := by
  rw [View.set_whole]

set_option maxHeartbeats 4000000 in
theorem sound_body (c : Dev nD) (t : Fin grid0.N) (s : (w : Fin 9) → Fin (spec0 w).nbuf) (O : sProp 𝕄) (Y0 : spec0_0.block.Idx → Elt Ideal spec0_0.elt) (Y1 : spec0_1.block.Idx → Elt Ideal spec0_1.elt) (Y2 : spec0_2.block.Idx → Elt Ideal spec0_2.elt) (Y3 : spec0_3.block.Idx → Elt Ideal spec0_3.elt) (Y4 : spec0_4.block.Idx → Elt Ideal spec0_4.elt) (Y5 : spec0_5.block.Idx → Elt Ideal spec0_5.elt) (Y6 : spec0_6.block.Idx → Elt Ideal spec0_6.elt) (Y7 : spec0_7.block.Idx → Elt Ideal spec0_7.elt) (Y8 : spec0_8.block.Idx → Elt Ideal spec0_8.elt) :
    iprop(((((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f)) ∗ ∃ r, prngReg c r) ∗ ((c : Thread nD τ).loc main_v7 ↦{fullShare.right} (V m 0 main_v7))) ∗ O ∗ owns (c : Thread nD τ) (spec0_0.stage (s 0)) fullShare Y0 ∗ owns (c : Thread nD τ) (spec0_1.stage (s 1)) fullShare Y1 ∗ owns (c : Thread nD τ) (spec0_2.stage (s 2)) fullShare Y2 ∗ owns (c : Thread nD τ) (spec0_3.stage (s 3)) fullShare Y3 ∗ owns (c : Thread nD τ) (spec0_4.stage (s 4)) fullShare Y4 ∗ owns (c : Thread nD τ) (spec0_5.stage (s 5)) fullShare Y5 ∗ owns (c : Thread nD τ) (spec0_6.stage (s 6)) fullShare Y6 ∗ owns (c : Thread nD τ) (spec0_7.stage (s 7)) fullShare Y7 ∗ owns (c : Thread nD τ) (spec0_8.stage (s 8)) fullShare Y8)
    ⊢ wp frame (wpE (defs₀ (F := Ideal)) Variants.none c none) Set.univ (bodyAt t s) (fun _ =>
    iprop(((((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f)) ∗ ∃ r, prngReg c r) ∗ ((c : Thread nD τ).loc main_v7 ↦{fullShare.right} (V m 0 main_v7))) ∗ O ∗ (∃ X, ⌜True⌝ ∗ owns (c : Thread nD τ) (spec0_0.stage (s 0)) fullShare X) ∗ (∃ X, ⌜True⌝ ∗ owns (c : Thread nD τ) (spec0_1.stage (s 1)) fullShare X) ∗ (∃ X, ⌜True⌝ ∗ owns (c : Thread nD τ) (spec0_2.stage (s 2)) fullShare X) ∗ (∃ X, ⌜True⌝ ∗ owns (c : Thread nD τ) (spec0_3.stage (s 3)) fullShare X) ∗ (∃ X, ⌜True⌝ ∗ owns (c : Thread nD τ) (spec0_4.stage (s 4)) fullShare X) ∗ (∃ X, ⌜True⌝ ∗ owns (c : Thread nD τ) (spec0_5.stage (s 5)) fullShare X) ∗ (∃ X, ⌜True⌝ ∗ owns (c : Thread nD τ) (spec0_6.stage (s 6)) fullShare X) ∗ (∃ X, ⌜True⌝ ∗ owns (c : Thread nD τ) (spec0_7.stage (s 7)) fullShare X) ∗ (∃ X, ⌜True⌝ ∗ owns (c : Thread nD τ) (spec0_8.stage (s 8)) fullShare X))) := by
  unfold bodyAt
  simp only [whole_pt]
  unfold owns
  iintro ⟨⟨⟨⟨⟨%f0, S0⟩, ⟨%f1, S1⟩, ⟨%f2, S2⟩, ⟨%f3, S3⟩, ⟨%f4, S4⟩, ⟨%f5, S5⟩, ⟨%f6, S6⟩⟩, Hr⟩, HT⟩, Ho, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩⟩
  iapply (sound_kernelV c fullShare.right (grid0.coords t) (Memref.whole main_v7) (Memref.isWhole_whole _) (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (spec0_6.stage (s 6)) (hstage0_6 ((s 6).cast nbuf0_6)) (spec0_7.stage (s 7)) (hstage0_7 ((s 7).cast nbuf0_7))
    (spec0_8.stage (s 8)) (hstage0_8 ((s 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (V m 0 main_v7) g0 g1 g2 g3 g4 g5 g6 g7 g8 f0 f1 f2 f3 f4 f5 f6 (V m 0 main_v7 (ix2 (bT t) (iT t))) (tbl_word m t) (tbl_le m 0 _) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨%g7', %g8', %f0', %f1', %f2', %f3', %f4', %f5', %f6', HT, H0, H1, H2, H3, H4, H5, H6, H7, H8, S0, S1, S2, S3, S4, S5, S6, %hpost⟩
  isplitl [HT S0 S1 S2 S3 S4 S5 S6 Hr]
  · isplitr [HT]
    · isplitr [Hr]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hr
    · iexact HT
  isplitl [Ho]; · iexact Ho
  isplitl [H0]
  · iexists Y0; isplitr; · ipureintro; trivial
    iexists g0; isplitr; · ipureintro; exact e0
    iexact H0
  isplitl [H1]
  · iexists Y1; isplitr; · ipureintro; trivial
    iexists g1; isplitr; · ipureintro; exact e1
    iexact H1
  isplitl [H2]
  · iexists Y2; isplitr; · ipureintro; trivial
    iexists g2; isplitr; · ipureintro; exact e2
    iexact H2
  isplitl [H3]
  · iexists Y3; isplitr; · ipureintro; trivial
    iexists g3; isplitr; · ipureintro; exact e3
    iexact H3
  isplitl [H4]
  · iexists Y4; isplitr; · ipureintro; trivial
    iexists g4; isplitr; · ipureintro; exact e4
    iexact H4
  isplitl [H5]
  · iexists Y5; isplitr; · ipureintro; trivial
    iexists g5; isplitr; · ipureintro; exact e5
    iexact H5
  isplitl [H6]
  · iexists Y6; isplitr; · ipureintro; trivial
    iexists g6; isplitr; · ipureintro; exact e6
    iexact H6
  isplitl [H7]
  · iexists (View.read (Elt Ideal) (spec0_7.stage (s 7)).view g7'); isplitr; · ipureintro; trivial
    iexists g7'; isplitr; · ipureintro; exact rfl
    iexact H7
  iexists (View.read (Elt Ideal) (spec0_8.stage (s 8)).view g8'); isplitr; · ipureintro; trivial
  iexists g8'; isplitr; · ipureintro; exact rfl
  iexact H8

theorem body_obligation (c : Dev nD) : (rdat m c).BodyObligation (defs₀ (F := Ideal)) Variants.none () Set.univ := fun t Y hY => by
  rw [bigSep_W0, bigSep_W0, defs₀_row m t]
  rw [show (rdat m c).Φ t.succ = (rdat m c).Φ t.castSucc from rfl,
    show (rdat m c).owesAt () t.succ = (rdat m c).owesAt () t.castSucc from rfl,
    show (rdat m c).Φ t.castSucc = iprop((scopedRest spec0 c ∗ ∃ r, prngReg c r) ∗ ΦT pre0 (tbl m) c) from rfl, PhiT_eq, scopedRest0_eq]
  exact sound_body m c t _ _ (Y 0) (Y 1) (Y 2) (Y 3) (Y 4) (Y 5) (Y 6) (Y 7) (Y 8)

theorem hmain : HMainP (Ix := Unit) (Name := ℕ) (U := UR sig nD τ) (Lvl := ℕ) (pcfgs (F := Ideal)) 0 defs₀ Variants.none m (main (F := Ideal)) (V m) :=
  hmainP_prefix (pcfgs (F := Ideal)) 0 defs₀ Variants.none m main hostOps0 hostOps0_sub
    ⟨rfl, rfl, rfl, rfl, rfl, rfl, rfl, rfl, rfl, rfl, rfl, rfl, rfl⟩ (main_chain (F := Ideal))

set_option backward.isDefEq.respectTransparency.types false in
set_option maxHeartbeats 800000 in
theorem run_main : θ_run defs (onTc (τ := τ) (main (F := Ideal))) (s₀ m ρ)
    (fun r => RDat.FramePost (Pipeline.pin (pcfgs (F := Ideal)) (fun _ => adm m) 0) (rdat m) (V m) r ∧ r.2.sem = fun _ => 0) :=
  RDat.θ_run_frameP (Q' := _) pcfgs (fun _ => adm m) (0 : Fin 1) launch0 defs₀ Variants.none (rdat m) m ρ main
    (hbody := body_obligation m) (hshare := fun c w => by unfold RDat.share; split <;> rfl)
    (howed := fun _ _ => rfl) (V := V m) (hmain := hmain m) (hA := fun _ _ => rfl) (hpf := V_pre m) (hΦ := fun _ _ => rfl)

theorem V_arg (c : Dev nD) (b : Ref sig .tc) (h : b ∈ [main_arg0, main_arg1, main_arg2, main_arg3, main_arg4, main_arg5, main_arg6]) :
    V m c b = m ((c : Thread nD τ).loc b) := by
  simp only [List.mem_cons, List.not_mem_nil, or_false] at h
  rcases h with rfl | rfl | rfl | rfl | rfl | rfl | rfl <;> (unfold V; after_results)

/-- The program ends from any memory, its arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1.arr_in c 0 rfl).trans (V_arg m c main_arg0 (by simp)),
    ((h.1 c).2 main_arg1 (mem_restRefs_of (win := spec0) _ rfl (by decide))).trans (V_arg m c main_arg1 (by simp)),
    (h.1.arr_in c 5 rfl).trans (V_arg m c main_arg2 (by simp)),
    (h.1.arr_in c 6 rfl).trans (V_arg m c main_arg3 (by simp)),
    ((h.1 c).2 main_arg4 (mem_restRefs_of (win := spec0) _ rfl (by decide))).trans (V_arg m c main_arg4 (by simp)),
    ((h.1 c).2 main_arg5 (mem_restRefs_of (win := spec0) _ rfl (by decide))).trans (V_arg m c main_arg5 (by simp)),
    ((h.1 c).2 main_arg6 (mem_restRefs_of (win := spec0) _ rfl (by decide))).trans (V_arg m c main_arg6 (by simp))⟩, h.2⟩) (run_main m ρ)

end Cert.KernelIdeal.Hand

end

end
-- ==== Proof.ReferenceIdealRun.lean ====
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x4096x4096.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 4096 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x4096x32.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 4096 + 1 * (j 1).val = (j 1).val; omega
  | ⟨2, _⟩ => show win0_1.index t (2 : Fin 3) * 32 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x4096x4096.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 4096 + 1 * (j 1).val = (j 1).val; omega
  | ⟨2, _⟩ => show win0_2.index t (2 : Fin 3) * 4096 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S8x4096x4096.Idx) : ((cfg0.win 3).blk t).view.emb j = j := by
  obtain ⟨e0, e1, e2⟩ := idx_zero3 t
  funext a; apply Fin.ext
  match a with
  | ⟨0, _⟩ => show win0_3.index t (0 : Fin 3) * 8 + 1 * (j 0).val = (j 0).val; omega
  | ⟨1, _⟩ => show win0_3.index t (1 : Fin 3) * 4096 + 1 * (j 1).val = (j 1).val; omega
  | ⟨2, _⟩ => show win0_3.index t (2 : Fin 3) * 4096 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S8x4096x32.Idx) : ((cfg0.win 4).blk t).view.emb j = j := by
  obtain ⟨e0, e1, e2⟩ := idx_zero4 t
  funext a; apply Fin.ext
  match a with
  | ⟨0, _⟩ => show win0_4.index t (0 : Fin 3) * 8 + 1 * (j 0).val = (j 0).val; omega
  | ⟨1, _⟩ => show win0_4.index t (1 : Fin 3) * 4096 + 1 * (j 1).val = (j 1).val; omega
  | ⟨2, _⟩ => show win0_4.index t (2 : Fin 3) * 32 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S8x4096x32.Idx) : ((cfg0.win 5).blk t).view.emb j = j := by
  obtain ⟨e0, e1, e2⟩ := idx_zero5 t
  funext a; apply Fin.ext
  match a with
  | ⟨0, _⟩ => show win0_5.index t (0 : Fin 3) * 8 + 1 * (j 0).val = (j 0).val; omega
  | ⟨1, _⟩ => show win0_5.index t (1 : Fin 3) * 4096 + 1 * (j 1).val = (j 1).val; omega
  | ⟨2, _⟩ => show win0_5.index t (2 : Fin 3) * 32 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S8x4096.Idx) : ((cfg0.win 6).blk t).view.emb j = j := by
  obtain ⟨e0, e1⟩ := idx_zero6 t
  funext a; apply Fin.ext
  match a with
  | ⟨0, _⟩ => show win0_6.index t (0 : Fin 2) * 8 + 1 * (j 0).val = (j 0).val; omega
  | ⟨1, _⟩ => show win0_6.index t (1 : Fin 2) * 4096 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x4096x4096.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 4096 + 1 * (j 1).val = (j 1).val; omega
  | ⟨2, _⟩ => show win0_7.index t (2 : Fin 3) * 4096 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x4096x1.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 4096 + 1 * (j 1).val = (j 1).val; omega
  | ⟨2, _⟩ => show win0_8.index t (2 : Fin 3) * 1 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S8x4096x4096 .fp8e4m3) (a1 : Vec F S8x4096x32 .f32) (a2 : Vec F S8x4096x4096 .fp8e4m3) (a3 : Vec F S8x4096x4096 .fp8e4m3) (a4 : Vec F S8x4096x32 .f32) (a5 : Vec F S8x4096x32 .f32) (a6 : Vec F S8x4096 .i32) : Vec F S8x4096x4096 .fp8e4m3 :=
  k0_pay1 (k0_pay8 (k0_pay11 a0 a1 a2 a3 a4 a5 a6) (k0_pay12 a0 a1 a2 a3 a4 a5 a6) (k0_pay13 a0 a1 a2 a3 a4 a5 a6) (k0_pay14 a0 a1 a2 a3 a4 a5 a6) (k0_pay15 a0 a1 a2 a3 a4 a5 a6)) (k0_pay16 a0 a1 a2 a3 a4 a5 a6) (k0_pay10 (F := F))

/-- The one store through the whole rectangle leaves its payload. -/
theorem out7_eq (a0 : Vec F S8x4096x4096 .fp8e4m3) (a1 : Vec F S8x4096x32 .f32) (a2 : Vec F S8x4096x4096 .fp8e4m3) (a3 : Vec F S8x4096x4096 .fp8e4m3) (a4 : Vec F S8x4096x32 .f32) (a5 : Vec F S8x4096x32 .f32) (a6 : Vec F S8x4096 .i32) : out0_7 (F := F) a0 a1 a2 a3 a4 a5 a6 = G7 a0 a1 a2 a3 a4 a5 a6 := by
  unfold out0_7
  rw [View.canon_unit_zero hz7]

/-- Cutting the point's block out of `X` and reading `X` through the block's view give the same. -/
theorem cut7_eq (t : Fin cfg0.N) (X : Vec F S8x4096x4096 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S8x4096x4096.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S8x4096x4096 .fp8e4m3) (a1 : Vec F S8x4096x32 .f32) (a2 : Vec F S8x4096x4096 .fp8e4m3) (a3 : Vec F S8x4096x4096 .fp8e4m3) (a4 : Vec F S8x4096x32 .f32) (a5 : Vec F S8x4096x32 .f32) (a6 : Vec F S8x4096 .i32) : Vec F S8x4096x1 .f32 :=
  k0_pay2 (k0_pay16 a0 a1 a2 a3 a4 a5 a6)

/-- The one store through the whole rectangle leaves its payload. -/
theorem out8_eq (a0 : Vec F S8x4096x4096 .fp8e4m3) (a1 : Vec F S8x4096x32 .f32) (a2 : Vec F S8x4096x4096 .fp8e4m3) (a3 : Vec F S8x4096x4096 .fp8e4m3) (a4 : Vec F S8x4096x32 .f32) (a5 : Vec F S8x4096x32 .f32) (a6 : Vec F S8x4096 .i32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S8x4096x1 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S8x4096x1.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Hand

end

end
-- ==== Proof.Rows.lean ====
module

public import Idealize.ShloMosaic.PureOps.Reduce
public import Idealize.ShloMosaic.Lib.Pointwise

@[expose] public section

set_option maxRecDepth 16384

noncomputable section

namespace Cert.Rows

open Idealize.ShloMosaic

/-! ## The problem's rows, on extended reals -/

/-- Head `h`'s column `x`. -/
def hcol (h : Fin 32) (x : Fin 128) : Fin 4096 := ⟨128 * h.val + x.val, by omega⟩

abbrev A3 := (⟨3, ![8, 4096, 4096]⟩ : Shape).Idx → EReal
abbrev A2 := (⟨3, ![8, 4096, 32]⟩ : Shape).Idx → EReal
abbrev A1 := (⟨2, ![8, 4096]⟩ : Shape).Idx → BitVec 32

/-- The masked score of query `q` and key `n`. -/
def rscore (a0 : A3) (a1 : A2) (a2 : A3) (a4 : A2) (a6 : A1) (b : Fin 8) (h : Fin 32) (q n : Fin 4096) : EReal :=
  if n.val ≤ q.val ∧ a6 (ix2 b n) = a6 (ix2 b q) then
    (∑ x : Fin 128, a0 (ix3 b q (hcol h x)) * a2 (ix3 b n (hcol h x))) * a1 (ix3 b q h) * a4 (ix3 b n h) * (((Real.sqrt 128)⁻¹ : ℝ) : EReal)
  else ⊥

/-- A row of weighted values, from its scores. -/
def rattn (s V : Fin 4096 → EReal) : EReal :=
  ∑ n : Fin 4096, V n * (Ideal.exp (s n - Finset.univ.sup s) * Ideal.div 1 (∑ n' : Fin 4096, Ideal.exp (s n' - Finset.univ.sup s)))

/-- The attention output at query `q`, column `j`. -/
def rrow (a0 : A3) (a1 : A2) (a2 a3 : A3) (a4 a5 : A2) (a6 : A1) (b : Fin 8) (q j : Fin 4096) : EReal :=
  rattn (rscore a0 a1 a2 a4 a6 b ⟨j.val / 128, by omega⟩ q) fun n => a3 (ix3 b n j) * a5 (ix3 b n ⟨j.val / 128, by omega⟩)

/-- A row's magnitude. -/
def ramax (x : Fin 4096 → EReal) : EReal := Finset.univ.sup fun j => max (x j) (-x j)

/-- A row's exponent: the least power of two above the scaled magnitude. -/
def rexp (x : Fin 4096 → EReal) : EReal :=
  if ramax x = 0 then 0 else
    min (Ideal.ofBits .f32 1123811328#32) (max (Ideal.ofBits .f32 3271294976#32) (Ideal.liftRound Int.floor (Ideal.div (Ideal.log (ramax x * Ideal.ofBits .f32 991054117#32)) (Ideal.log (Ideal.ofBits .f32 1073741824#32))) + 1))

theorem exp2_mul (x : EReal) : Ideal.exp2 (x * (((Real.log 2)⁻¹ : ℝ) : EReal)) = Ideal.exp x := by
  have hl : 0 < (Real.log 2)⁻¹ := inv_pos.2 (Real.log_pos (by norm_num))
  induction x using EReal.rec with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp

theorem sub_mul_pos (x y : EReal) {c : ℝ} (hc : 0 < c) : x * (c : EReal) - y * (c : EReal) = (x - y) * (c : EReal) := by
  induction x using EReal.rec <;> induction y using EReal.rec <;>
    simp only [EReal.bot_mul_coe_of_pos hc, EReal.top_mul_coe_of_pos hc, ← EReal.coe_mul, ← EReal.coe_sub, EReal.bot_sub, EReal.top_sub_coe, EReal.coe_sub_bot, EReal.sub_top, EReal.top_sub_bot, sub_mul]

theorem sup_mul_pos {ι : Type} (s : Finset ι) (f : ι → EReal) {c : ℝ} (hc : 0 < c) :
    (s.sup fun i => f i * (c : EReal)) = s.sup f * (c : EReal) := by
  classical
  induction s using Finset.induction_on with
  | empty => simp only [Finset.sup_empty]; rw [EReal.bot_mul_coe_of_pos hc]
  | insert a s ha ih =>
    rw [Finset.sup_insert, Finset.sup_insert, ih]
    have hm : Monotone fun x : EReal => x * (c : EReal) := fun x y h => mul_le_mul_of_nonneg_right h (by exact_mod_cast hc.le)
    exact (hm.map_sup _ _).symm

/-- The windowed row in powers of two is the whole row in powers of e: outside the window every score is masked, inside it is the
    score times 1 / log 2. -/
theorem rattn_window (u W : ℕ → EReal) (lo n : ℕ) (s V : Fin 4096 → EReal) (hle : lo + n ≤ 4096)
    (hu : ∀ k : Fin 4096, lo ≤ k.val → k.val < lo + n → u k.val = s k * (((Real.log 2)⁻¹ : ℝ) : EReal))
    (hs : ∀ k : Fin 4096, ¬ (lo ≤ k.val ∧ k.val < lo + n) → s k = ⊥)
    (hW : ∀ k : Fin 4096, lo ≤ k.val → k.val < lo + n → W k.val = V k) :
    ∑ r ∈ Finset.range n, W (lo + r) * (Ideal.exp2 (u (lo + r) - (Finset.range n).sup fun r => u (lo + r))
      * Ideal.div 1 (∑ r' ∈ Finset.range n, Ideal.exp2 (u (lo + r') - (Finset.range n).sup fun r => u (lo + r)))) = rattn s V := by
  have hl : 0 < (Real.log 2)⁻¹ := inv_pos.2 (Real.log_pos (by norm_num))
  set c : ℝ := (Real.log 2)⁻¹ with hc
  let K : Finset (Fin 4096) := Finset.univ.filter fun k => lo ≤ k.val ∧ k.val < lo + n
  let g : ℕ → Fin 4096 := fun r => if h : lo + r < 4096 then ⟨lo + r, h⟩ else 0
  have gv : ∀ r, r < n → (g r).val = lo + r := fun r hr => by show (dite _ _ _ : Fin 4096).val = _; rw [dif_pos (by omega)]
  have hK : K = (Finset.range n).image g := by
    ext k; simp only [K, Finset.mem_filter, Finset.mem_univ, true_and, Finset.mem_image, Finset.mem_range]
    constructor
    · rintro ⟨h1, h2⟩; exact ⟨k.val - lo, by omega, Fin.ext (by rw [gv _ (by omega)]; omega)⟩
    · rintro ⟨r, hr, rfl⟩; rw [gv r hr]; omega
  have hinj : Set.InjOn g (Finset.range n : Set ℕ) := fun a ha b hb h => by
    have ha := Finset.mem_range.1 (Finset.mem_coe.1 ha)
    have hb := Finset.mem_range.1 (Finset.mem_coe.1 hb)
    have := congrArg Fin.val h; rw [gv a ha, gv b hb] at this; omega
  have hsup : ((Finset.range n).sup fun r => u (lo + r)) = Finset.univ.sup s * (c : EReal) := by
    rw [← sup_mul_pos _ _ hl]
    have h1 : ((Finset.range n).sup fun r => u (lo + r)) = K.sup fun k => s k * (c : EReal) := by
      rw [hK, Finset.sup_image]
      refine Finset.sup_congr rfl fun r hr => ?_
      have hr := Finset.mem_range.1 hr
      show _ = s (g r) * (c : EReal)
      rw [← hu (g r) (by rw [gv r hr]; omega) (by rw [gv r hr]; omega), gv r hr]
    rw [h1]
    refine le_antisymm (Finset.sup_mono (Finset.filter_subset _ _)) (Finset.sup_le fun k _ => ?_)
    by_cases hk : lo ≤ k.val ∧ k.val < lo + n
    · exact Finset.le_sup (f := fun k => s k * (c : EReal)) (Finset.mem_filter.2 ⟨Finset.mem_univ _, hk⟩)
    · show s k * (c : EReal) ≤ _
      rw [hs k hk, EReal.bot_mul_coe_of_pos hl]; exact bot_le
  have he : ∀ r, r < n → Ideal.exp2 (u (lo + r) - (Finset.range n).sup fun r => u (lo + r)) = Ideal.exp (s (g r) - Finset.univ.sup s) := fun r hr => by
    have h2 := hu (g r) (by rw [gv r hr]; omega) (by rw [gv r hr]; omega)
    rw [gv r hr] at h2
    rw [hsup, h2, sub_mul_pos _ _ hl, exp2_mul]
  have h0 : ∀ k : Fin 4096, k ∉ K → Ideal.exp (s k - Finset.univ.sup s) = 0 := fun k hk => by
    rw [hs k (fun h => hk (Finset.mem_filter.2 ⟨Finset.mem_univ _, h⟩)), EReal.bot_sub]; rfl
  have hsum : (∑ r' ∈ Finset.range n, Ideal.exp2 (u (lo + r') - (Finset.range n).sup fun r => u (lo + r))) = ∑ k : Fin 4096, Ideal.exp (s k - Finset.univ.sup s) := by
    rw [← Finset.sum_subset (Finset.subset_univ K) (fun k _ hk => h0 k hk), hK, Finset.sum_image hinj]
    exact Finset.sum_congr rfl fun r hr => he r (Finset.mem_range.1 hr)
  unfold rattn
  rw [hsum]
  generalize Ideal.div 1 (∑ k : Fin 4096, Ideal.exp (s k - Finset.univ.sup s)) = L
  rw [← Finset.sum_subset (Finset.subset_univ K) (fun k _ hk => by rw [h0 k hk, zero_mul, mul_zero]), hK, Finset.sum_image hinj]
  refine Finset.sum_congr rfl fun r hr => ?_
  have hr := Finset.mem_range.1 hr
  rw [he r hr]
  have h3 := hW (g r) (by rw [gv r hr]; omega) (by rw [gv r hr]; omega)
  rw [gv r hr] at h3
  rw [h3]

/-! ## Sorted documents -/

/-- Of a non-decreasing sequence, the entries below `z` are the first ones. -/
theorem lt_card {N : ℕ} (D : Fin N → ℤ) (mono : ∀ i j, i ≤ j → D i ≤ D j) (z : ℤ) (j : Fin N) :
    j.val < (Finset.univ.filter fun x => D x < z).card ↔ D j < z := by
  constructor
  · intro h
    by_contra hn
    have hsub : (Finset.univ.filter fun x => D x < z) ⊆ Finset.univ.filter fun x : Fin N => x < j := fun x hx => by
      have hx := (Finset.mem_filter.1 hx).2
      refine Finset.mem_filter.2 ⟨Finset.mem_univ _, ?_⟩
      by_contra hxj
      exact hn (lt_of_le_of_lt (mono j x (not_lt.1 hxj)) hx)
    have hc := Finset.card_le_card hsub
    have : (Finset.univ.filter fun x : Fin N => x < j).card = j.val := by
      rw [Finset.filter_gt_eq_Iio, Fin.card_Iio]
    omega
  · intro h
    have hsub : (Finset.univ.filter fun x : Fin N => x ≤ j) ⊆ Finset.univ.filter fun x => D x < z := fun x hx =>
      Finset.mem_filter.2 ⟨Finset.mem_univ _, lt_of_le_of_lt (mono x j (Finset.mem_filter.1 hx).2) h⟩
    have hc := Finset.card_le_card hsub
    have : (Finset.univ.filter fun x : Fin N => x ≤ j).card = j.val + 1 := by
      rw [Finset.filter_ge_eq_Iic, Fin.card_Iic]
    omega

/-- Where query `q`'s document starts. -/
def dstart (D : Fin 4096 → ℤ) (q : Fin 4096) : ℕ := (Finset.univ.filter fun x => D x < D q).card

section
variable {D : Fin 4096 → ℤ} (mono : ∀ i j, i ≤ j → D i ≤ D j)
include mono

theorem dstart_le (q : Fin 4096) : dstart D q ≤ q.val := by
  by_contra h
  exact lt_irrefl _ ((lt_card D mono (D q) q).1 (not_le.1 h))

theorem dstart_mono (p q : Fin 4096) (h : p ≤ q) : dstart D p ≤ dstart D q :=
  Finset.card_le_card fun x hx => Finset.mem_filter.2 ⟨Finset.mem_univ _, lt_of_lt_of_le (Finset.mem_filter.1 hx).2 (mono p q h)⟩

theorem mask_iff (q n : Fin 4096) : (dstart D q ≤ n.val ∧ n.val ≤ q.val) ↔ (n.val ≤ q.val ∧ D n = D q) := by
  have h := lt_card D mono (D q) n
  constructor
  · rintro ⟨h1, h2⟩
    refine ⟨h2, le_antisymm (mono n q h2) ?_⟩
    by_contra hn
    exact absurd (h.2 (not_le.1 hn)) (not_lt.2 h1)
  · rintro ⟨h1, h2⟩
    refine ⟨?_, h1⟩
    by_contra hn
    exact absurd (h.1 (not_le.1 hn)) (by rw [h2]; exact lt_irrefl _)

/-- The start from the block's own count and the position before the block. -/
theorem dstart_block (i : ℕ) (hi : i < 16) (l : Fin 256) (q : Fin 4096) (hq : q.val = 256 * i + l.val)
    (cnt : ℕ) (hcnt : cnt = (Finset.univ.filter fun x : Fin 256 => D ⟨256 * i + x.val, by omega⟩ < D q).card) :
    (∀ p : Fin 4096, p.val + 1 = 256 * i → cnt = 0 → D p = D q → dstart D q = dstart D p)
    ∧ ((∀ p : Fin 4096, p.val + 1 = 256 * i → ¬ (cnt = 0 ∧ D q = D p)) → dstart D q = 256 * i + cnt) := by
  have hb : ∀ x : Fin 256, x.val < cnt ↔ D ⟨256 * i + x.val, by omega⟩ < D q := fun x => by
    rw [hcnt]
    exact lt_card (fun x : Fin 256 => D ⟨256 * i + x.val, by omega⟩) (fun a b hab => mono _ _ (by show 256 * i + a.val ≤ 256 * i + b.val; have : a.val ≤ b.val := hab; omega)) (D q) x
  have hl : ¬ l.val < cnt := fun h => by
    have := (hb l).1 h
    rw [show (⟨256 * i + l.val, by omega⟩ : Fin 4096) = q from Fin.ext hq.symm] at this
    exact lt_irrefl _ this
  refine ⟨fun p hp _ hD => by unfold dstart; rw [hD], fun hnot => ?_⟩
  have hs := fun n => lt_card D mono (D q) n
  have hsl := dstart_le mono q
  have hlow : 256 * i ≤ dstart D q := by
    by_contra hlt
    have hlt := not_le.1 hlt
    have hp : ¬ D ⟨256 * i - 1, by omega⟩ < D q := fun h => by
      have := (hs ⟨256 * i - 1, by omega⟩).2 h
      change 256 * i - 1 < dstart D q at this
      omega
    have heq : D ⟨256 * i - 1, by omega⟩ = D q := le_antisymm (mono _ _ (by show 256 * i - 1 ≤ q.val; omega)) (not_lt.1 hp)
    refine hnot ⟨256 * i - 1, by omega⟩ (by show 256 * i - 1 + 1 = 256 * i; omega) ⟨?_, heq.symm⟩
    by_contra hc0
    have h0 := (hb 0).1 (by show 0 < cnt; omega)
    exact hp (lt_of_le_of_lt (mono _ _ (by show 256 * i - 1 ≤ 256 * i + 0; omega)) h0)
  rcases lt_trichotomy (dstart D q) (256 * i + cnt) with h | h | h
  · exfalso
    have h1 := (hb ⟨dstart D q - 256 * i, by omega⟩).1 (by show dstart D q - 256 * i < cnt; omega)
    have h2 := (hs ⟨dstart D q, by omega⟩).2 (by rwa [show (⟨256 * i + (dstart D q - 256 * i), by omega⟩ : Fin 4096) = ⟨dstart D q, by omega⟩ from Fin.ext (by show 256 * i + (dstart D q - 256 * i) = dstart D q; omega)] at h1)
    exact lt_irrefl _ h2
  · exact h
  · exfalso
    have h1 := (hs ⟨256 * i + cnt, by omega⟩).1 h
    have h2 := (hb ⟨cnt, by omega⟩).2 h1
    exact lt_irrefl _ h2

end

end Cert.Rows

end

end
-- ==== Proof.KernelIdealStep.lean ====
module

public import proofs.«01_k».proof.Proof.KernelIdealStore
public import proofs.«01_k».proof.Proof.KernelIdealTable
public import proofs.«01_k».proof.Proof.Rows

@[expose] public section

set_option maxRecDepth 16384
set_option maxHeartbeats 4000000

noncomputable section

namespace Cert.KernelIdeal.Hand

open Cert.KernelIdeal Cert.KernelIdeal.Gen Cert.Rows
open Idealize.ShloMosaic Idealize.ShloMosaic.TcCoe

/-! ## Comparisons of small words -/

theorem toInt_small {n : ℕ} (h : n ≤ 8192) : (BitVec.ofNat 32 n).toInt = n := by
  have h1 : (BitVec.ofNat 32 n).toNat = n := by rw [BitVec.toNat_ofNat]; omega
  rw [BitVec.toInt_eq_toNat_of_lt (by rw [h1]; omega), h1]

theorem sle_small {a b : ℕ} (ha : a ≤ 8192) (hb : b ≤ 8192) : (BitVec.ofNat 32 a).sle (BitVec.ofNat 32 b) = decide (a ≤ b) := by
  rw [BitVec.sle_eq_decide, toInt_small ha, toInt_small hb]
  simp

theorem sel_and {α : Type} (p q : Bool) (x y : α) :
    Scalar.select (IntOp.andi (BitVec.ofBool p) (BitVec.ofBool q)) x y = if p = true ∧ q = true then x else y := by
  cases p <;> cases q <;> rfl

theorem ofNat_inj {a b : ℕ} (ha : a ≤ 8192) (hb : b ≤ 8192) : BitVec.ofNat 32 a = BitVec.ofNat 32 b ↔ a = b := by
  refine ⟨fun h => ?_, fun h => h ▸ rfl⟩
  have := congrArg BitVec.toInt h
  rw [toInt_small ha, toInt_small hb] at this
  exact_mod_cast this

theorem fx_fin (n : Fin 4096) : fx n.val = n := Fin.ext (fx_val n.isLt)

/-- The documents of a batch, in order. -/
def docs (a6 : A1) (b : Fin 8) : Fin 4096 → ℤ := fun j => (a6 (ix2 b j)).toInt

/-- Query `l` of block `i`. -/
def qb (i : Fin 16) (l : Fin 256) : Fin 4096 := ⟨256 * i.val + l.val, by omega⟩

section
variable (a0 : A3) (a1 : A2) (a2 a3 : A3) (a4 a5 : A2) (a6 : A1) (b : Fin 8)

/-- What the buffers hold before block `i`: the keys, values and scales of the blocks before it, and the starts and documents of the last of them. -/
def Inv (i : ℕ) (A12 : S32x4096x128.Idx → EReal) (A13 : S32x128x4096.Idx → EReal) (A14 : S32x1x4096.Idx → EReal) (A16 : S2x256.Idx → BitVec 32) : Prop :=
  (∀ (h : Fin 32) (n : Fin 4096) (d : Fin 128), n.val < 256 * i → A12 (ix3 h n d) = a2 (ix3 b n (hcol h d)) ∧ A13 (ix3 h d n) = a3 (ix3 b n (hcol h d)) * a5 (ix3 b n h) ∧ A14 (ix3 h 0 n) = a4 (ix3 b n h)) ∧
  ∀ (l : Fin 256) (q : Fin 4096), q.val + 256 = 256 * i + l.val → A16 (ix2 0 l) = BitVec.ofNat 32 (dstart (docs a6 b) q) ∧ A16 (ix2 1 l) = a6 (ix2 b q)

theorem inv_zero (A12 A13 A14 A16) : Inv a2 a3 a4 a5 a6 b 0 A12 A13 A14 A16 :=
  ⟨fun h n d hn => absurd hn (by omega), fun l q hq => absurd hq (by omega)⟩

variable (mono : ∀ j k, j ≤ k → docs a6 b j ≤ docs a6 b k)
include mono

/-- The kernel's start of a query's document is the start. -/
theorem stl_eq (i : Fin 16) (gi : grid0.Coords) (hgi : (gi 1).val = i.val) (A7 : S1x1x256.Idx → BitVec 32) (A16 : S2x256.Idx → BitVec 32)
    (h7 : ∀ l : Fin 256, A7 (ix3 0 0 l) = a6 (ix2 b (qb i l)))
    (h16 : ∀ (l : Fin 256) (q : Fin 4096), q.val + 256 = 256 * i.val + l.val → A16 (ix2 0 l) = BitVec.ofNat 32 (dstart (docs a6 b) q) ∧ A16 (ix2 1 l) = a6 (ix2 b q))
    (l : Fin 256) : stl gi A7 A16 l = BitVec.ofNat 32 (dstart (docs a6 b) (qb i l)) := by
  have hi := i.isLt
  set cnt : ℕ := (Finset.univ.filter fun x : Fin 256 => docs a6 b ⟨256 * i.val + x.val, by omega⟩ < docs a6 b (qb i l)).card with hcnt
  obtain ⟨k1, k2⟩ := dstart_block mono i.val hi l (qb i l) rfl cnt hcnt
  have hc : cnt ≤ 256 := (Finset.card_le_univ _).trans (by simp)
  have hfold : Finset.fold IntOp.addi 0#32 (fun x : Fin 256 => Scalar.select (IntOp.cmpi .slt (A7 (ix3 0 0 x)) (A7 (ix3 0 0 l))) 1#32 0#32) Finset.univ = BitVec.ofNat 32 cnt := by
    refine fold_addi _ _ (fun x : Fin 256 => docs a6 b ⟨256 * i.val + x.val, by omega⟩ < docs a6 b (qb i l)) fun x => ?_
    rw [h7, h7]
    show (if BitVec.ofBool ((a6 (ix2 b (qb i x))).slt (a6 (ix2 b (qb i l)))) = 1 then 1#32 else 0#32) = _
    rw [BitVec.slt_eq_decide]
    by_cases hx : (a6 (ix2 b (qb i x))).toInt < (a6 (ix2 b (qb i l))).toInt
    · exact (if_pos (by simp [hx])).trans (if_pos hx).symm
    · exact (if_neg (by simp [hx])).trans (if_neg hx).symm
  have hadd : IntOp.addi (Scalar.muli (BitVec.ofNat 32 i.val) 256#32) (BitVec.ofNat 32 cnt) = BitVec.ofNat 32 (256 * i.val + cnt) := by
    apply BitVec.eq_of_toNat_eq
    simp [IntOp.addi, Scalar.muli, IntOp.muli]
    omega
  have hz : (BitVec.ofNat 32 cnt == 0#32) = decide (cnt = 0) := by
    rw [Bool.eq_iff_iff]; simp only [beq_iff_eq, decide_eq_true_eq]
    exact ofNat_inj (by omega) (by omega)
  unfold stl
  simp only
  rw [hfold, hgi, hadd, h7]
  by_cases h0 : i.val = 0
  · have hf : Scalar.cmpi .eq (BitVec.ofNat 32 i.val) 0#32 = 1#1 := by rw [h0]; rfl
    rw [hf]
    show Scalar.select (IntOp.andi (BitVec.ofBool (BitVec.ofNat 32 cnt == 0#32)) (BitVec.ofBool (a6 (ix2 b (qb i l)) == 4294967295#32))) 0#32 _ = _
    rw [hz, sel_and, k2 (fun p hp => absurd hp (by omega))]
    split
    · rename_i h
      have : cnt = 0 := by simpa using h.1
      rw [this, h0]
    · rfl
  · have hf : Scalar.cmpi .eq (BitVec.ofNat 32 i.val) 0#32 = 0#1 := by
      show BitVec.ofBool (BitVec.ofNat 32 i.val == 0#32) = 0#1
      have : (BitVec.ofNat 32 i.val == 0#32) = false := by
        rw [beq_eq_false_iff_ne]
        intro h
        exact h0 ((ofNat_inj (by omega) (by omega)).1 h)
      rw [this]; rfl
    rw [hf]
    obtain ⟨e1, e2⟩ := h16 255 ⟨256 * i.val - 1, by omega⟩ (by show 256 * i.val - 1 + 256 = 256 * i.val + 255; omega)
    show Scalar.select (IntOp.andi (BitVec.ofBool (BitVec.ofNat 32 cnt == 0#32)) (BitVec.ofBool (a6 (ix2 b (qb i l)) == A16 (ix2 1 255)))) (A16 (ix2 0 255)) _ = _
    rw [hz, sel_and, e1, e2]
    split
    · rename_i h
      rw [k1 ⟨256 * i.val - 1, by omega⟩ (by show 256 * i.val - 1 + 1 = _; omega) (by simpa using h.1)]
      have : a6 (ix2 b (qb i l)) = a6 (ix2 b ⟨256 * i.val - 1, by omega⟩) := by simpa using h.2
      exact congrArg BitVec.toInt this.symm
    · rename_i h
      rw [k2 fun p hp hh => h ⟨by simpa using hh.1, ?_⟩]
      have : p = ⟨256 * i.val - 1, by omega⟩ := Fin.ext (by show p.val = 256 * i.val - 1; omega)
      rw [← this]
      simpa using BitVec.eq_of_toInt_eq hh.2

omit mono in
theorem cl2e_eq : cl2e = ((((Real.sqrt 128)⁻¹ * (Real.log 2)⁻¹ : ℝ)) : EReal) := rfl

/-- A head's output tile is the attention row. -/
theorem OH_eq (i : Fin 16) (A3 : S1x256x4096.Idx → EReal) (A4 : S1x32x256.Idx → EReal) (B12 : S32x4096x128.Idx → EReal) (B13 : S32x128x4096.Idx → EReal) (B14 : S32x1x4096.Idx → EReal) (A15 : S32x1x256.Idx → EReal) (v592 v623 : IVec S1x256 32)
    (w0 : ℕ) (h3 : ∀ (r : Fin 256) j, A3 (ix3 0 r j) = a0 (ix3 b (qb i r) j)) (h4 : ∀ (h : Fin 32) (r : Fin 256), A4 (ix3 0 h r) = a1 (ix3 b (qb i r) h))
    (h15 : ∀ h l, A15 (ix3 h 0 l) = A4 (ix3 0 h l) * cl2e) (h592 : ∀ l : Fin 256, v592 (ix2 0 l) = BitVec.ofNat 32 (dstart (docs a6 b) (qb i l)))
    (h623 : ∀ l : Fin 256, v623 (ix2 0 l) = BitVec.ofNat 32 (256 * i.val + l.val))
    (hB : ∀ (h : Fin 32) (n : Fin 4096) (d : Fin 128), n.val < 256 * (i.val + 1) → B12 (ix3 h n d) = a2 (ix3 b n (hcol h d)) ∧ B13 (ix3 h d n) = a3 (ix3 b n (hcol h d)) * a5 (ix3 b n h) ∧ B14 (ix3 h 0 n) = a4 (ix3 b n h))
    (hw : w0 * 256 ≤ dstart (docs a6 b) (qb i 0)) (h : Fin 32) (d : Fin 128) (l : Fin 256) :
    OH A3 B12 B13 B14 A15 v592 v623 i.val w0 h d l = rrow a0 a1 a2 a3 a4 a5 a6 b (qb i l) (hcol h d) := by
  have hi := i.isLt
  have hst : dstart (docs a6 b) (qb i 0) ≤ dstart (docs a6 b) (qb i l) := dstart_mono mono _ _ (by show 256 * i.val + 0 ≤ 256 * i.val + l.val; omega)
  have hq0 : dstart (docs a6 b) (qb i 0) ≤ 256 * i.val := dstart_le mono (qb i 0)
  have hql : dstart (docs a6 b) (qb i l) ≤ 256 * i.val + l.val := dstart_le mono (qb i l)
  have hend : w0 * 256 + 256 * (i.val + 1 - w0) = 256 * (i.val + 1) := by omega
  have hdiv : ∀ hlt, (⟨(hcol h d).val / 128, hlt⟩ : Fin 32) = h := fun hlt => Fin.ext (by show (128 * h.val + d.val) / 128 = h.val; omega)
  have hmask : ∀ (n : Fin 4096) (x : EReal), n.val < 256 * (i.val + 1) →
      Scalar.select (IntOp.andi (IntOp.cmpi .sge (BitVec.ofNat 32 n.val) (v592 (ix2 0 l))) (IntOp.cmpi .sle (BitVec.ofNat 32 n.val) (v623 (ix2 0 l)))) x (⊥ : EReal)
        = if n ≤ qb i l ∧ a6 (ix2 b n) = a6 (ix2 b (qb i l)) then x else ⊥ := fun n x hn => by
    rw [h592, h623]
    show Scalar.select (IntOp.andi (BitVec.ofBool (BitVec.sle _ _)) (BitVec.ofBool (BitVec.sle _ _))) x ⊥ = _
    rw [sle_small (by omega) (by omega), sle_small (by omega) (by omega), sel_and]
    refine if_congr ?_ rfl rfl
    simp only [decide_eq_true_eq]
    refine (mask_iff mono (qb i l) n).trans (and_congr Iff.rfl ⟨fun e => BitVec.eq_of_toInt_eq e, fun e => congrArg BitVec.toInt e⟩)
  unfold OH OW rrow
  refine rattn_window (fun key => UH A3 B12 B14 A15 v592 v623 h key l) (fun key => B13 (ix3 h d (fx key))) (w0 * 256) (256 * (i.val + 1 - w0)) _ _ (by omega) (fun n hlo hhi => ?_) (fun n hn => ?_) (fun n hlo hhi => ?_)
  · rw [hend] at hhi
    unfold UH rscore
    rw [fx_fin n, hmask n _ hhi, hdiv]
    rw [ite_mul]
    refine if_congr Iff.rfl ?_ ?_
    · rw [(hB h n 0 hhi).2.2, h15, h4, cl2e_eq]
      have : (∑ x : Fin 128, B12 (ix3 h n x) * A3 (ix3 0 l (col h x))) = ∑ x : Fin 128, a0 (ix3 b (qb i l) (hcol h x)) * a2 (ix3 b n (hcol h x)) :=
        Finset.sum_congr rfl fun x _ => by rw [(hB h n x hhi).1, h3, mul_comm]; rfl
      rw [this, EReal.coe_mul]
      ring_nf
      ac_rfl
    · rw [EReal.bot_mul_coe_of_pos (inv_pos.2 (Real.log_pos (by norm_num)))]
  · unfold rscore
    rw [if_neg]
    rintro ⟨h1, h2⟩
    have := (mask_iff mono (qb i l) n).2 ⟨h1, congrArg BitVec.toInt h2⟩
    apply hn
    rw [hend]
    have h1' : n.val ≤ 256 * i.val + l.val := h1
    constructor
    · omega
    · omega
  · rw [hend] at hhi
    show B13 (ix3 h d (fx n.val)) = a3 (ix3 b n (hcol h d)) * a5 (ix3 b n _)
    rw [fx_fin, hdiv, (hB h n d hhi).2.1]

/-- The step: what the body leaves at a block keeps the buffers' statement and is the block of the results. -/
theorem step (i : Fin 16) (gi : grid0.Coords) (hgi : (gi 1).val = i.val) (w : BitVec 32) (hw : w = BitVec.ofNat 32 (dstart (docs a6 b) (qb i 0)))
    (A3 : S1x256x4096.Idx → EReal) (A4 A5 A6 : S1x32x256.Idx → EReal) (A7 : S1x1x256.Idx → BitVec 32) (A8 A9 : S1x256x4096.Idx → EReal)
    (A12 : S32x4096x128.Idx → EReal) (A13 : S32x128x4096.Idx → EReal) (A14 : S32x1x4096.Idx → EReal) (A16 : S2x256.Idx → BitVec 32)
    (B10 : S1x256x4096.Idx → EReal) (B11 : S1x256x1.Idx → EReal) (B12 : S32x4096x128.Idx → EReal) (B13 : S32x128x4096.Idx → EReal) (B14 : S32x1x4096.Idx → EReal) (B16 : S2x256.Idx → BitVec 32)
    (h3 : ∀ (r : Fin 256) j, A3 (ix3 0 r j) = a0 (ix3 b (qb i r) j)) (h4 : ∀ (h : Fin 32) (r : Fin 256), A4 (ix3 0 h r) = a1 (ix3 b (qb i r) h))
    (h5 : ∀ (h : Fin 32) (r : Fin 256), A5 (ix3 0 h r) = a4 (ix3 b (qb i r) h)) (h6 : ∀ (h : Fin 32) (r : Fin 256), A6 (ix3 0 h r) = a5 (ix3 b (qb i r) h))
    (h7 : ∀ l : Fin 256, A7 (ix3 0 0 l) = a6 (ix2 b (qb i l)))
    (h8 : ∀ (r : Fin 256) j, A8 (ix3 0 r j) = a2 (ix3 b (qb i r) j)) (h9 : ∀ (r : Fin 256) j, A9 (ix3 0 r j) = a3 (ix3 b (qb i r) j))
    (hinv : Inv a2 a3 a4 a5 a6 b i.val A12 A13 A14 A16)
    (hpost : BodyPost gi w A3 A4 A5 A6 A7 A8 A9 A12 A13 A14 A16 B10 B11 B12 B13 B14 B16) :
    Inv a2 a3 a4 a5 a6 b (i.val + 1) B12 B13 B14 B16 ∧
    (∀ (l : Fin 256) j, B10 (ix3 0 l j) = kcode (rrow a0 a1 a2 a3 a4 a5 a6 b (qb i l)) (rrow a0 a1 a2 a3 a4 a5 a6 b (qb i l) j)) ∧
    ∀ l : Fin 256, B11 (ix3 0 l 0) = kscale (rrow a0 a1 a2 a3 a4 a5 a6 b (qb i l)) := by
  have hi := i.isLt
  obtain ⟨⟨c1, c2⟩, ⟨v1, v2⟩, ⟨s1, s2⟩, t0, t1, A15, v592, v623, O, h15, h592, h623, hO, hc, hs⟩ := hpost
  rw [hgi] at c1 c2 v1 v2 s1 s2 h623 hO
  have hstl := stl_eq a6 b mono i gi hgi A7 A16 h7 hinv.2
  have hfx : ∀ r : Fin 256, fx (256 * i.val + r.val) = qb i r := fun r => fx_fin (qb i r)
  have hB : ∀ (h : Fin 32) (n : Fin 4096) (d : Fin 128), n.val < 256 * (i.val + 1) → B12 (ix3 h n d) = a2 (ix3 b n (hcol h d)) ∧ B13 (ix3 h d n) = a3 (ix3 b n (hcol h d)) * a5 (ix3 b n h) ∧ B14 (ix3 h 0 n) = a4 (ix3 b n h) := by
    intro h n d hn
    by_cases hlt : n.val < 256 * i.val
    · obtain ⟨e1, e2, e3⟩ := hinv.1 h n d hlt
      exact ⟨(c2 h n d hlt).trans e1, (v2 h n d hlt).trans e2, (s2 h n hlt).trans e3⟩
    · obtain ⟨r, rfl⟩ : ∃ r : Fin 256, n = qb i r := ⟨⟨n.val - 256 * i.val, by omega⟩, Fin.ext (by show n.val = 256 * i.val + (n.val - 256 * i.val); omega)⟩
      have e1 := c1 h r d
      have e2 := v1 h r d
      have e3 := s1 h r
      rw [hfx] at e1 e2 e3
      rw [e1, e2, e3, h8, h9, h6, h5]
      exact ⟨rfl, rfl, rfl⟩
  have hq0 : dstart (docs a6 b) (qb i 0) ≤ 256 * i.val := dstart_le mono (qb i 0)
  have hw0 : w.toNat / 256 * 256 ≤ dstart (docs a6 b) (qb i 0) := by
    have : w.toNat = dstart (docs a6 b) (qb i 0) := by rw [hw, BitVec.toNat_ofNat]; omega
    rw [this]; omega
  have hrow : ∀ l : Fin 256, O l = rrow a0 a1 a2 a3 a4 a5 a6 b (qb i l) := fun l => funext fun j => by
    obtain ⟨h, d, rfl⟩ : ∃ (h : Fin 32) (d : Fin 128), j = hcol h d :=
      ⟨⟨j.val / 128, by omega⟩, ⟨j.val % 128, by omega⟩, Fin.ext (by show j.val = 128 * (j.val / 128) + j.val % 128; omega)⟩
    rw [← OH_eq a0 a1 a2 a3 a4 a5 a6 b mono i A3 A4 B12 B13 B14 A15 v592 v623 (w.toNat / 256) h3 h4 h15 (fun l => (h592 l).trans (hstl l)) h623 hB hw0 h d l]
    exact hO h d l
  refine ⟨⟨hB, fun l q hq => ?_⟩, fun l j => by rw [hc, hrow], fun l => by rw [hs, hrow]⟩
  obtain rfl : q = qb i l := Fin.ext (by show q.val = 256 * i.val + l.val; omega)
  exact ⟨(t0 l).trans (hstl l), (t1 l).trans (h7 l)⟩

end

end Cert.KernelIdeal.Hand

end

end
-- ==== Proof.InOrder.lean ====
module

public import proofs.«01_k».proof.Defs
public import proofs.«01_k».proof.Proof.Gen.Pre_documents_in_order
public import proofs.«01_k».proof.Proof.KernelIdealStep
public import Idealize.ShloMosaic.Lib.Pointwise

@[expose] public section

set_option maxRecDepth 16384
set_option maxHeartbeats 4000000

noncomputable section

namespace Cert.InOrder

open Cert.Pre_documents_in_order Cert.Rows
open Idealize.ShloMosaic

theorem and_one : ∀ r x : BitVec 1, IntOp.andi r x = 1#1 → r = 1#1 ∧ x = 1#1 := by decide

theorem fold_one {α : Type} (g : α → BitVec 1) : ∀ (L : List α) (r : BitVec 1), L.foldl (fun r n => IntOp.andi r (g n)) r = 1#1 → r = 1#1 ∧ ∀ n ∈ L, g n = 1#1
  | [], r, h => ⟨h, fun n hn => absurd hn List.not_mem_nil⟩
  | a :: L, r, h => by
    obtain ⟨h1, h2⟩ := fold_one g L _ h
    obtain ⟨h3, h4⟩ := and_one _ _ h1
    refine ⟨h3, fun n hn => ?_⟩
    rcases List.mem_cons.1 hn with rfl | hn
    · exact h4
    · exact h2 n hn

/-- The conjunction of all entries is one only if every entry is. -/
theorem reduce_one (x : S8x4095.Idx → BitVec 1) (v : S_.Idx → BitVec 1) (h : S8x4095.ReducesTo [0, 1] S_) (hu : 0 < S_.numel)
    (he : Host.reduce IntOp.andi x v h hu = fun _ => 1#1) (y : S8x4095.Idx) : x y = 1#1 := by
  have e := congrFun he (fun a => a.elim0)
  unfold Host.reduce at e
  have hall := (fold_one _ _ _ e).2 (S8x4095.rowMajor y) (List.mem_filter.2 ⟨List.mem_finRange _, decide_eq_true (funext fun a => a.elim0)⟩)
  rwa [Equiv.symm_apply_apply] at hall

variable [Facts]
open Facts

theorem next_at (a : S8x4096.Idx → BitVec 32) (b : Fin 8) (j : Fin 4095) :
    extractStridedSlice S8x4095 ![0, 1] a slices_S8x4096_S8x4095_0_1 (ix2 b j) = a (ix2 b (⟨j.val + 1, by omega⟩ : Fin 4096)) := by
  unfold extractStridedSlice
  refine congrArg a (funext fun d => Fin.ext ?_)
  match d with
  | ⟨0, _⟩ => show 0 + b.val = b.val; omega
  | ⟨1, _⟩ => show 1 + j.val = j.val + 1; omega

theorem this_at (a : S8x4096.Idx → BitVec 32) (b : Fin 8) (j : Fin 4095) :
    extractStridedSlice S8x4095 ![0, 0] a slices_S8x4096_S8x4095_0_0 (ix2 b j) = a (ix2 b (⟨j.val, by omega⟩ : Fin 4096)) := by
  unfold extractStridedSlice
  refine congrArg a (funext fun d => Fin.ext ?_)
  match d with
  | ⟨0, _⟩ => show 0 + b.val = b.val; omega
  | ⟨1, _⟩ => show 0 + j.val = j.val; omega

theorem sge_one (x y : BitVec 32) (h : IntOp.cmpi .sge x y = 1#1) : y.toInt ≤ x.toInt := by
  have h' : BitVec.ofBool (y.sle x) = 1#1 := h
  rw [BitVec.sle_eq_decide] at h'
  by_contra hc
  rw [decide_eq_false hc] at h'
  exact absurd h' (by decide)

/-- A sequence that never steps down never decreases. -/
theorem chain {N : Nat} (f : Fin N → Int) (hs : ∀ n (hn : n + 1 < N), f ⟨n, by omega⟩ ≤ f ⟨n + 1, hn⟩) (j k : Fin N) (hjk : j.val ≤ k.val) : f j ≤ f k := by
  have hd : ∀ (d m : Nat) (hm : m < N), m = j.val + d → f j ≤ f ⟨m, hm⟩ := fun d => by
    induction d with
    | zero =>
      intro m hm e
      subst e
      exact le_refl _
    | succ d ih =>
      intro m hm e
      subst e
      exact (ih (j.val + d) (by omega) rfl).trans (hs (j.val + d) hm)
  exact hd (k.val - j.val) k.val k.isLt (by omega)

/-- The test of one pair of neighbours. -/
def up (a6 : IVec S8x4096 32) : S8x4095.Idx → BitVec 1 :=
  cmpi .sge (extractStridedSlice S8x4095 ![0, 1] a6 slices_S8x4096_S8x4095_0_1) (extractStridedSlice S8x4095 ![0, 0] a6 slices_S8x4096_S8x4095_0_0)

section
attribute [local irreducible] Host.reduce

theorem fn_eq (a0 : FVec Ideal S8x4096x4096 .fp8e4m3) (a1 : FVec Ideal S8x4096x32 .f32) (a2 a3 : FVec Ideal S8x4096x4096 .fp8e4m3) (a4 a5 : FVec Ideal S8x4096x32 .f32) (a6 : IVec S8x4096 32) :
    fn (F := Ideal) a0 a1 a2 a3 a4 a5 a6 = Host.reduce IntOp.andi (up a6) (constantI S_ 1 1#1) reducesTo_S8x4095_S_d0_1 h_S_ := by
  unfold fn up
  rfl

end

/-- The documents of a batch do not decrease. -/
theorem mono (a0 : FVec Ideal S8x4096x4096 .fp8e4m3) (a1 : FVec Ideal S8x4096x32 .f32) (a2 a3 : FVec Ideal S8x4096x4096 .fp8e4m3) (a4 a5 : FVec Ideal S8x4096x32 .f32) (a6 : IVec S8x4096 32)
    (h : fn (F := Ideal) a0 a1 a2 a3 a4 a5 a6 = fun _ => 1#1) (b : Fin 8) (j k : Fin 4096) (hjk : j ≤ k) :
    Cert.KernelIdeal.Hand.docs a6 b j ≤ Cert.KernelIdeal.Hand.docs a6 b k := by
  rewrite [fn_eq] at h
  refine chain (Cert.KernelIdeal.Hand.docs a6 b) (fun n hn => ?_) j k hjk
  have e : up a6 (ix2 b (⟨n, by omega⟩ : Fin 4095)) = 1#1 := reduce_one (up a6) _ _ _ h _
  have e' : IntOp.cmpi .sge (extractStridedSlice S8x4095 ![0, 1] a6 slices_S8x4096_S8x4095_0_1 (ix2 b (⟨n, by omega⟩ : Fin 4095)))
      (extractStridedSlice S8x4095 ![0, 0] a6 slices_S8x4096_S8x4095_0_0 (ix2 b (⟨n, by omega⟩ : Fin 4095))) = 1#1 := e
  rewrite [next_at, this_at] at e'
  exact sge_one _ _ e'

end Cert.InOrder

end

end
-- ==== Proof.KernelIdealBlocks.lean ====
module

public import proofs.«01_k».proof.Proof.KernelIdealFrame
public import proofs.«01_k».proof.Proof.KernelIdealStep

@[expose] public section

set_option maxRecDepth 16384
set_option maxHeartbeats 4000000

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open Idealize.ShloMosaic.Pipeline

variable (m : (ℓ : Loc nD τ sig) → Buf (Elt Ideal) ℓ)

/-! ## The arguments, and the results as functions of them -/

/-- Argument 0. -/
def ar0 (c : Dev nD) : A3 := m ((c.tc : Thread nD τ).loc main_arg0)
/-- Argument 1. -/
def ar1 (c : Dev nD) : A2 := m ((c.tc : Thread nD τ).loc main_arg1)
/-- Argument 2. -/
def ar2 (c : Dev nD) : A3 := m ((c.tc : Thread nD τ).loc main_arg2)
/-- Argument 3. -/
def ar3 (c : Dev nD) : A3 := m ((c.tc : Thread nD τ).loc main_arg3)
/-- Argument 4. -/
def ar4 (c : Dev nD) : A2 := m ((c.tc : Thread nD τ).loc main_arg4)
/-- Argument 5. -/
def ar5 (c : Dev nD) : A2 := m ((c.tc : Thread nD τ).loc main_arg5)
/-- Argument 6. -/
def ar6 (c : Dev nD) : A1 := m ((c.tc : Thread nD τ).loc main_arg6)

/-- The attention row of a query. -/
def orow (c : Dev nD) (b : Fin 8) (q : Fin 4096) : Fin 4096 → EReal := rrow (ar0 m c) (ar1 m c) (ar2 m c) (ar3 m c) (ar4 m c) (ar5 m c) (ar6 m c) b q
/-- The codes. -/
def G10 (c : Dev nD) (x : S8x4096x4096.Idx) : EReal := kcode (orow m c (x 0) (x 1)) (orow m c (x 0) (x 1) (x 2))
/-- The scales. -/
def G11 (c : Dev nD) (x : S8x4096x1.Idx) : EReal := kscale (orow m c (x 0) (x 1))

theorem idx0 : ∀ t : Fin grid0.N, cc0_transform_0 (grid0.coords t) (0 : Fin 3) = t.val / 16 ∧ cc0_transform_0 (grid0.coords t) (1 : Fin 3) = t.val % 16 ∧ cc0_transform_0 (grid0.coords t) (2 : Fin 3) = 0 := by decide +kernel

theorem emb0 (t : Fin (cfgM m).N) (j : S1x256x4096.Idx) : (((cfgM m).win 0).blk t).view.emb j = ix3 (bT t) (qb (iT t) (j 1)) (j 2) := by
  obtain ⟨e0, e1, e2⟩ := idx0 t
  have hj : (j 0).val < 1 := (j 0).isLt
  funext a; apply Fin.ext
  match a with
  | ⟨0, _⟩ => show cc0_transform_0 (grid0.coords t) (0 : Fin 3) * 1 + 1 * (j 0).val = t.val / 16; omega
  | ⟨1, _⟩ => show cc0_transform_0 (grid0.coords t) (1 : Fin 3) * 256 + 1 * (j 1).val = 256 * (t.val % 16) + (j 1).val; omega
  | ⟨2, _⟩ => show cc0_transform_0 (grid0.coords t) (2 : Fin 3) * 4096 + 1 * (j 2).val = (j 2).val; omega

theorem idx5 : ∀ t : Fin grid0.N, cc0_transform_5 (grid0.coords t) (0 : Fin 3) = t.val / 16 ∧ cc0_transform_5 (grid0.coords t) (1 : Fin 3) = t.val % 16 ∧ cc0_transform_5 (grid0.coords t) (2 : Fin 3) = 0 := by decide +kernel

theorem emb5 (t : Fin (cfgM m).N) (j : S1x256x4096.Idx) : (((cfgM m).win 5).blk t).view.emb j = ix3 (bT t) (qb (iT t) (j 1)) (j 2) := by
  obtain ⟨e0, e1, e2⟩ := idx5 t
  have hj : (j 0).val < 1 := (j 0).isLt
  funext a; apply Fin.ext
  match a with
  | ⟨0, _⟩ => show cc0_transform_5 (grid0.coords t) (0 : Fin 3) * 1 + 1 * (j 0).val = t.val / 16; omega
  | ⟨1, _⟩ => show cc0_transform_5 (grid0.coords t) (1 : Fin 3) * 256 + 1 * (j 1).val = 256 * (t.val % 16) + (j 1).val; omega
  | ⟨2, _⟩ => show cc0_transform_5 (grid0.coords t) (2 : Fin 3) * 4096 + 1 * (j 2).val = (j 2).val; omega

theorem idx6 : ∀ t : Fin grid0.N, cc0_transform_6 (grid0.coords t) (0 : Fin 3) = t.val / 16 ∧ cc0_transform_6 (grid0.coords t) (1 : Fin 3) = t.val % 16 ∧ cc0_transform_6 (grid0.coords t) (2 : Fin 3) = 0 := by decide +kernel

theorem emb6 (t : Fin (cfgM m).N) (j : S1x256x4096.Idx) : (((cfgM m).win 6).blk t).view.emb j = ix3 (bT t) (qb (iT t) (j 1)) (j 2) := by
  obtain ⟨e0, e1, e2⟩ := idx6 t
  have hj : (j 0).val < 1 := (j 0).isLt
  funext a; apply Fin.ext
  match a with
  | ⟨0, _⟩ => show cc0_transform_6 (grid0.coords t) (0 : Fin 3) * 1 + 1 * (j 0).val = t.val / 16; omega
  | ⟨1, _⟩ => show cc0_transform_6 (grid0.coords t) (1 : Fin 3) * 256 + 1 * (j 1).val = 256 * (t.val % 16) + (j 1).val; omega
  | ⟨2, _⟩ => show cc0_transform_6 (grid0.coords t) (2 : Fin 3) * 4096 + 1 * (j 2).val = (j 2).val; omega

theorem idx7 : ∀ t : Fin grid0.N, cc0_transform_7 (grid0.coords t) (0 : Fin 3) = t.val / 16 ∧ cc0_transform_7 (grid0.coords t) (1 : Fin 3) = t.val % 16 ∧ cc0_transform_7 (grid0.coords t) (2 : Fin 3) = 0 := by decide +kernel

theorem emb7 (t : Fin (cfgM m).N) (j : S1x256x4096.Idx) : (((cfgM m).win 7).blk t).view.emb j = ix3 (bT t) (qb (iT t) (j 1)) (j 2) := by
  obtain ⟨e0, e1, e2⟩ := idx7 t
  have hj : (j 0).val < 1 := (j 0).isLt
  funext a; apply Fin.ext
  match a with
  | ⟨0, _⟩ => show cc0_transform_7 (grid0.coords t) (0 : Fin 3) * 1 + 1 * (j 0).val = t.val / 16; omega
  | ⟨1, _⟩ => show cc0_transform_7 (grid0.coords t) (1 : Fin 3) * 256 + 1 * (j 1).val = 256 * (t.val % 16) + (j 1).val; omega
  | ⟨2, _⟩ => show cc0_transform_7 (grid0.coords t) (2 : Fin 3) * 4096 + 1 * (j 2).val = (j 2).val; omega

theorem idx8 : ∀ t : Fin grid0.N, cc0_transform_8 (grid0.coords t) (0 : Fin 3) = t.val / 16 ∧ cc0_transform_8 (grid0.coords t) (1 : Fin 3) = t.val % 16 ∧ cc0_transform_8 (grid0.coords t) (2 : Fin 3) = 0 := by decide +kernel

theorem emb8 (t : Fin (cfgM m).N) (j : S1x256x1.Idx) : (((cfgM m).win 8).blk t).view.emb j = ix3 (bT t) (qb (iT t) (j 1)) (j 2) := by
  obtain ⟨e0, e1, e2⟩ := idx8 t
  have hj : (j 0).val < 1 := (j 0).isLt
  funext a; apply Fin.ext
  match a with
  | ⟨0, _⟩ => show cc0_transform_8 (grid0.coords t) (0 : Fin 3) * 1 + 1 * (j 0).val = t.val / 16; omega
  | ⟨1, _⟩ => show cc0_transform_8 (grid0.coords t) (1 : Fin 3) * 256 + 1 * (j 1).val = 256 * (t.val % 16) + (j 1).val; omega
  | ⟨2, _⟩ => show cc0_transform_8 (grid0.coords t) (2 : Fin 3) * 1 + 1 * (j 2).val = (j 2).val; omega

theorem idx1 : ∀ t : Fin grid0.N, cc0_transform_1 (grid0.coords t) (0 : Fin 3) = t.val / 16 ∧ cc0_transform_1 (grid0.coords t) (1 : Fin 3) = 0 ∧ cc0_transform_1 (grid0.coords t) (2 : Fin 3) = t.val % 16 := by decide +kernel

theorem emb1 (t : Fin (cfgM m).N) (j : S1x32x256.Idx) : (((cfgM m).win 1).blk t).view.emb j = ix3 (bT t) (j 1) (qb (iT t) (j 2)) := by
  obtain ⟨e0, e1, e2⟩ := idx1 t
  have hj : (j 0).val < 1 := (j 0).isLt
  funext a; apply Fin.ext
  match a with
  | ⟨0, _⟩ => show cc0_transform_1 (grid0.coords t) (0 : Fin 3) * 1 + 1 * (j 0).val = t.val / 16; omega
  | ⟨1, _⟩ => show cc0_transform_1 (grid0.coords t) (1 : Fin 3) * 32 + 1 * (j 1).val = (j 1).val; omega
  | ⟨2, _⟩ => show cc0_transform_1 (grid0.coords t) (2 : Fin 3) * 256 + 1 * (j 2).val = 256 * (t.val % 16) + (j 2).val; omega

theorem idx2 : ∀ t : Fin grid0.N, cc0_transform_2 (grid0.coords t) (0 : Fin 3) = t.val / 16 ∧ cc0_transform_2 (grid0.coords t) (1 : Fin 3) = 0 ∧ cc0_transform_2 (grid0.coords t) (2 : Fin 3) = t.val % 16 := by decide +kernel

theorem emb2 (t : Fin (cfgM m).N) (j : S1x32x256.Idx) : (((cfgM m).win 2).blk t).view.emb j = ix3 (bT t) (j 1) (qb (iT t) (j 2)) := by
  obtain ⟨e0, e1, e2⟩ := idx2 t
  have hj : (j 0).val < 1 := (j 0).isLt
  funext a; apply Fin.ext
  match a with
  | ⟨0, _⟩ => show cc0_transform_2 (grid0.coords t) (0 : Fin 3) * 1 + 1 * (j 0).val = t.val / 16; omega
  | ⟨1, _⟩ => show cc0_transform_2 (grid0.coords t) (1 : Fin 3) * 32 + 1 * (j 1).val = (j 1).val; omega
  | ⟨2, _⟩ => show cc0_transform_2 (grid0.coords t) (2 : Fin 3) * 256 + 1 * (j 2).val = 256 * (t.val % 16) + (j 2).val; omega

theorem idx3 : ∀ t : Fin grid0.N, cc0_transform_3 (grid0.coords t) (0 : Fin 3) = t.val / 16 ∧ cc0_transform_3 (grid0.coords t) (1 : Fin 3) = 0 ∧ cc0_transform_3 (grid0.coords t) (2 : Fin 3) = t.val % 16 := by decide +kernel

theorem emb3 (t : Fin (cfgM m).N) (j : S1x32x256.Idx) : (((cfgM m).win 3).blk t).view.emb j = ix3 (bT t) (j 1) (qb (iT t) (j 2)) := by
  obtain ⟨e0, e1, e2⟩ := idx3 t
  have hj : (j 0).val < 1 := (j 0).isLt
  funext a; apply Fin.ext
  match a with
  | ⟨0, _⟩ => show cc0_transform_3 (grid0.coords t) (0 : Fin 3) * 1 + 1 * (j 0).val = t.val / 16; omega
  | ⟨1, _⟩ => show cc0_transform_3 (grid0.coords t) (1 : Fin 3) * 32 + 1 * (j 1).val = (j 1).val; omega
  | ⟨2, _⟩ => show cc0_transform_3 (grid0.coords t) (2 : Fin 3) * 256 + 1 * (j 2).val = 256 * (t.val % 16) + (j 2).val; omega

theorem idx4 : ∀ t : Fin grid0.N, cc0_transform_4 (grid0.coords t) (0 : Fin 3) = t.val / 16 ∧ cc0_transform_4 (grid0.coords t) (1 : Fin 3) = 0 ∧ cc0_transform_4 (grid0.coords t) (2 : Fin 3) = t.val % 16 := by decide +kernel

theorem emb4 (t : Fin (cfgM m).N) (j : S1x1x256.Idx) : (((cfgM m).win 4).blk t).view.emb j = ix3 (bT t) (j 1) (qb (iT t) (j 2)) := by
  obtain ⟨e0, e1, e2⟩ := idx4 t
  have hj : (j 0).val < 1 := (j 0).isLt
  funext a; apply Fin.ext
  match a with
  | ⟨0, _⟩ => show cc0_transform_4 (grid0.coords t) (0 : Fin 3) * 1 + 1 * (j 0).val = t.val / 16; omega
  | ⟨1, _⟩ => show cc0_transform_4 (grid0.coords t) (1 : Fin 3) * 1 + 1 * (j 1).val = (j 1).val; omega
  | ⟨2, _⟩ => show cc0_transform_4 (grid0.coords t) (2 : Fin 3) * 256 + 1 * (j 2).val = 256 * (t.val % 16) + (j 2).val; omega

/-! ## What the windows stage -/

/-- Window `w`'s block at point `t`. -/
def iblk (c : Dev nD) (w : Fin 9) (t : Fin (cfgM m).N) : (((cfgM m).win w).xblock (grid0.coords t)).Idx → Elt Ideal ((cfgM m).win w).elt :=
  (((cfgM m).win w).blk t).view.read (Elt Ideal) (V m c (Pipeline.arrRef spec0 w))

theorem V_v8 (c : Dev nD) : V m c main_v8 = transpose S8x32x4096 [0, 2, 1] (m ((c.tc : Thread nD τ).loc main_arg1)) transposes_S8x4096x32_S8x32x4096_0_2_1 := by
  unfold V; after_results

theorem V_v9 (c : Dev nD) : V m c main_v9 = transpose S8x32x4096 [0, 2, 1] (m ((c.tc : Thread nD τ).loc main_arg4)) transposes_S8x4096x32_S8x32x4096_0_2_1 := by
  unfold V; after_results

theorem V_v10 (c : Dev nD) : V m c main_v10 = transpose S8x32x4096 [0, 2, 1] (m ((c.tc : Thread nD τ).loc main_arg5)) transposes_S8x4096x32_S8x32x4096_0_2_1 := by
  unfold V; after_results

theorem V_v11 (c : Dev nD) : V m c main_v11 = broadcastInDim S8x1x4096 ![0, 2] bcast_S8x4096_S8x1x4096_0_2 (m ((c.tc : Thread nD τ).loc main_arg6)) := by
  unfold V; after_results

theorem transpose_at (x : S8x4096x32.Idx → EReal) (b : Fin 8) (h : Fin 32) (q : Fin 4096) :
    transpose S8x32x4096 [0, 2, 1] x transposes_S8x4096x32_S8x32x4096_0_2_1 (ix3 b h q) = x (ix3 b q h) := by
  pointwise

theorem bcast_at (x : S8x4096.Idx → BitVec 32) (b : Fin 8) (q : Fin 4096) :
    broadcastInDim S8x1x4096 ![0, 2] bcast_S8x4096_S8x1x4096_0_2 x (ix3 b 0 q) = x (ix2 b q) := by
  pointwise

theorem blk0 (c : Dev nD) (t : Fin (cfgM m).N) (r : Fin 256) (j : Fin 4096) : iblk m c 0 t (ix3 0 r j) = ar0 m c (ix3 (bT t) (qb (iT t) r) j) := by
  show V m c main_arg0 ((((cfgM m).win 0).blk t).view.emb (ix3 0 r j)) = _
  rw [emb0, V_arg m c main_arg0 (by simp)]
  rfl

theorem blk5 (c : Dev nD) (t : Fin (cfgM m).N) (r : Fin 256) (j : Fin 4096) : iblk m c 5 t (ix3 0 r j) = ar2 m c (ix3 (bT t) (qb (iT t) r) j) := by
  show V m c main_arg2 ((((cfgM m).win 5).blk t).view.emb (ix3 0 r j)) = _
  rw [emb5, V_arg m c main_arg2 (by simp)]
  rfl

theorem blk6 (c : Dev nD) (t : Fin (cfgM m).N) (r : Fin 256) (j : Fin 4096) : iblk m c 6 t (ix3 0 r j) = ar3 m c (ix3 (bT t) (qb (iT t) r) j) := by
  show V m c main_arg3 ((((cfgM m).win 6).blk t).view.emb (ix3 0 r j)) = _
  rw [emb6, V_arg m c main_arg3 (by simp)]
  rfl

theorem blk1 (c : Dev nD) (t : Fin (cfgM m).N) (h : Fin 32) (r : Fin 256) : iblk m c 1 t (ix3 0 h r) = ar1 m c (ix3 (bT t) (qb (iT t) r) h) := by
  show V m c main_v8 ((((cfgM m).win 1).blk t).view.emb (ix3 0 h r)) = _
  rw [emb1, V_v8]
  exact transpose_at _ (bT t) h (qb (iT t) r)

theorem blk2 (c : Dev nD) (t : Fin (cfgM m).N) (h : Fin 32) (r : Fin 256) : iblk m c 2 t (ix3 0 h r) = ar4 m c (ix3 (bT t) (qb (iT t) r) h) := by
  show V m c main_v9 ((((cfgM m).win 2).blk t).view.emb (ix3 0 h r)) = _
  rw [emb2, V_v9]
  exact transpose_at _ (bT t) h (qb (iT t) r)

theorem blk3 (c : Dev nD) (t : Fin (cfgM m).N) (h : Fin 32) (r : Fin 256) : iblk m c 3 t (ix3 0 h r) = ar5 m c (ix3 (bT t) (qb (iT t) r) h) := by
  show V m c main_v10 ((((cfgM m).win 3).blk t).view.emb (ix3 0 h r)) = _
  rw [emb3, V_v10]
  exact transpose_at _ (bT t) h (qb (iT t) r)

theorem blk4 (c : Dev nD) (t : Fin (cfgM m).N) (r : Fin 256) : iblk m c 4 t (ix3 0 0 r) = ar6 m c (ix2 (bT t) (qb (iT t) r)) := by
  show V m c main_v11 ((((cfgM m).win 4).blk t).view.emb (ix3 0 0 r)) = _
  rw [emb4, V_v11]
  exact bcast_at _ (bT t) (qb (iT t) r)

/-- The table's word at a point: where the document of the block's first query starts. -/
theorem tbl_at (c : Dev nD) (b : Fin 8) (i : Fin 16) : V m c main_v7 (ix2 b i) = BitVec.ofNat 32 (dstart (docs (ar6 m c) b) (qb i 0)) := by
  rw [tbl_val]
  congr 1
  unfold dstart
  refine congrArg Finset.card (Finset.filter_congr fun x _ => ?_)
  show ((ar6 m c (ix2 b x)).slt (ar6 m c (ix2 b ⟨256 * i.val, _⟩)) = true) ↔ _
  rw [BitVec.slt_eq_decide, decide_eq_true_eq]
  exact Iff.rfl

/-! ## The outputs' blocks -/

theorem flush_idx7 : ∀ t : Fin grid0.N, (decide (t.val + 1 = grid0.N) || decide (∃ h : t.val + 1 < grid0.N, cc0_transform_7 (grid0.coords ⟨t.val + 1, h⟩) ≠ cc0_transform_7 (grid0.coords t))) = true := by decide +kernel

theorem flush7 (t : Fin (cfgM m).N) : ((cfgM m).win 7).flush t = true := flush_idx7 t

theorem covered7 (x : S8x4096x4096.Idx) : ∃ t : Fin (cfgM m).N, ((cfgM m).win 7).flush t = true ∧ x ∈ (((cfgM m).win 7).blk t).view.set := by
  have hx0 : (x 0).val < 8 := (x 0).isLt
  have hx1 : (x 1).val < 4096 := (x 1).isLt
  have hN : 16 * (x 0).val + (x 1).val / 256 < grid0.N := by rw [N_0]; omega
  refine ⟨⟨16 * (x 0).val + (x 1).val / 256, hN⟩, flush7 m _, ?_⟩
  have h := (((cfgM m).win 7).blk ⟨16 * (x 0).val + (x 1).val / 256, hN⟩).view.emb_mem_set (ix3 (0 : Fin 1) (⟨(x 1).val % 256, by omega⟩ : Fin 256) (x 2))
  rw [emb7] at h
  refine (congrArg (· ∈ (((cfgM m).win 7).blk ⟨16 * (x 0).val + (x 1).val / 256, hN⟩).view.set) ?_).mp h
  funext a; apply Fin.ext
  match a with
  | ⟨0, _⟩ => show (16 * (x 0).val + (x 1).val / 256) / 16 = (x 0).val; omega
  | ⟨1, _⟩ => show 256 * ((16 * (x 0).val + (x 1).val / 256) % 16) + (x 1).val % 256 = (x 1).val; omega
  | ⟨2, _⟩ => rfl

theorem flush_idx8 : ∀ t : Fin grid0.N, (decide (t.val + 1 = grid0.N) || decide (∃ h : t.val + 1 < grid0.N, cc0_transform_8 (grid0.coords ⟨t.val + 1, h⟩) ≠ cc0_transform_8 (grid0.coords t))) = true := by decide +kernel

theorem flush8 (t : Fin (cfgM m).N) : ((cfgM m).win 8).flush t = true := flush_idx8 t

theorem covered8 (x : S8x4096x1.Idx) : ∃ t : Fin (cfgM m).N, ((cfgM m).win 8).flush t = true ∧ x ∈ (((cfgM m).win 8).blk t).view.set := by
  have hx0 : (x 0).val < 8 := (x 0).isLt
  have hx1 : (x 1).val < 4096 := (x 1).isLt
  have hN : 16 * (x 0).val + (x 1).val / 256 < grid0.N := by rw [N_0]; omega
  refine ⟨⟨16 * (x 0).val + (x 1).val / 256, hN⟩, flush8 m _, ?_⟩
  have h := (((cfgM m).win 8).blk ⟨16 * (x 0).val + (x 1).val / 256, hN⟩).view.emb_mem_set (ix3 (0 : Fin 1) (⟨(x 1).val % 256, by omega⟩ : Fin 256) (x 2))
  rw [emb8] at h
  refine (congrArg (· ∈ (((cfgM m).win 8).blk ⟨16 * (x 0).val + (x 1).val / 256, hN⟩).view.set) ?_).mp h
  funext a; apply Fin.ext
  match a with
  | ⟨0, _⟩ => show (16 * (x 0).val + (x 1).val / 256) / 16 = (x 0).val; omega
  | ⟨1, _⟩ => show 256 * ((16 * (x 0).val + (x 1).val / 256) % 16) + (x 1).val % 256 = (x 1).val; omega
  | ⟨2, _⟩ => rfl

end Cert.KernelIdeal.Hand

end

end
-- ==== Proof.KernelIdealPoint.lean ====
module

public import proofs.«01_k».proof.Proof.KernelIdealBlocks

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-! ## What is carried from point to point -/

/-- The block of the codes that a point leaves. -/
def oblk7 (c : Dev nD) (t : Fin grid0.N) (j : S1x256x4096.Idx) : EReal := G10 m c (ix3 (bT t) (qb (iT t) (j 1)) (j 2))
/-- The block of the scales that a point leaves. -/
def oblk8 (c : Dev nD) (t : Fin grid0.N) (j : S1x256x1.Idx) : EReal := G11 m c (ix3 (bT t) (qb (iT t) (j 1)) (j 2))

/-- What the buffers hold before point `n`. -/
def InvN (c : Dev nD) (n : ℕ) (A12 : S32x4096x128.Idx → EReal) (A13 : S32x128x4096.Idx → EReal) (A14 : S32x1x4096.Idx → EReal) (A16 : S2x256.Idx → BitVec 32) : Prop :=
  ∀ h : n < 128, Inv (ar2 m c) (ar3 m c) (ar4 m c) (ar5 m c) (ar6 m c) ⟨n / 16, by omega⟩ (n % 16) A12 A13 A14 A16

theorem invN_zero (c : Dev nD) (A12 A13 A14 A16) : InvN m c 0 A12 A13 A14 A16 := fun _ => inv_zero _ _ _ _ _ _ _ _ _ _

theorem point_step (c : Dev nD) (mono : ∀ b j k, j ≤ k → docs (ar6 m c) b j ≤ docs (ar6 m c) b k) (t : Fin grid0.N)
    (A12 : S32x4096x128.Idx → EReal) (A13 : S32x128x4096.Idx → EReal) (A14 : S32x1x4096.Idx → EReal) (A16 : S2x256.Idx → BitVec 32)
    (B10 : S1x256x4096.Idx → EReal) (B11 : S1x256x1.Idx → EReal) (B12 : S32x4096x128.Idx → EReal) (B13 : S32x128x4096.Idx → EReal) (B14 : S32x1x4096.Idx → EReal) (B16 : S2x256.Idx → BitVec 32)
    (hinv : InvN m c t.val A12 A13 A14 A16)
    (hpost : BodyPost (grid0.coords t) (V m 0 main_v7 (ix2 (bT t) (iT t))) (iblk m c 0 t) (iblk m c 1 t) (iblk m c 2 t) (iblk m c 3 t) (iblk m c 4 t) (iblk m c 5 t) (iblk m c 6 t) A12 A13 A14 A16 B10 B11 B12 B13 B14 B16) :
    InvN m c (t.val + 1) B12 B13 B14 B16 ∧ B10 = oblk7 m c t ∧ B11 = oblk8 m c t := by
  have ht := pt_lt t
  obtain rfl : c = 0 := Subsingleton.elim _ _
  obtain ⟨r1, r2, r3⟩ := step (ar0 m 0) (ar1 m 0) (ar2 m 0) (ar3 m 0) (ar4 m 0) (ar5 m 0) (ar6 m 0) (bT t) (mono (bT t)) (iT t) (grid0.coords t) (coords_at t).2
    _ (tbl_at m 0 (bT t) (iT t)) _ _ _ _ _ _ _ _ _ _ _ _ _ _ _ _ _ (blk0 m 0 t) (blk1 m 0 t) (blk2 m 0 t) (blk3 m 0 t) (blk4 m 0 t) (blk5 m 0 t) (blk6 m 0 t) (hinv ht) hpost
  refine ⟨fun h => ?_, funext fun j => ?_, funext fun j => ?_⟩
  · by_cases h0 : (t.val + 1) % 16 = 0
    · rw [h0]; exact inv_zero _ _ _ _ _ _ _ _ _ _
    · have e1 : (t.val + 1) % 16 = t.val % 16 + 1 := by omega
      have e2 : (⟨(t.val + 1) / 16, by omega⟩ : Fin 8) = bT t := Fin.ext (by show (t.val + 1) / 16 = t.val / 16; omega)
      rw [e1, e2]; exact r1
  · have hj : j = ix3 (0 : Fin 1) (j 1) (j 2) := by
      funext a
      match a with
      | ⟨0, _⟩ => exact Fin.ext (by have : (j 0).val < 1 := (j 0).isLt; show (j 0).val = 0; omega)
      | ⟨1, _⟩ => rfl
      | ⟨2, _⟩ => rfl
    exact (congrArg B10 hj).trans (r2 (j 1) (j 2))
  · have hj : j = ix3 (0 : Fin 1) (j 1) (0 : Fin 1) := by
      funext a
      match a with
      | ⟨0, _⟩ => exact Fin.ext (by have : (j 0).val < 1 := (j 0).isLt; show (j 0).val = 0; omega)
      | ⟨1, _⟩ => rfl
      | ⟨2, _⟩ => exact Fin.ext (by have : (j 2).val < 1 := (j 2).isLt; show (j 2).val = 0; omega)
    exact (congrArg B11 hj).trans (r3 (j 1))

/-- What the region carries before point `n`. -/
def PhiS (c : Dev nD) (n : ℕ) : sProp 𝕄 := iprop((((∃ f0 : Buf (Elt Ideal) ((c : Thread nD τ).loc cc0_scratch0), ∃ f1 : Buf (Elt Ideal) ((c : Thread nD τ).loc cc0_scratch1), ∃ f2 : Buf (Elt Ideal) ((c : Thread nD τ).loc cc0_scratch2), ∃ f3 : Buf (Elt Ideal) ((c : Thread nD τ).loc cc0_scratch3), ∃ f4 : Buf (Elt Ideal) ((c : Thread nD τ).loc cc0_scratch4), ∃ f5 : Buf (Elt Ideal) ((c : Thread nD τ).loc cc0_scratch5), ∃ f6 : Buf (Elt Ideal) ((c : Thread nD τ).loc cc0_scratch6), ((c : Thread nD τ).loc cc0_scratch0 ↦{fullShare} f0) ∗ ((c : Thread nD τ).loc cc0_scratch1 ↦{fullShare} f1) ∗ ((c : Thread nD τ).loc cc0_scratch2 ↦{fullShare} f2) ∗ ((c : Thread nD τ).loc cc0_scratch3 ↦{fullShare} f3) ∗ ((c : Thread nD τ).loc cc0_scratch4 ↦{fullShare} f4) ∗ ((c : Thread nD τ).loc cc0_scratch5 ↦{fullShare} f5) ∗ ((c : Thread nD τ).loc cc0_scratch6 ↦{fullShare} f6) ∗ ⌜InvN m c n ((Memref.whole cc0_scratch0).view.read (Elt Ideal) f0) ((Memref.whole cc0_scratch1).view.read (Elt Ideal) f1) ((Memref.whole cc0_scratch2).view.read (Elt Ideal) f2) ((Memref.whole cc0_scratch4).view.read (Elt Ideal) f4)⌝) ∗ ∃ r, prngReg c r) ∗ ((c : Thread nD τ).loc main_v7 ↦{fullShare.right} (V m 0 main_v7))))

/-! ## The body at a point -/

set_option maxHeartbeats 4000000 in
theorem sound_bodyV (c : Dev nD) (mono : ∀ b j k, j ≤ k → docs (ar6 m c) b j ≤ docs (ar6 m c) b k) (t : Fin grid0.N) (s : (w : Fin 9) → Fin (spec0 w).nbuf) (O : sProp 𝕄) (Z0 : (spec0_0.block.Idx → Elt Ideal spec0_0.elt) → (spec0_0.block.Idx → Elt Ideal spec0_0.elt)) (Z1 : (spec0_1.block.Idx → Elt Ideal spec0_1.elt) → (spec0_1.block.Idx → Elt Ideal spec0_1.elt)) (Z2 : (spec0_2.block.Idx → Elt Ideal spec0_2.elt) → (spec0_2.block.Idx → Elt Ideal spec0_2.elt)) (Z3 : (spec0_3.block.Idx → Elt Ideal spec0_3.elt) → (spec0_3.block.Idx → Elt Ideal spec0_3.elt)) (Z4 : (spec0_4.block.Idx → Elt Ideal spec0_4.elt) → (spec0_4.block.Idx → Elt Ideal spec0_4.elt)) (Z5 : (spec0_5.block.Idx → Elt Ideal spec0_5.elt) → (spec0_5.block.Idx → Elt Ideal spec0_5.elt)) (Z6 : (spec0_6.block.Idx → Elt Ideal spec0_6.elt) → (spec0_6.block.Idx → Elt Ideal spec0_6.elt)) (Z7 : (spec0_7.block.Idx → Elt Ideal spec0_7.elt) → (spec0_7.block.Idx → Elt Ideal spec0_7.elt)) (Z8 : (spec0_8.block.Idx → Elt Ideal spec0_8.elt) → (spec0_8.block.Idx → Elt Ideal spec0_8.elt)) (hZ0 : ∀ d, Z0 d = (iblk m c 0 t : (spec0_0.block.Idx → Elt Ideal spec0_0.elt))) (hZ1 : ∀ d, Z1 d = (iblk m c 1 t : (spec0_1.block.Idx → Elt Ideal spec0_1.elt))) (hZ2 : ∀ d, Z2 d = (iblk m c 2 t : (spec0_2.block.Idx → Elt Ideal spec0_2.elt))) (hZ3 : ∀ d, Z3 d = (iblk m c 3 t : (spec0_3.block.Idx → Elt Ideal spec0_3.elt))) (hZ4 : ∀ d, Z4 d = (iblk m c 4 t : (spec0_4.block.Idx → Elt Ideal spec0_4.elt))) (hZ5 : ∀ d, Z5 d = (iblk m c 5 t : (spec0_5.block.Idx → Elt Ideal spec0_5.elt))) (hZ6 : ∀ d, Z6 d = (iblk m c 6 t : (spec0_6.block.Idx → Elt Ideal spec0_6.elt))) :
    iprop(PhiS m c t.val ∗ O ∗ (∃ d : (spec0_0.block.Idx → Elt Ideal spec0_0.elt), owns (c : Thread nD τ) (spec0_0.stage (s 0)) fullShare (Z0 d)) ∗ (∃ d : (spec0_1.block.Idx → Elt Ideal spec0_1.elt), owns (c : Thread nD τ) (spec0_1.stage (s 1)) fullShare (Z1 d)) ∗ (∃ d : (spec0_2.block.Idx → Elt Ideal spec0_2.elt), owns (c : Thread nD τ) (spec0_2.stage (s 2)) fullShare (Z2 d)) ∗ (∃ d : (spec0_3.block.Idx → Elt Ideal spec0_3.elt), owns (c : Thread nD τ) (spec0_3.stage (s 3)) fullShare (Z3 d)) ∗ (∃ d : (spec0_4.block.Idx → Elt Ideal spec0_4.elt), owns (c : Thread nD τ) (spec0_4.stage (s 4)) fullShare (Z4 d)) ∗ (∃ d : (spec0_5.block.Idx → Elt Ideal spec0_5.elt), owns (c : Thread nD τ) (spec0_5.stage (s 5)) fullShare (Z5 d)) ∗ (∃ d : (spec0_6.block.Idx → Elt Ideal spec0_6.elt), owns (c : Thread nD τ) (spec0_6.stage (s 6)) fullShare (Z6 d)) ∗ (∃ d : (spec0_7.block.Idx → Elt Ideal spec0_7.elt), owns (c : Thread nD τ) (spec0_7.stage (s 7)) fullShare (Z7 d)) ∗ (∃ d : (spec0_8.block.Idx → Elt Ideal spec0_8.elt), owns (c : Thread nD τ) (spec0_8.stage (s 8)) fullShare (Z8 d)))
    ⊢ wp Idealize.ShloMosaic.frame (wpE (defs₀ (F := Ideal)) Variants.none c none) Set.univ (bodyAt t s) (fun _ =>
    iprop(PhiS m c (t.val + 1) ∗ O ∗ owns (c : Thread nD τ) (spec0_0.stage (s 0)) fullShare (iblk m c 0 t : (spec0_0.block.Idx → Elt Ideal spec0_0.elt)) ∗ owns (c : Thread nD τ) (spec0_1.stage (s 1)) fullShare (iblk m c 1 t : (spec0_1.block.Idx → Elt Ideal spec0_1.elt)) ∗ owns (c : Thread nD τ) (spec0_2.stage (s 2)) fullShare (iblk m c 2 t : (spec0_2.block.Idx → Elt Ideal spec0_2.elt)) ∗ owns (c : Thread nD τ) (spec0_3.stage (s 3)) fullShare (iblk m c 3 t : (spec0_3.block.Idx → Elt Ideal spec0_3.elt)) ∗ owns (c : Thread nD τ) (spec0_4.stage (s 4)) fullShare (iblk m c 4 t : (spec0_4.block.Idx → Elt Ideal spec0_4.elt)) ∗ owns (c : Thread nD τ) (spec0_5.stage (s 5)) fullShare (iblk m c 5 t : (spec0_5.block.Idx → Elt Ideal spec0_5.elt)) ∗ owns (c : Thread nD τ) (spec0_6.stage (s 6)) fullShare (iblk m c 6 t : (spec0_6.block.Idx → Elt Ideal spec0_6.elt)) ∗ owns (c : Thread nD τ) (spec0_7.stage (s 7)) fullShare (oblk7 m c t : (spec0_7.block.Idx → Elt Ideal spec0_7.elt)) ∗ owns (c : Thread nD τ) (spec0_8.stage (s 8)) fullShare (oblk8 m c t : (spec0_8.block.Idx → Elt Ideal spec0_8.elt)))) := by
  unfold bodyAt PhiS
  simp only [whole_pt]
  unfold owns
  iintro ⟨⟨⟨⟨%f0, %f1, %f2, %f3, %f4, %f5, %f6, S0, S1, S2, S3, S4, S5, S6, %hinv⟩, Hr⟩, HT⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩⟩
  iapply (sound_kernelV c fullShare.right (grid0.coords t) (Memref.whole main_v7) (Memref.isWhole_whole _) (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (spec0_6.stage (s 6)) (hstage0_6 ((s 6).cast nbuf0_6)) (spec0_7.stage (s 7)) (hstage0_7 ((s 7).cast nbuf0_7))
    (spec0_8.stage (s 8)) (hstage0_8 ((s 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (V m 0 main_v7) g0 g1 g2 g3 g4 g5 g6 g7 g8 f0 f1 f2 f3 f4 f5 f6 (V m 0 main_v7 (ix2 (bT t) (iT t))) (tbl_word m t) (tbl_le m 0 _) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨%g7', %g8', %f0', %f1', %f2', %f3', %f4', %f5', %f6', HT, H0, H1, H2, H3, H4, H5, H6, H7, H8, S0, S1, S2, S3, S4, S5, S6, %hpost⟩
  rw [e0, hZ0, e1, hZ1, e2, hZ2, e3, hZ3, e4, hZ4, e5, hZ5, e6, hZ6] at hpost
  obtain ⟨hn, h7, h8⟩ := point_step m c mono t _ _ _ _ _ _ _ _ _ _ hinv hpost
  isplitl [HT S0 S1 S2 S3 S4 S5 S6 Hr]
  · isplitr [HT]
    · isplitr [Hr]
      · iexists f0', f1', f2', f3', f4', f5', f6'
        isplitl [S0]; · iexact S0
        isplitl [S1]; · iexact S1
        isplitl [S2]; · iexact S2
        isplitl [S3]; · iexact S3
        isplitl [S4]; · iexact S4
        isplitl [S5]; · iexact S5
        isplitl [S6]; · iexact S6
        ipureintro; exact hn
      · iexact Hr
    · iexact HT
  isplitl [Ho]; · iexact Ho
  isplitl [H0]
  · iexists g0; isplitr; · ipureintro; exact e0.trans (hZ0 d0)
    iexact H0
  isplitl [H1]
  · iexists g1; isplitr; · ipureintro; exact e1.trans (hZ1 d1)
    iexact H1
  isplitl [H2]
  · iexists g2; isplitr; · ipureintro; exact e2.trans (hZ2 d2)
    iexact H2
  isplitl [H3]
  · iexists g3; isplitr; · ipureintro; exact e3.trans (hZ3 d3)
    iexact H3
  isplitl [H4]
  · iexists g4; isplitr; · ipureintro; exact e4.trans (hZ4 d4)
    iexact H4
  isplitl [H5]
  · iexists g5; isplitr; · ipureintro; exact e5.trans (hZ5 d5)
    iexact H5
  isplitl [H6]
  · iexists g6; isplitr; · ipureintro; exact e6.trans (hZ6 d6)
    iexact H6
  isplitl [H7]
  · iexists g7'; isplitr; · ipureintro; exact h7
    iexact H7
  iexists g8'; isplitr; · ipureintro; exact h8
  iexact H8

end Cert.KernelIdeal.Hand

end

end
-- ==== Proof.KernelIdealRun.lean ====
module

public import proofs.«01_k».proof.Proof.KernelIdealPoint
public import Idealize.ShloMosaic.Lib.Pipeline.Value

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-! ## The region's data -/

/-- The data: each input's buffer at its block, each output's at its block of the result. -/
def datK (c : Dev nD) : Dat τ (Elt Ideal) Unit ℕ (UR sig nD τ) ℕ (Pipeline.pin (pcfgs (F := Ideal)) (fun _ => adm m) 0) c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oblk7 m c t
    | ⟨8, _⟩ => oblk8 m c t
  Φ t := PhiS m c t.val
  q _ := fullShare
  owed _ := 0

theorem A_eqK (c : Dev nD) (w : Fin 9) : (datK m c).A w = V m c (arrRef spec0 w) := by dsimp only [datK]
theorem afterK_0 (c : Dev nD) (t : Fin (cfgM m).N) : (datK m c).after 0 t = iblk m c 0 t := rfl
theorem afterK_1 (c : Dev nD) (t : Fin (cfgM m).N) : (datK m c).after 1 t = iblk m c 1 t := rfl
theorem afterK_2 (c : Dev nD) (t : Fin (cfgM m).N) : (datK m c).after 2 t = iblk m c 2 t := rfl
theorem afterK_3 (c : Dev nD) (t : Fin (cfgM m).N) : (datK m c).after 3 t = iblk m c 3 t := rfl
theorem afterK_4 (c : Dev nD) (t : Fin (cfgM m).N) : (datK m c).after 4 t = iblk m c 4 t := rfl
theorem afterK_5 (c : Dev nD) (t : Fin (cfgM m).N) : (datK m c).after 5 t = iblk m c 5 t := rfl
theorem afterK_6 (c : Dev nD) (t : Fin (cfgM m).N) : (datK m c).after 6 t = iblk m c 6 t := rfl
theorem afterK_7 (c : Dev nD) (t : Fin (cfgM m).N) : (datK m c).after 7 t = oblk7 m c t := rfl
theorem afterK_8 (c : Dev nD) (t : Fin (cfgM m).N) : (datK m c).after 8 t = oblk8 m c t := rfl
theorem beforeK_0 (c : Dev nD) (t : Fin (cfgM m).N) (d) : (datK m c).before 0 t d = iblk m c 0 t :=
  ((datK m c).before_in_eq_fetched 0 rfl (fun _ => rfl) (fun _ _ _ => rfl) (fun t => by rw [afterK_0]; unfold Dat.blockOf iblk; rw [A_eqK]; try rfl) t d).trans
    (by unfold Dat.fetched Dat.blockOf iblk; rw [A_eqK]; try rfl)
theorem beforeK_1 (c : Dev nD) (t : Fin (cfgM m).N) (d) : (datK m c).before 1 t d = iblk m c 1 t :=
  ((datK m c).before_in_eq_fetched 1 rfl (fun _ => rfl) (fun _ _ _ => rfl) (fun t => by rw [afterK_1]; unfold Dat.blockOf iblk; rw [A_eqK]; try rfl) t d).trans
    (by unfold Dat.fetched Dat.blockOf iblk; rw [A_eqK]; try rfl)
theorem beforeK_2 (c : Dev nD) (t : Fin (cfgM m).N) (d) : (datK m c).before 2 t d = iblk m c 2 t :=
  ((datK m c).before_in_eq_fetched 2 rfl (fun _ => rfl) (fun _ _ _ => rfl) (fun t => by rw [afterK_2]; unfold Dat.blockOf iblk; rw [A_eqK]; try rfl) t d).trans
    (by unfold Dat.fetched Dat.blockOf iblk; rw [A_eqK]; try rfl)
theorem beforeK_3 (c : Dev nD) (t : Fin (cfgM m).N) (d) : (datK m c).before 3 t d = iblk m c 3 t :=
  ((datK m c).before_in_eq_fetched 3 rfl (fun _ => rfl) (fun _ _ _ => rfl) (fun t => by rw [afterK_3]; unfold Dat.blockOf iblk; rw [A_eqK]; try rfl) t d).trans
    (by unfold Dat.fetched Dat.blockOf iblk; rw [A_eqK]; try rfl)
theorem beforeK_4 (c : Dev nD) (t : Fin (cfgM m).N) (d) : (datK m c).before 4 t d = iblk m c 4 t :=
  ((datK m c).before_in_eq_fetched 4 rfl (fun _ => rfl) (fun _ _ _ => rfl) (fun t => by rw [afterK_4]; unfold Dat.blockOf iblk; rw [A_eqK]; try rfl) t d).trans
    (by unfold Dat.fetched Dat.blockOf iblk; rw [A_eqK]; try rfl)
theorem beforeK_5 (c : Dev nD) (t : Fin (cfgM m).N) (d) : (datK m c).before 5 t d = iblk m c 5 t :=
  ((datK m c).before_in_eq_fetched 5 rfl (fun _ => rfl) (fun _ _ _ => rfl) (fun t => by rw [afterK_5]; unfold Dat.blockOf iblk; rw [A_eqK]; try rfl) t d).trans
    (by unfold Dat.fetched Dat.blockOf iblk; rw [A_eqK]; try rfl)
theorem beforeK_6 (c : Dev nD) (t : Fin (cfgM m).N) (d) : (datK m c).before 6 t d = iblk m c 6 t :=
  ((datK m c).before_in_eq_fetched 6 rfl (fun _ => rfl) (fun _ _ _ => rfl) (fun t => by rw [afterK_6]; unfold Dat.blockOf iblk; rw [A_eqK]; try rfl) t d).trans
    (by unfold Dat.fetched Dat.blockOf iblk; rw [A_eqK]; try rfl)

theorem PhiK_castSucc (c : Dev nD) (t : Fin (cfgM m).N) : (datK m c).Φ t.castSucc = PhiS m c t.val := by
  dsimp only [datK]; exact Dat.Φ_castSucc (fun n _ => PhiS m c n) t
theorem PhiK_succ (c : Dev nD) (t : Fin (cfgM m).N) : (datK m c).Φ t.succ = PhiS m c (t.val + 1) := by
  dsimp only [datK]; exact congrArg (PhiS m c) (Fin.val_succ t)

set_option maxHeartbeats 4000000 in
theorem body_obligationV (c : Dev nD) (mono : ∀ b j k, j ≤ k → docs (ar6 m c) b j ≤ docs (ar6 m c) b k) :
    BodyObligation (datK m c) (defs₀ (F := Ideal)) Variants.none () Set.univ := fun t => by
  rw [bigSep_W0, bigSep_W0, defs₀_row m t]
  rw [PhiK_castSucc, PhiK_succ,
    show (datK m c).owesAt () t.succ = (datK m c).owesAt () t.castSucc from rfl]
  exact triple_restated (sound_bodyV m c mono t ((cfgM m).slots t) ((datK m c).owesAt () t.castSucc) ((datK m c).before 0 t) ((datK m c).before 1 t) ((datK m c).before 2 t) ((datK m c).before 3 t) ((datK m c).before 4 t) ((datK m c).before 5 t) ((datK m c).before 6 t) ((datK m c).before 7 t) ((datK m c).before 8 t) (beforeK_0 m c t) (beforeK_1 m c t) (beforeK_2 m c t) (beforeK_3 m c t) (beforeK_4 m c t) (beforeK_5 m c t) (beforeK_6 m c t)) rfl .rfl fun _ => .rfl

/-! ## The run -/

theorem cut7 (c : Dev nD) (t : Fin (cfgM m).N) : (datK m c).flushed 7 t = (((cfgM m).win 7).blk t).view.read (Elt Ideal) (G10 m c) := by
  show ((cfgM m).win 7).cut (grid0.coords t) ((datK m c).after 7 t) = _
  rw [afterK_7]
  funext j
  show oblk7 m c t j = G10 m c ((((cfgM m).win 7).blk t).view.emb j)
  exact congrArg (G10 m c) (emb7 m t j).symm

theorem cut8 (c : Dev nD) (t : Fin (cfgM m).N) : (datK m c).flushed 8 t = (((cfgM m).win 8).blk t).view.read (Elt Ideal) (G11 m c) := by
  show ((cfgM m).win 8).cut (grid0.coords t) ((datK m c).after 8 t) = _
  rw [afterK_8]
  funext j
  show oblk8 m c t j = G11 m c ((((cfgM m).win 8).blk t).view.emb j)
  exact congrArg (G11 m c) (emb8 m t j).symm

theorem entryK (c : Dev nD) : iprop(ΦA spec0 c ∗ ΦT pre0 (tbl m) c) ⊢ PhiS m c 0 := by
  show iprop((scopedRest spec0 c ∗ ∃ r, prngReg c r) ∗ ΦT pre0 (tbl m) c) ⊢ _
  rw [PhiT_eq, scopedRest0_eq]
  unfold PhiS
  iintro ⟨⟨⟨⟨%f0, S0⟩, ⟨%f1, S1⟩, ⟨%f2, S2⟩, ⟨%f3, S3⟩, ⟨%f4, S4⟩, ⟨%f5, S5⟩, ⟨%f6, S6⟩⟩, Hr⟩, HT⟩
  isplitr [HT]
  · isplitr [Hr]
    · iexists f0, f1, f2, f3, f4, f5, f6
      isplitl [S0]; · iexact S0
      isplitl [S1]; · iexact S1
      isplitl [S2]; · iexact S2
      isplitl [S3]; · iexact S3
      isplitl [S4]; · iexact S4
      isplitl [S5]; · iexact S5
      isplitl [S6]; · iexact S6
      ipureintro; exact invN_zero m c _ _ _ _
    · iexact Hr
  · iexact HT

theorem exitK (c : Dev nD) (n : ℕ) : PhiS m c n ⊢ ΦA spec0 c := by
  show _ ⊢ iprop(scopedRest spec0 c ∗ ∃ r, prngReg c r)
  rw [scopedRest0_eq]
  unfold PhiS
  iintro ⟨⟨⟨%f0, %f1, %f2, %f3, %f4, %f5, %f6, S0, S1, S2, S3, S4, S5, S6, %hinv⟩, Hr⟩, HT⟩
  isplitr [Hr]
  · isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    iexists f6; iexact S6
  · iexact Hr

set_option backward.isDefEq.respectTransparency.types false in
set_option maxHeartbeats 800000 in
theorem run_mainV (mono : ∀ c b j k, j ≤ k → docs (ar6 m c) b j ≤ docs (ar6 m c) b k) : θ_run defs (onTc (τ := τ) (main (F := Ideal))) (s₀ m ρ)
    (FramePost (Pipeline.pin (pcfgs (F := Ideal)) (fun _ => adm m)) (fun _ => datK m) 0 (V m)) :=
  θ_run_frameP_track (Q' := _) pcfgs (fun _ => adm m) (fun _ => datK m) (0 : Fin 1) launch0 defs₀ Variants.none m ρ main
    (hbody := fun c => (body_obligationV m c (mono c)).loose) (hshare := fun c w => by unfold Dat.share; split <;> rfl)
    (howed := fun _ _ => rfl) (V := V m) (hmain := hmain m) (hA := A_eqK m) (hpf := V_pre m) (hin := entryK m) (hout := fun c => exitK m c _)

/-- The program ends with its results at the codes and the scales of the attention rows, its arguments unchanged. -/
theorem run (mono : ∀ c b j k, j ≤ k → docs (ar6 m c) b j ≤ docs (ar6 m c) b k) : θ_run defs (onTc (τ := τ) (main (F := Ideal))) ⟨m, fun _ => 0, ρ⟩ (fun r => ∀ c : Dev nD,
      r.2.mem ((c.tc : Thread nD τ).loc main_v12_0) = G10 m c
      ∧ r.2.mem ((c.tc : Thread nD τ).loc main_v12_1) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    ((h c).1 7).trans ((datK m c).arrAt_eq_of_cover 7 (G10 m c) (fun t _ => cut7 m c t) (covered7 m)),
    ((h c).1 8).trans ((datK m c).arrAt_eq_of_cover 8 (G11 m c) (fun t _ => cut8 m c t) (covered8 m)),
    ((h c).1 0).trans (((datK m c).arrAt_in 0 rfl _).trans ((A_eqK m c 0).trans (V_arg m c main_arg0 (by simp)))),
    ((h c).2 main_arg1 (mem_restRefs_of (win := spec0) _ rfl (by decide))).trans (V_arg m c main_arg1 (by simp)),
    ((h c).1 5).trans (((datK m c).arrAt_in 5 rfl _).trans ((A_eqK m c 5).trans (V_arg m c main_arg2 (by simp)))),
    ((h c).1 6).trans (((datK m c).arrAt_in 6 rfl _).trans ((A_eqK m c 6).trans (V_arg m c main_arg3 (by simp)))),
    ((h c).2 main_arg4 (mem_restRefs_of (win := spec0) _ rfl (by decide))).trans (V_arg m c main_arg4 (by simp)),
    ((h c).2 main_arg5 (mem_restRefs_of (win := spec0) _ rfl (by decide))).trans (V_arg m c main_arg5 (by simp)),
    ((h c).2 main_arg6 (mem_restRefs_of (win := spec0) _ rfl (by decide))).trans (V_arg m c main_arg6 (by simp))⟩) (run_mainV m ρ mono)

end Cert.KernelIdeal.Hand

end

end
-- ==== Proof.KernelIdealScale.lean ====
module

public import proofs.«01_k».proof.Proof.KernelIdealTable
public import proofs.«01_k».proof.Proof.KernelIdealQuant
public import proofs.«01_k».proof.Proof.Rows

@[expose] public section

set_option maxRecDepth 16384
set_option maxHeartbeats 4000000

noncomputable section

namespace Cert.KernelIdeal.Hand

open Cert.KernelIdeal Cert.KernelIdeal.Gen Cert.Rows
open Idealize.ShloMosaic Idealize.ShloMosaic.TcCoe

/-! ## The quantiser -/

/-- A word with only its exponent field set is a power of two. -/
theorem pow_bits (k : ℕ) (h1 : 1 ≤ k) (h2 : k ≤ 254) :
    Ideal.ofBits .f32 (IntOp.shli .vector (BitVec.ofNat 32 k) 23#32) = (((2 : ℝ) ^ ((k : ℤ) - 127) : ℝ) : EReal) := by
  have hs : IntOp.shli .vector (BitVec.ofNat 32 k) 23#32 = BitVec.ofNat 32 (k * 8388608) := by
    show (if (23#32 : BitVec 32).toNat < 32 then BitVec.ofNat 32 k <<< (23#32 : BitVec 32) else _) = _
    rw [if_pos (by decide)]
    apply BitVec.eq_of_toNat_eq
    simp [Nat.shiftLeft_eq]
  rw [hs]
  show Ideal.ieee 8 23 (BitVec.ofNat 32 (k * 8388608)) = _
  have e1 : (BitVec.extractLsb' 23 8 (BitVec.ofNat 32 (k * 8388608))).toNat = k := by
    rw [BitVec.extractLsb'_toNat, BitVec.toNat_ofNat, Nat.shiftRight_eq_div_pow]; omega
  have e2 : (BitVec.extractLsb' 0 23 (BitVec.ofNat 32 (k * 8388608))).toNat = 0 := by
    rw [BitVec.extractLsb'_toNat, BitVec.toNat_ofNat, Nat.shiftRight_eq_div_pow]; omega
  have e3 : (BitVec.extractLsb' (8 + 23) 1 (BitVec.ofNat 32 (k * 8388608)) == 1#1) = false := by
    rw [beq_eq_false_iff_ne]
    intro h
    have := congrArg BitVec.toNat h
    rw [BitVec.extractLsb'_toNat, BitVec.toNat_ofNat, Nat.shiftRight_eq_div_pow] at this
    simp at this
    omega
  unfold Ideal.ieee
  simp only [e1, e2, e3]
  rw [if_neg (by norm_num; omega), if_neg (by omega)]
  congr 1
  rw [show ((k : ℤ) - 127 : ℤ) = 23 + ((k : ℤ) - (2 ^ (8 - 1) - 1) - (23 : ℕ)) by norm_num, zpow_add₀ (by norm_num)]
  norm_num

/-- A normal word's value, from its fields. -/
theorem bits_val (b : BitVec 32) (ex fr : ℕ) (neg : Bool) (h1 : (b.extractLsb' 23 8).toNat = ex) (h2 : (b.extractLsb' 0 23).toNat = fr) (h3 : (b.extractLsb' (8 + 23) 1 == 1#1) = neg)
    (h4 : ex ≠ 255) (h5 : ex ≠ 0) : Ideal.ofBits .f32 b = (((if neg then -1 else 1) * ((2 ^ 23 + fr : ℕ) : ℝ) * (2 : ℝ) ^ ((ex : ℤ) - 127 - 23) : ℝ) : EReal) := by
  show Ideal.ieee 8 23 b = _
  unfold Ideal.ieee
  simp only [h1, h2, h3]
  rw [if_neg (by norm_num; exact h4), if_neg h5]
  norm_num

theorem bits_scale : ∃ c : ℝ, 0 < c ∧ Ideal.ofBits .f32 991054117#32 = (c : EReal) :=
  ⟨_, by norm_num, bits_val _ 118 1198373 false (by decide) (by decide) (by decide) (by decide) (by decide)⟩

theorem bits_hi : Ideal.ofBits .f32 1123811328#32 = ((126 : ℝ) : EReal) :=
  (bits_val _ 133 8126464 false (by decide) (by decide) (by decide) (by decide) (by decide)).trans (congrArg _ (by norm_num))

theorem bits_lo : Ideal.ofBits .f32 3271294976#32 = ((-126 : ℝ) : EReal) :=
  (bits_val _ 133 8126464 true (by decide) (by decide) (by decide) (by decide) (by decide)).trans (congrArg _ (by norm_num))

theorem bits_two : Ideal.ofBits .f32 1073741824#32 = ((2 : ℝ) : EReal) :=
  (bits_val _ 128 0 false (by decide) (by decide) (by decide) (by decide) (by decide)).trans (congrArg _ (by norm_num))

theorem card_upto : ∀ M : Fin 253, (Finset.univ.filter fun j : Fin 256 => 1 ≤ j.val ∧ j.val ≤ M.val).card = M.val := by decide +kernel

theorem range_word : ∀ j : Fin 256, IntOp.andi (IntOp.cmpi .sgt (BitVec.ofNat 32 j.val) 0#32) (IntOp.cmpi .slt (BitVec.ofNat 32 j.val) 253#32) = BitVec.ofBool (decide (1 ≤ j.val ∧ j.val ≤ 252)) := by decide +kernel

/-- The count of the powers of two up to `t`. -/
theorem count_eq (t : EReal) (M : ℕ) (hM : M ≤ 252) (h : ∀ j : ℕ, 1 ≤ j → j ≤ 252 → (((((2 : ℝ) ^ ((j : ℤ) - 127) : ℝ) : EReal) ≤ t) ↔ j ≤ M)) :
    Finset.fold IntOp.addi 0#32 (fun j : Fin 256 => Scalar.select (IntOp.andi (IntOp.andi (IntOp.cmpi .sgt (BitVec.ofNat 32 j.val) 0#32) (IntOp.cmpi .slt (BitVec.ofNat 32 j.val) 253#32))
      (BitVec.ofBool (decide (Ideal.ofBits .f32 (IntOp.shli .vector (BitVec.ofNat 32 j.val) 23#32) ≤ t)))) 1#32 0#32) Finset.univ = BitVec.ofNat 32 M := by
  rw [fold_addi _ _ (fun j : Fin 256 => 1 ≤ j.val ∧ j.val ≤ M) fun j => ?_]
  · exact congrArg _ (card_upto ⟨M, by omega⟩)
  rw [range_word]
  by_cases hj : 1 ≤ j.val ∧ j.val ≤ 252
  · rw [pow_bits _ hj.1 (by omega), decide_eq_true hj]
    have := h j.val hj.1 hj.2
    by_cases hm : j.val ≤ M
    · rw [decide_eq_true (this.2 hm), if_pos ⟨hj.1, hm⟩]; rfl
    · rw [decide_eq_false (fun hh => hm (this.1 hh)), if_neg (fun hh => hm hh.2)]; rfl
  · rw [decide_eq_false hj, if_neg (fun hh => hj ⟨hh.1, by omega⟩)]
    cases decide (Ideal.ofBits .f32 (IntOp.shli .vector (BitVec.ofNat 32 j.val) 23#32) ≤ t) <;> rfl

theorem ramax_nonneg (x : Fin 4096 → EReal) : 0 ≤ ramax x := by
  have h : max (x 0) (-x 0) ≤ ramax x := Finset.le_sup (f := fun j => max (x j) (-x j)) (Finset.mem_univ 0)
  refine le_trans ?_ h
  rcases le_total 0 (x 0) with h0 | h0
  · exact le_max_of_le_left h0
  · exact le_max_of_le_right (by simpa using EReal.neg_le_neg_iff.2 h0)

/-- The exponent is a whole number, the same both ways. -/
theorem exp_both (x : Fin 4096 → EReal) : ∃ M : ℕ, M ≤ 252 ∧ kexp x = IntOp.subi (BitVec.ofNat 32 M) 126#32 ∧ rexp x = (((M : ℝ) - 126 : ℝ) : EReal) := by
  have h0 := ramax_nonneg x
  have hk : kexp x = if ramax x = 0 then 0#32 else
      IntOp.subi (Finset.fold IntOp.addi 0#32 (fun j : Fin 256 => Scalar.select (IntOp.andi (IntOp.andi (IntOp.cmpi .sgt (BitVec.ofNat 32 j.val) 0#32) (IntOp.cmpi .slt (BitVec.ofNat 32 j.val) 253#32))
      (BitVec.ofBool (decide (Ideal.ofBits .f32 (IntOp.shli .vector (BitVec.ofNat 32 j.val) 23#32) ≤ ramax x * Ideal.ofBits .f32 991054117#32)))) 1#32 0#32) Finset.univ) 126#32 := rfl
  rw [hk]
  unfold rexp
  generalize ramax x = a at h0
  by_cases ha : a = 0
  · exact ⟨126, by norm_num, by rw [if_pos ha]; rfl, by rw [if_pos ha]; norm_num⟩
  rw [if_neg ha, if_neg ha, bits_hi, bits_lo, bits_two]
  obtain ⟨c, hc, hcb⟩ := bits_scale
  rw [hcb]
  have hl2 : 0 < Real.log 2 := Real.log_pos (by norm_num)
  have hlog2 : Ideal.log ((2 : ℝ) : EReal) = ((Real.log 2 : ℝ) : EReal) := if_neg (by norm_num)
  have hne : ((Real.log 2 : ℝ) : EReal) ≠ 0 := by
    intro h; exact hl2.ne' (by exact_mod_cast h)
  rw [hlog2]
  unfold Ideal.div
  rw [if_neg hne, ← EReal.coe_inv]
  induction a with
  | bot => exact absurd h0 (by simp)
  | top =>
    refine ⟨252, le_refl _, ?_, ?_⟩
    · rw [count_eq _ 252 le_rfl]
      intro j h1 h2
      rw [EReal.top_mul_coe_of_pos hc]
      simp [h2]
    · rw [EReal.top_mul_coe_of_pos hc]
      show min _ (max _ (Ideal.liftRound Int.floor (⊤ * _) + 1)) = _
      rw [EReal.top_mul_coe_of_pos (inv_pos.2 hl2)]
      show min _ (max _ ((⊤ : EReal) + 1)) = _
      rw [show (⊤ : EReal) + 1 = ⊤ from EReal.top_add_coe 1, max_eq_right le_top, min_eq_left le_top]
      congr 1
      norm_num
  | coe r =>
    have hr : 0 < r := lt_of_le_of_ne (by exact_mod_cast h0) (fun h => ha (by rw [← h]; rfl))
    rw [← EReal.coe_mul]
    set t : ℝ := r * c with ht
    have htp : 0 < t := mul_pos hr hc
    have hlt : Ideal.log (t : EReal) = ((Real.log t : ℝ) : EReal) := if_neg (not_le.2 htp)
    rw [hlt, ← EReal.coe_mul]
    have hlr : Ideal.liftRound Int.floor ((Real.log t * (Real.log 2)⁻¹ : ℝ) : EReal) = (((⌊Real.log t * (Real.log 2)⁻¹⌋ : ℤ) : ℝ) : EReal) := rfl
    have hle : ∀ z : ℤ, (2 : ℝ) ^ z ≤ t ↔ z ≤ ⌊Real.log t * (Real.log 2)⁻¹⌋ := fun z => by
      rw [Int.le_floor, le_mul_inv_iff₀ hl2, ← Real.log_zpow, Real.log_le_log_iff (by positivity) htp]
    rw [hlr]
    generalize ⌊Real.log t * (Real.log 2)⁻¹⌋ = f at hle
    refine ⟨(min 252 (f + 127)).toNat, by omega, ?_, ?_⟩
    · rw [count_eq _ (min 252 (f + 127)).toNat (by omega)]
      intro j h1 h2
      rw [EReal.coe_le_coe_iff]
      refine (hle _).trans ?_
      omega
    · have hmono : Monotone (fun z : ℤ => (((z : ℝ)) : EReal)) := fun a b h => by
        show ((a : ℝ) : EReal) ≤ ((b : ℝ) : EReal)
        exact_mod_cast h
      have e1 : ((((f : ℤ) : ℝ) : EReal) + 1) = (((f + 1 : ℤ) : ℝ) : EReal) := by push_cast; rfl
      have e2 : ((-126 : ℝ) : EReal) = (((-126 : ℤ) : ℝ) : EReal) := by norm_num
      have e3 : ((126 : ℝ) : EReal) = (((126 : ℤ) : ℝ) : EReal) := by norm_num
      rw [e1, e2, e3]
      have hx : ∀ a b : ℤ, max (((a : ℝ)) : EReal) (((b : ℝ)) : EReal) = (((max a b : ℤ) : ℝ) : EReal) := fun a b => (hmono.map_max).symm
      have hn : ∀ a b : ℤ, min (((a : ℝ)) : EReal) (((b : ℝ)) : EReal) = (((min a b : ℤ) : ℝ) : EReal) := fun a b => (hmono.map_min).symm
      rw [hx, hn]
      congr 1
      have : min 126 (max (-126) (f + 1)) = ((min 252 (f + 127)).toNat : ℤ) - 126 := by omega
      rw [this]
      push_cast
      rfl

theorem exp2_int (e : ℤ) : Ideal.exp2 (((e : ℝ)) : EReal) = (((2 : ℝ) ^ e : ℝ) : EReal) := by
  show ((Real.rpow 2 (e : ℝ) : ℝ) : EReal) = _
  congr 1
  exact Real.rpow_intCast 2 e

/-- The kernel's scale is the power of two of the exponent. -/
theorem kscale_eq (x : Fin 4096 → EReal) : kscale x = Ideal.exp2 (rexp x) := by
  obtain ⟨M, hM, h1, h2⟩ := exp_both x
  unfold kscale
  rw [h1, h2]
  have : IntOp.addi (IntOp.subi (BitVec.ofNat 32 M) 126#32) 127#32 = BitVec.ofNat 32 (M + 1) := by
    show BitVec.ofNat 32 M - 126#32 + 127#32 = _
    apply BitVec.eq_of_toNat_eq
    simp
    omega
  rw [this, pow_bits _ (by omega) (by omega), show ((M : ℝ) - 126 : ℝ) = (((M : ℤ) - 126 : ℤ) : ℝ) by push_cast; rfl, exp2_int]
  congr 2
  push_cast
  ring

/-- The kernel's code is the scaled value, clamped. -/
theorem kcode_eq (x : Fin 4096 → EReal) (y : EReal) :
    kcode x y = min (Ideal.ofBits .f32 1138753536#32) (max (Ideal.ofBits .f32 3286237184#32) (y * Ideal.exp2 (0 - rexp x))) := by
  obtain ⟨M, hM, h1, h2⟩ := exp_both x
  unfold kcode
  rw [h1, h2]
  have : IntOp.subi 127#32 (IntOp.subi (BitVec.ofNat 32 M) 126#32) = BitVec.ofNat 32 (253 - M) := by
    show 127#32 - (BitVec.ofNat 32 M - 126#32) = _
    apply BitVec.eq_of_toNat_eq
    simp
    omega
  rw [this, pow_bits _ (by omega) (by omega), show (0 : EReal) - (((M : ℝ) - 126 : ℝ) : EReal) = ((((126 : ℤ) - (M : ℤ) : ℤ) : ℝ) : EReal) by
    rw [zero_sub, ← EReal.coe_neg]; congr 1; push_cast; ring, exp2_int,
    show (((253 - M : ℕ) : ℤ) - 127) = (126 : ℤ) - (M : ℤ) by omega]

end Cert.KernelIdeal.Hand

end

end
-- ==== Proof.ReferenceIdealRead.lean ====
module

public import proofs.«01_k».proof.Proof.ReferenceIdealRun
public import proofs.«01_k».proof.Proof.Rows
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.Rows
open Idealize.ShloMosaic

section
variable {F : FTy → Type} [FloatOps F] [Named F]

/-- A row's exponent from the output. -/
def expOf (O : FVec F S8x4096x4096 .f32) : FVec F S8x4096x1 .f32 :=
  have v63 : FVec F S8x4096x4096 .f32 := absf O
  have v64 : FVec F S8x4096 .f32 := multiReduction .maximumf [2] S8x4096 v63 0xFF800000#32 reduces_S8x4096x4096_S8x4096 (.inl rfl) rfl
  have v65 : FVec F S8x4096x1 .f32 := shapeCast S8x4096x1 v64 shapeCasts_S8x4096_S8x4096x1
  have cst_26 : F .f32 := Scalar.ofBits .f32 0x3B124925#32
  have v66 : FVec F S8x4096x1 .f32 := broadcast S8x4096x1 cst_26
  have v67 : FVec F S8x4096x1 .f32 := mulf v65 v66
  have v68 : FVec F S8x4096x1 .f32 := log v67
  have cst_27 : F .f32 := Scalar.ofBits .f32 0x40000000#32
  have v69 : FVec F S8x4096x1 .f32 := broadcast S8x4096x1 cst_27
  have v70 : FVec F S8x4096x1 .f32 := log v69
  have v71 : FVec F S8x4096x1 .f32 := divf v68 v70
  have v72 : FVec F S8x4096x1 .f32 := floor v71
  have cst_28 : F .f32 := Scalar.ofBits .f32 0x3F800000#32
  have v73 : FVec F S8x4096x1 .f32 := broadcast S8x4096x1 cst_28
  have v74 : FVec F S8x4096x1 .f32 := addf v72 v73
  have cst_29 : F .f32 := Scalar.ofBits .f32 0x00000000#32
  have v75 : FVec F S8x4096x1 .f32 := broadcast S8x4096x1 cst_29
  have v76 : IVec S8x4096x1 1 := cmpf .oeq v65 v75
  have cst_30 : F .f32 := Scalar.ofBits .f32 0xC2FC0000#32
  have cst_31 : F .f32 := Scalar.ofBits .f32 0x42FC0000#32
  have v77 : FVec F S8x4096x1 .f32 := broadcast S8x4096x1 cst_30
  have v78 : FVec F S8x4096x1 .f32 := maximumf v77 v74
  have v79 : FVec F S8x4096x1 .f32 := broadcast S8x4096x1 cst_31
  have v80 : FVec F S8x4096x1 .f32 := minimumf v79 v78
  have cst_32 : F .f32 := Scalar.ofBits .f32 0x00000000#32
  have v81 : FVec F S8x4096x1 .f32 := broadcast S8x4096x1 cst_32
  have v82 : FVec F S8x4096x1 .f32 := select v76 v81 v80
  v82

theorem pay9_eq (v12 : FVec F S256x4096x128 .bf16) (v18 v21 : FVec F S256x1x4096 .f32) (v35 : IVec S256x4096x4096 1) (v38 : FVec F S256x4096x4096 .f32) :
    k0_pay9 v12 v18 v21 v35 v38 = expOf (k0_pay8 v12 v18 v21 v35 v38) := rfl

end

theorem neg_bits : Ideal.ofBits .f32 4286578688#32 = ⊥ := by
  simp [Ideal.ofBits, Ideal.ieee]

theorem mask_at (x : Vec Ideal S8x4096 .i32) (b : Fin 8) (h : Fin 32) (q n : Fin 4096) :
    k0_pay6 (F := Ideal) x (ix3 (⟨b.val * 32 + h.val, by omega⟩ : Fin 256) q n)
      = IntOp.andi (IntOp.cmpi .sle (BitVec.ofNat 32 n.val) (BitVec.ofNat 32 q.val)) (IntOp.cmpi .eq (x (ix2 b n)) (x (ix2 b q))) := by
  rw [show (⟨b.val * 32 + h.val, by omega⟩ : Fin 256) = ⟨32 * b.val + h.val, by omega⟩ from Fin.ext (by show b.val * 32 + h.val = 32 * b.val + h.val; omega)]
  pointwise [k0_pay6]

theorem scores_at (x y : Vec Ideal S8x4096x4096 .fp8e4m3) (xs : Vec Ideal S8x4096x32 .f32) (b : Fin 8) (h : Fin 32) (q n : Fin 4096) :
    k0_pay7 x y xs (ix3 (⟨b.val * 32 + h.val, by omega⟩ : Fin 256) q n)
      = (∑ d : Fin 128, x (ix3 b q (hcol h d)) * y (ix3 b n (hcol h d))) * xs (ix3 b q h) := by
  rw [show (⟨b.val * 32 + h.val, by omega⟩ : Fin 256) = ⟨32 * b.val + h.val, by omega⟩ from Fin.ext (by show b.val * 32 + h.val = 32 * b.val + h.val; omega)]
  have hc : ∀ d : Fin 128, hcol h d = ⟨h.val * 128 + d.val, by omega⟩ := fun d => Fin.ext (by show 128 * h.val + d.val = h.val * 128 + d.val; omega)
  simp only [hc]
  pointwise [k0_pay7]

theorem values_at (x : Vec Ideal S8x4096x4096 .fp8e4m3) (b : Fin 8) (h : Fin 32) (n : Fin 4096) (d : Fin 128) :
    k0_pay3 x (ix3 (⟨b.val * 32 + h.val, by omega⟩ : Fin 256) n d) = x (ix3 b n (hcol h d)) := by
  rw [show (⟨b.val * 32 + h.val, by omega⟩ : Fin 256) = ⟨32 * b.val + h.val, by omega⟩ from Fin.ext (by show b.val * 32 + h.val = 32 * b.val + h.val; omega),
    show hcol h d = ⟨h.val * 128 + d.val, by omega⟩ from Fin.ext (by show 128 * h.val + d.val = h.val * 128 + d.val; omega)]
  pointwise [k0_pay3]

theorem kscale_at (x : Vec Ideal S8x4096x32 .f32) (b : Fin 8) (h : Fin 32) (n : Fin 4096) :
    k0_pay4 x (ix3 (⟨b.val * 32 + h.val, by omega⟩ : Fin 256) 0 n) = x (ix3 b n h) := by
  rw [show (⟨b.val * 32 + h.val, by omega⟩ : Fin 256) = ⟨32 * b.val + h.val, by omega⟩ from Fin.ext (by show b.val * 32 + h.val = 32 * b.val + h.val; omega)]
  pointwise [k0_pay4]

theorem vscale_at (x : Vec Ideal S8x4096x32 .f32) (b : Fin 8) (h : Fin 32) (n : Fin 4096) :
    k0_pay5 x (ix3 (⟨b.val * 32 + h.val, by omega⟩ : Fin 256) 0 n) = x (ix3 b n h) := by
  rw [show (⟨b.val * 32 + h.val, by omega⟩ : Fin 256) = ⟨32 * b.val + h.val, by omega⟩ from Fin.ext (by show b.val * 32 + h.val = 32 * b.val + h.val; omega)]
  pointwise [k0_pay5]

theorem sel_mask (q n : Fin 4096) (x y : BitVec 32) (s : EReal) :
    Scalar.select (IntOp.andi (IntOp.cmpi .sle (BitVec.ofNat 32 n.val) (BitVec.ofNat 32 q.val)) (IntOp.cmpi .eq x y)) s (⊥ : EReal)
      = if n.val ≤ q.val ∧ x = y then s else ⊥ := by
  have h1 : IntOp.cmpi .sle (BitVec.ofNat 32 n.val) (BitVec.ofNat 32 q.val) = BitVec.ofBool (decide (n.val ≤ q.val)) := by
    show BitVec.ofBool (BitVec.sle _ _) = _
    congr 1
    have e : ∀ k : Fin 4096, (BitVec.ofNat 32 k.val).toInt = k.val := fun k => by
      have h1 : (BitVec.ofNat 32 k.val).toNat = k.val := by rw [BitVec.toNat_ofNat]; have := k.isLt; omega
      rw [BitVec.toInt_eq_toNat_of_lt (by rw [h1]; have := k.isLt; omega), h1]
    rw [BitVec.sle_eq_decide, e, e]
    simp
  have h2 : IntOp.cmpi .eq x y = BitVec.ofBool (decide (x = y)) := by
    show BitVec.ofBool (x == y) = _
    congr 1
  rw [h1, h2]
  by_cases a : n.val ≤ q.val <;> by_cases b : x = y <;> simp [a, b, IntOp.andi, Scalar.select]

end Cert.ReferenceIdeal.Hand

end

end
-- ==== Proof.ReferenceIdealParts.lean ====
module

public import proofs.«01_k».proof.Proof.ReferenceIdealRead

@[expose] public section

set_option maxRecDepth 16384
set_option maxHeartbeats 4000000

noncomputable section

namespace Cert.ReferenceIdeal.Hand

open Cert.ReferenceIdeal Cert.ReferenceIdeal.Gen Cert.Rows
open Idealize.ShloMosaic

section
variable {F : FTy → Type} [FloatOps F] [Named F]

/-- The scores, scaled and masked. -/
def rS (ks : FVec F S256x1x4096 .f32) (mk : IVec S256x4096x4096 1) (s : FVec F S256x4096x4096 .f32) : FVec F S256x4096x4096 .f32 :=
  select mk (mulf (mulf s (broadcastTo S256x4096x4096 ks broadcasts_S256x1x4096_S256x4096x4096)) (broadcast S256x4096x4096 (Named.named κ "sm_scale" 0x3DB504F3#32)))
    (broadcast S256x4096x4096 (Scalar.ofBits .f32 0xFF800000#32))

/-- Each row's maximum. -/
def rM (S : FVec F S256x4096x4096 .f32) : FVec F S256x4096x1 .f32 :=
  shapeCast S256x4096x1 (multiReduction .maximumf [2] S256x4096 S 0xFF800000#32 reduces_S256x4096x4096_S256x4096 (.inl rfl) rfl) shapeCasts_S256x4096_S256x4096x1

/-- The exponentials. -/
def rE (S : FVec F S256x4096x4096 .f32) (M : FVec F S256x4096x1 .f32) : FVec F S256x4096x4096 .f32 :=
  exp (subf S (broadcastTo S256x4096x4096 M broadcasts_S256x4096x1_S256x4096x4096))

/-- The reciprocal of each row's sum. -/
def rL (E : FVec F S256x4096x4096 .f32) : FVec F S256x4096x1 .f32 :=
  divf (broadcast S256x4096x1 (Scalar.ofBits .f32 0x3F800000#32))
    (shapeCast S256x4096x1 (multiReduction .add [2] S256x4096 E 0x00000000#32 reduces_S256x4096x4096_S256x4096 (.inl rfl) rfl) shapeCasts_S256x4096_S256x4096x1)

/-- The weights, each times its value's scale. -/
def rP (E : FVec F S256x4096x4096 .f32) (L : FVec F S256x4096x1 .f32) (vs : FVec F S256x1x4096 .f32) : FVec F S256x4096x4096 .bf16 :=
  truncf .bf16 (mulf (mulf E (broadcastTo S256x4096x4096 L broadcasts_S256x4096x1_S256x4096x4096)) (broadcastTo S256x4096x4096 vs broadcasts_S256x1x4096_S256x4096x4096)) bitsLt_bf16_f32

/-- The weighted sum of the values. -/
def rO (P : FVec F S256x4096x4096 .bf16) (v : FVec F S256x4096x128 .bf16) : FVec F S256x4096x128 .f32 :=
  matmul dot_S256x4096x4096_S256x4096x128_S256x4096x128_2_1_1_2_0_0 none P v (constant S256x4096x128 .f32 0x00000000#32)

/-- The heads laid side by side. -/
def rF (O : FVec F S256x4096x128 .f32) : FVec F S8x4096x4096 .f32 :=
  shapeCast S8x4096x4096 (transpose S8x4096x32x128 [0, 2, 1, 3] (shapeCast S8x32x4096x128 O shapeCasts_S256x4096x128_S8x32x4096x128) transposes_S8x32x4096x128_p0_2_1_3_S8x4096x32x128) shapeCasts_S8x4096x32x128_S8x4096x4096

theorem pay8_eq (v : FVec F S256x4096x128 .bf16) (ks vs : FVec F S256x1x4096 .f32) (mk : IVec S256x4096x4096 1) (s : FVec F S256x4096x4096 .f32) :
    k0_pay8 v ks vs mk s = rF (rO (rP (rE (rS ks mk s) (rM (rS ks mk s))) (rL (rE (rS ks mk s) (rM (rS ks mk s)))) vs) v) := rfl

end

section
variable (g : Fin 256) (q n : Fin 4096)

theorem rS_at (ks : FVec Ideal S256x1x4096 .f32) (mk : IVec S256x4096x4096 1) (s : FVec Ideal S256x4096x4096 .f32) :
    rS ks mk s (ix3 g q n) = Scalar.select (mk (ix3 g q n)) (s (ix3 g q n) * ks (ix3 g 0 n) * (Named.named κ "sm_scale" 1035273459#32 : Ideal .f32)) (Ideal.ofBits .f32 4286578688#32) := by
  pointwise [rS]

theorem rM_at (S : FVec Ideal S256x4096x4096 .f32) : rM S (ix3 g q 0) = Finset.univ.sup fun n : Fin 4096 => S (ix3 g q n) := by
  obtain ⟨R, hR⟩ : ∃ R : EReal, rM S (ix3 g q 0) = R := ⟨_, rfl⟩
  rewrite [hR]
  pointwise [rM] at hR
  rewrite [← hR, neg_bits]
  rfl

theorem rE_at (S : FVec Ideal S256x4096x4096 .f32) (M : FVec Ideal S256x4096x1 .f32) :
    rE S M (ix3 g q n) = Ideal.exp (S (ix3 g q n) - M (ix3 g q 0)) := by
  pointwise [rE]

theorem rL_at (E : FVec Ideal S256x4096x4096 .f32) : rL E (ix3 g q 0) = Ideal.div 1 (∑ n : Fin 4096, E (ix3 g q n)) := by
  pointwise [rL]

theorem rP_at (E : FVec Ideal S256x4096x4096 .f32) (L : FVec Ideal S256x4096x1 .f32) (vs : FVec Ideal S256x1x4096 .f32) :
    (rP E L vs (ix3 g q n) : EReal) = E (ix3 g q n) * L (ix3 g q 0) * vs (ix3 g 0 n) := by
  pointwise [rP]

theorem rO_at (P : FVec Ideal S256x4096x4096 .bf16) (v : FVec Ideal S256x4096x128 .bf16) (d : Fin 128) :
    rO P v (ix3 g q d) = ∑ n : Fin 4096, (P (ix3 g q n) : EReal) * v (ix3 g n d) := by
  pointwise [rO]

theorem rF_at (O : FVec Ideal S256x4096x128 .f32) (b : Fin 8) (h : Fin 32) (d : Fin 128) :
    rF O (ix3 b q ⟨128 * h.val + d.val, by omega⟩) = O (ix3 ⟨b.val * 32 + h.val, by omega⟩ q d) := by
  pointwise [rF]

end

end Cert.ReferenceIdeal.Hand

end

end
-- ==== Proof.ReferenceIdealRow.lean ====
module

public import proofs.«01_k».proof.Proof.ReferenceIdealParts

@[expose] public section

set_option maxRecDepth 16384
set_option maxHeartbeats 4000000

noncomputable section

namespace Cert.ReferenceIdeal.Hand

open Cert.ReferenceIdeal Cert.ReferenceIdeal.Gen Cert.Rows
open Idealize.ShloMosaic

/-- The attention sum over arbitrary scores, value scales and values. -/
theorem combine (g : Fin 256) (q : Fin 4096) (d : Fin 128) (S : FVec Ideal S256x4096x4096 .f32) (vs : FVec Ideal S256x1x4096 .f32) (v : FVec Ideal S256x4096x128 .bf16)
    (sc w u : Fin 4096 → EReal) (hS : ∀ n, S (ix3 g q n) = sc n) (hw : ∀ n, vs (ix3 g 0 n) = w n) (hu : ∀ n, v (ix3 g n d) = u n) :
    rO (rP (rE S (rM S)) (rL (rE S (rM S))) vs) v (ix3 g q d)
      = ∑ n, u n * w n * (Ideal.exp (sc n - Finset.univ.sup sc) * Ideal.div 1 (∑ k, Ideal.exp (sc k - Finset.univ.sup sc))) := by
  have hM : rM S (ix3 g q 0) = Finset.univ.sup sc := (rM_at g q S).trans (congrArg Finset.univ.sup (funext hS))
  have hE : ∀ n : Fin 4096, rE S (rM S) (ix3 g q n) = Ideal.exp (sc n - Finset.univ.sup sc) := fun n => by
    rewrite [rE_at, hM, hS]
    rfl
  have hL : rL (rE S (rM S)) (ix3 g q 0) = Ideal.div 1 (∑ k, Ideal.exp (sc k - Finset.univ.sup sc)) :=
    (rL_at g q _).trans (congrArg (Ideal.div 1) (Finset.sum_congr rfl fun n _ => hE n))
  revert hE hL
  generalize rE S (rM S) = E
  generalize rL E = L
  intro hE hL
  generalize hc : Finset.univ.sup sc = M at hE hL ⊢
  generalize hD : Ideal.div 1 (∑ k, Ideal.exp (sc k - M)) = Q at hL ⊢
  refine (rO_at g q _ _ d).trans (Finset.sum_congr rfl fun n _ => ?_)
  refine (congrArg₂ (fun x y : EReal => x * y) ((rP_at g q n E L vs).trans (congrArg₂ (fun x y : EReal => x * y) (congrArg₂ (fun x y : EReal => x * y) (hE n) hL) (hw n))) (hu n)).trans ?_
  show Ideal.exp (sc n - M) * Q * w n * u n = u n * w n * (Ideal.exp (sc n - M) * Q)
  generalize Ideal.exp (sc n - M) = e
  rewrite [mul_assoc, mul_comm, mul_comm (w n)]
  rfl

/-- The reference's output at an index. -/
theorem out_at (a0 : Vec Ideal S8x4096x4096 .fp8e4m3) (a1 : Vec Ideal S8x4096x32 .f32) (a2 a3 : Vec Ideal S8x4096x4096 .fp8e4m3) (a4 a5 : Vec Ideal S8x4096x32 .f32) (a6 : Vec Ideal S8x4096 .i32)
    (b : Fin 8) (q j : Fin 4096) :
    k0_pay8 (k0_pay3 a3) (k0_pay4 a4) (k0_pay5 a5) (k0_pay6 (F := Ideal) a6) (k0_pay7 a0 a2 a1) (ix3 b q j) = rrow a0 a1 a2 a3 a4 a5 a6 b q j := by
  obtain ⟨h, d, rfl⟩ : ∃ (h : Fin 32) (d : Fin 128), j = ⟨128 * h.val + d.val, by omega⟩ :=
    ⟨⟨j.val / 128, by omega⟩, ⟨j.val % 128, by omega⟩, Fin.ext (by show j.val = 128 * (j.val / 128) + j.val % 128; omega)⟩
  have hh : (⟨(⟨128 * h.val + d.val, by omega⟩ : Fin 4096).val / 128, by omega⟩ : Fin 32) = h := Fin.ext (by show (128 * h.val + d.val) / 128 = h.val; omega)
  unfold rrow rattn
  rw [hh]
  obtain ⟨g, hg⟩ : ∃ g : Fin 256, g = ⟨b.val * 32 + h.val, by omega⟩ := ⟨_, rfl⟩
  have key : ∀ n : Fin 4096, rS (k0_pay4 a4) (k0_pay6 (F := Ideal) a6) (k0_pay7 a0 a2 a1) (ix3 g q n) = rscore a0 a1 a2 a4 a6 b h q n := fun n => by
    rewrite [rS_at, hg, mask_at, scores_at, kscale_at, neg_bits]
    exact sel_mask q n _ _ _
  have hv' : ∀ n : Fin 4096, k0_pay3 a3 (ix3 g n d) = a3 (ix3 b n (hcol h d)) := fun n => by rewrite [hg, values_at]; rfl
  have hvs' : ∀ n : Fin 4096, k0_pay5 a5 (ix3 g 0 n) = a5 (ix3 b n h) := fun n => by rewrite [hg, vscale_at]; rfl
  rewrite [pay8_eq, rF_at, ← hg]
  exact combine g q d _ _ _ _ (fun n => a5 (ix3 b n h)) (fun n => a3 (ix3 b n (hcol h d))) key hvs' hv'

end Cert.ReferenceIdeal.Hand

end

end
-- ==== Proof.ReferenceIdealCodes.lean ====
module

public import proofs.«01_k».proof.Proof.ReferenceIdealRow

@[expose] public section

set_option maxRecDepth 16384
set_option maxHeartbeats 4000000

noncomputable section

namespace Cert.ReferenceIdeal.Hand

open Cert.ReferenceIdeal Cert.ReferenceIdeal.Gen Cert.Rows
open Idealize.ShloMosaic

/-- A row's largest magnitude. -/
def rowMax {F : FTy → Type} [FloatOps F] [Named F] (O : FVec F S8x4096x4096 .f32) : FVec F S8x4096x1 .f32 :=
  shapeCast S8x4096x1 (multiReduction .maximumf [2] S8x4096 (absf O) 0xFF800000#32 reduces_S8x4096x4096_S8x4096 (.inl rfl) rfl) shapeCasts_S8x4096_S8x4096x1

theorem rowMax_at (O : FVec Ideal S8x4096x4096 .f32) (b : Fin 8) (q : Fin 4096) : rowMax O (ix3 b q 0) = ramax fun j => O (ix3 b q j) := by
  obtain ⟨R, hR⟩ : ∃ R : EReal, rowMax O (ix3 b q 0) = R := ⟨_, rfl⟩
  rewrite [hR]
  pointwise [rowMax] at hR
  rewrite [← hR, neg_bits]
  rfl

/-- The exponent of a magnitude. -/
def expS {F : FTy → Type} [FloatOps F] (x : F .f32) : F .f32 :=
  Scalar.select (FloatOps.cmpf .oeq x (Scalar.ofBits .f32 0x00000000#32)) (Scalar.ofBits .f32 0x00000000#32)
    (FloatOps.minimumf (Scalar.ofBits .f32 0x42FC0000#32) (FloatOps.maximumf (Scalar.ofBits .f32 0xC2FC0000#32)
      (FloatOps.addf (FloatOps.floor (FloatOps.divf (FloatOps.log (FloatOps.mulf x (Scalar.ofBits .f32 0x3B124925#32))) (FloatOps.log (Scalar.ofBits .f32 0x40000000#32)))) (Scalar.ofBits .f32 0x3F800000#32))))

theorem expOf_eq {F : FTy → Type} [FloatOps F] [Named F] (O : FVec F S8x4096x4096 .f32) (i : S8x4096x1.Idx) : expOf O i = expS (rowMax O i) := rfl

theorem one_bits : Ideal.ofBits .f32 0x3F800000#32 = 1 := by
  simp [Ideal.ofBits, Ideal.ieee]
  rw [← EReal.coe_mul]
  norm_num

theorem expS_at (x : EReal) : expS (F := Ideal) x = if x = 0 then 0 else
    min (Ideal.ofBits .f32 1123811328#32) (max (Ideal.ofBits .f32 3271294976#32) (Ideal.liftRound Int.floor (Ideal.div (Ideal.log (x * Ideal.ofBits .f32 991054117#32)) (Ideal.log (Ideal.ofBits .f32 1073741824#32))) + 1)) := by
  have h : expS (F := Ideal) x = if BitVec.ofBool (decide (x = Ideal.ofBits .f32 0#32)) = 1 then Ideal.ofBits .f32 0#32 else
    min (Ideal.ofBits .f32 1123811328#32) (max (Ideal.ofBits .f32 3271294976#32) (Ideal.liftRound Int.floor (Ideal.div (Ideal.log (x * Ideal.ofBits .f32 991054117#32)) (Ideal.log (Ideal.ofBits .f32 1073741824#32))) + Ideal.ofBits .f32 0x3F800000#32)) := rfl
  rewrite [h, one_bits, Ideal.ofBits_zero_f32]
  by_cases hx : x = 0
  · rw [if_pos hx, if_pos (by simp [hx])]
  · rw [if_neg hx, if_neg (by simp [hx])]

theorem expOf_at (O : FVec Ideal S8x4096x4096 .f32) (b : Fin 8) (q : Fin 4096) :
    expOf O (ix3 b q 0) = rexp fun j => O (ix3 b q j) := by
  rewrite [expOf_eq, expS_at, rowMax_at]
  unfold rexp
  rfl

theorem ld0 (x : Vec Ideal S8x4096x4096 .fp8e4m3) : View.ld (Val := Elt Ideal) x r0_0 = x := View.ld_unit_zero (S := S8x4096x4096) hz0 _ x
theorem ld1 (x : Vec Ideal S8x4096x32 .f32) : View.ld (Val := Elt Ideal) x r0_1 = x := View.ld_unit_zero (S := S8x4096x32) hz1 _ x
theorem ld2 (x : Vec Ideal S8x4096 .i32) : View.ld (Val := Elt Ideal) x r0_2 = x := View.ld_unit_zero (S := S8x4096) hz6 _ x

/-- The codes from the output, its exponents and the zero they are taken from. -/
theorem pay1_at (O : FVec Ideal S8x4096x4096 .f32) (e z : FVec Ideal S8x4096x1 .f32) (b : Fin 8) (q j : Fin 4096) :
    (k0_pay1 O e z (ix3 b q j) : EReal) = min (Ideal.ofBits .f32 1138753536#32) (max (Ideal.ofBits .f32 3286237184#32) (O (ix3 b q j) * Ideal.exp2 (z (ix3 b q 0) - e (ix3 b q 0)))) := by
  pointwise [k0_pay1]
  rfl

theorem zero_at (b : Fin 8) (q : Fin 4096) : (k0_pay10 (F := Ideal) (ix3 b q 0) : EReal) = 0 := Ideal.ofBits_zero_f32

section
variable (a0 : Vec Ideal S8x4096x4096 .fp8e4m3) (a1 : Vec Ideal S8x4096x32 .f32) (a2 a3 : Vec Ideal S8x4096x4096 .fp8e4m3) (a4 a5 : Vec Ideal S8x4096x32 .f32) (a6 : Vec Ideal S8x4096 .i32)

theorem pay11_eq : k0_pay11 (F := Ideal) a0 a1 a2 a3 a4 a5 a6 = k0_pay3 a3 := by unfold k0_pay11; rewrite [ld0]; rfl
theorem pay12_eq : k0_pay12 (F := Ideal) a0 a1 a2 a3 a4 a5 a6 = k0_pay4 a4 := by unfold k0_pay12; rewrite [ld1]; rfl
theorem pay13_eq : k0_pay13 (F := Ideal) a0 a1 a2 a3 a4 a5 a6 = k0_pay5 a5 := by unfold k0_pay13; rewrite [ld1]; rfl
theorem pay14_eq : k0_pay14 (F := Ideal) a0 a1 a2 a3 a4 a5 a6 = k0_pay6 (F := Ideal) a6 := by unfold k0_pay14; rewrite [ld2]; rfl
theorem pay15_eq : k0_pay15 (F := Ideal) a0 a1 a2 a3 a4 a5 a6 = k0_pay7 a0 a2 a1 := by unfold k0_pay15; rewrite [ld0, ld0, ld1]; rfl

theorem pay16_at (b : Fin 8) (q : Fin 4096) : k0_pay16 (F := Ideal) a0 a1 a2 a3 a4 a5 a6 (ix3 b q 0) = rexp (rrow a0 a1 a2 a3 a4 a5 a6 b q) := by
  unfold k0_pay16
  rewrite [pay11_eq, pay12_eq, pay13_eq, pay14_eq, pay15_eq, pay9_eq, expOf_at]
  simp only [out_at]

theorem codes_at (b : Fin 8) (q j : Fin 4096) : G7 (F := Ideal) a0 a1 a2 a3 a4 a5 a6 (ix3 b q j)
    = min (Ideal.ofBits .f32 1138753536#32) (max (Ideal.ofBits .f32 3286237184#32) (rrow a0 a1 a2 a3 a4 a5 a6 b q j * Ideal.exp2 (0 - rexp (rrow a0 a1 a2 a3 a4 a5 a6 b q)))) := by
  have h := out_at a0 a1 a2 a3 a4 a5 a6 b q j
  have h16 := pay16_at a0 a1 a2 a3 a4 a5 a6 b q
  unfold G7
  rewrite [pay11_eq, pay12_eq, pay13_eq, pay14_eq, pay15_eq]
  refine (pay1_at _ _ _ b q j).trans ?_
  rewrite [h, h16, zero_at]
  rfl

theorem exp2_at (e : FVec Ideal S8x4096x1 .f32) (i : S8x4096x1.Idx) : k0_pay2 e i = Ideal.exp2 (e i) := rfl

theorem scales_at (b : Fin 8) (q : Fin 4096) : G8 (F := Ideal) a0 a1 a2 a3 a4 a5 a6 (ix3 b q 0)
    = Ideal.exp2 (rexp (rrow a0 a1 a2 a3 a4 a5 a6 b q)) := by
  rewrite [← pay16_at a0 a1 a2 a3 a4 a5 a6 b q]
  unfold G8
  exact exp2_at _ _

end

end Cert.ReferenceIdeal.Hand

end

end
-- ==== Proof.ResultsEqual.lean ====
module

public import proofs.«01_k».proof.Proof.KernelIdealRun
public import proofs.«01_k».proof.Proof.KernelIdealScale
public import proofs.«01_k».proof.Proof.ReferenceIdealCodes

@[expose] public section

noncomputable section

namespace Cert.ResultsEqual

open Cert.Rows Cert.KernelIdeal.Hand
open Idealize.ShloMosaic

variable (m : (ℓ : Loc Cert.KernelIdeal.nD Cert.KernelIdeal.τ Cert.KernelIdeal.sig) → Buf (Elt Ideal) ℓ) (c : Dev Cert.KernelIdeal.nD)

/-- The reference's codes are the kernel's. -/
theorem codes_eq : Cert.ReferenceIdeal.Hand.G7 (F := Ideal) (ar0 m c) (ar1 m c) (ar2 m c) (ar3 m c) (ar4 m c) (ar5 m c) (ar6 m c) = G10 m c := funext fun x => by
  have hx : x = ix3 (x 0) (x 1) (x 2) := by
    funext a
    match a with
    | ⟨0, _⟩ => rfl
    | ⟨1, _⟩ => rfl
    | ⟨2, _⟩ => rfl
  refine (congrArg _ hx).trans ((Cert.ReferenceIdeal.Hand.codes_at _ _ _ _ _ _ _ (x 0) (x 1) (x 2)).trans ?_)
  exact (kcode_eq (orow m c (x 0) (x 1)) (orow m c (x 0) (x 1) (x 2))).symm

/-- The reference's scales are the kernel's. -/
theorem scales_eq : Cert.ReferenceIdeal.Hand.G8 (F := Ideal) (ar0 m c) (ar1 m c) (ar2 m c) (ar3 m c) (ar4 m c) (ar5 m c) (ar6 m c) = G11 m c := funext fun x => by
  have hx : x = ix3 (x 0) (x 1) 0 := by
    have h2 : (x 2).val < 1 := (x 2).isLt
    funext a
    match a with
    | ⟨0, _⟩ => rfl
    | ⟨1, _⟩ => rfl
    | ⟨2, _⟩ => exact Fin.ext (by show (x 2).val = 0; omega)
  refine (congrArg _ hx).trans ((Cert.ReferenceIdeal.Hand.scales_at _ _ _ _ _ _ _ (x 0) (x 1)).trans ?_)
  exact (kscale_eq (orow m c (x 0) (x 1))).symm

end Cert.ResultsEqual

end

end
-- ==== Proof.lean ====
/- The proof of the claim: the frames of the kernel, of the ideal kernel and of the reference, the named constant, and the equality of the results. -/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.ReferenceIdealRun
public import proofs.«01_k».proof.Proof.InOrder
public import proofs.«01_k».proof.Proof.ResultsEqual
public import proofs.«01_k».proof.Proof.Gen.Pre_documents_in_order
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "sm_scale_log2e" .f32 0x3E0293EE#32 (((Real.sqrt 128)⁻¹ * (Real.log 2)⁻¹ : ℝ) : EReal) rfl

theorem algebraic : Cert.algebraic_KernelIdeal_ReferenceIdeal_pre_documents_in_order := by
  intro m g m' g' hpre hargs
  refine ⟨fun c => Cert.KernelIdeal.Hand.G10 m c, fun c => Cert.KernelIdeal.Hand.G11 m c,
    Cert.KernelIdeal.Hand.run m g fun c b j k hjk => Cert.InOrder.mono _ _ _ _ _ _ _ (hpre c) b j k hjk,
    (θ_run _ _ _).mono (fun r h c => ?_) (Cert.ReferenceIdeal.Hand.run m' g')⟩
  obtain ⟨h7, h8, hrest⟩ := h c
  obtain ⟨e0, e1, e2, e3, e4, e5, e6⟩ := hargs c
  rewrite [e0, e1, e2, e3, e4, e5, e6] at h7 h8
  exact ⟨h7.trans (Cert.ResultsEqual.codes_eq m c), h8.trans (Cert.ResultsEqual.scales_eq m c), hrest⟩

theorem claim : Cert.Claim :=
  ⟨Cert.Kernel.Gen.facts, Cert.KernelIdeal.Gen.facts, Cert.ReferenceIdeal.Gen.facts, Cert.Pre_documents_in_order.Gen.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, preserves, algebraic⟩

end Cert.Proof

end

end
